-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v19)) (v5 : (c : Dev Cert.KernelIdeal.nD) → Buf (Elt Ideal) ((c.tc : Thread Cert.KernelIdeal.nD Cert.KernelIdeal.τ).loc Cert.KernelIdeal.main_v22)) (v6 : (c : Dev Cert.KernelIdeal.nD) → Buf (Elt Ideal) ((c.tc : Thread Cert.KernelIdeal.nD Cert.KernelIdeal.τ).loc Cert.KernelIdeal.main_v25)) (v7 : (c : Dev Cert.KernelIdeal.nD) → Buf (Elt Ideal) ((c.tc : Thread Cert.KernelIdeal.nD Cert.KernelIdeal.τ).loc Cert.KernelIdeal.main_v28)) (v8 : (c : Dev Cert.KernelIdeal.nD) → Buf (Elt Ideal) ((c.tc : Thread Cert.KernelIdeal.nD Cert.KernelIdeal.τ).loc Cert.KernelIdeal.main_v31)) (v9 : (c : Dev Cert.KernelIdeal.nD) → Buf (Elt Ideal) ((c.tc : Thread Cert.KernelIdeal.nD Cert.KernelIdeal.τ).loc Cert.KernelIdeal.main_v34)) (v10 : (c : Dev Cert.KernelIdeal.nD) → Buf (Elt Ideal) ((c.tc : Thread Cert.KernelIdeal.nD Cert.KernelIdeal.τ).loc Cert.KernelIdeal.main_v35)) (v11 : (c : Dev Cert.KernelIdeal.nD) → Buf (Elt Ideal) ((c.tc : Thread Cert.KernelIdeal.nD Cert.KernelIdeal.τ).loc Cert.KernelIdeal.main_v36)) (v12 : (c : Dev Cert.KernelIdeal.nD) → Buf (Elt Ideal) ((c.tc : Thread Cert.KernelIdeal.nD Cert.KernelIdeal.τ).loc Cert.KernelIdeal.main_v7_0)) (v13 : (c : Dev Cert.KernelIdeal.nD) → Buf (Elt Ideal) ((c.tc : Thread Cert.KernelIdeal.nD Cert.KernelIdeal.τ).loc Cert.KernelIdeal.main_v37)) (v14 : (c : Dev Cert.KernelIdeal.nD) → Buf (Elt Ideal) ((c.tc : Thread Cert.KernelIdeal.nD Cert.KernelIdeal.τ).loc Cert.KernelIdeal.main_v38)) (v15 : (c : Dev Cert.KernelIdeal.nD) → Buf (Elt Ideal) ((c.tc : Thread Cert.KernelIdeal.nD Cert.KernelIdeal.τ).loc Cert.KernelIdeal.main_v39)) (v16 : (c : Dev Cert.KernelIdeal.nD) → Buf (Elt Ideal) ((c.tc : Thread Cert.KernelIdeal.nD Cert.KernelIdeal.τ).loc Cert.KernelIdeal.main_v9_0)) (v17 : (c : Dev Cert.KernelIdeal.nD) → Buf (Elt Ideal) ((c.tc : Thread Cert.KernelIdeal.nD Cert.KernelIdeal.τ).loc Cert.KernelIdeal.main_v40)) (v18 : (c : Dev Cert.KernelIdeal.nD) → Buf (Elt Ideal) ((c.tc : Thread Cert.KernelIdeal.nD Cert.KernelIdeal.τ).loc Cert.KernelIdeal.main_v41)) (v19 : (c : Dev Cert.KernelIdeal.nD) → Buf (Elt Ideal) ((c.tc : Thread Cert.KernelIdeal.nD Cert.KernelIdeal.τ).loc Cert.KernelIdeal.main_v42)) (v20 : (c : Dev Cert.KernelIdeal.nD) → Buf (Elt Ideal) ((c.tc : Thread Cert.KernelIdeal.nD Cert.KernelIdeal.τ).loc Cert.KernelIdeal.main_v43)) (v21 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_v22) = v5 c
          ∧ r.2.mem ((c.tc : Thread Cert.KernelIdeal.nD Cert.KernelIdeal.τ).loc Cert.KernelIdeal.main_v25) = v6 c
          ∧ r.2.mem ((c.tc : Thread Cert.KernelIdeal.nD Cert.KernelIdeal.τ).loc Cert.KernelIdeal.main_v28) = v7 c
          ∧ r.2.mem ((c.tc : Thread Cert.KernelIdeal.nD Cert.KernelIdeal.τ).loc Cert.KernelIdeal.main_v31) = v8 c
          ∧ r.2.mem ((c.tc : Thread Cert.KernelIdeal.nD Cert.KernelIdeal.τ).loc Cert.KernelIdeal.main_v34) = v9 c
          ∧ r.2.mem ((c.tc : Thread Cert.KernelIdeal.nD Cert.KernelIdeal.τ).loc Cert.KernelIdeal.main_v35) = v10 c
          ∧ r.2.mem ((c.tc : Thread Cert.KernelIdeal.nD Cert.KernelIdeal.τ).loc Cert.KernelIdeal.main_v36) = v11 c
          ∧ r.2.mem ((c.tc : Thread Cert.KernelIdeal.nD Cert.KernelIdeal.τ).loc Cert.KernelIdeal.main_v7_0) = v12 c
          ∧ r.2.mem ((c.tc : Thread Cert.KernelIdeal.nD Cert.KernelIdeal.τ).loc Cert.KernelIdeal.main_v37) = v13 c
          ∧ r.2.mem ((c.tc : Thread Cert.KernelIdeal.nD Cert.KernelIdeal.τ).loc Cert.KernelIdeal.main_v38) = v14 c
          ∧ r.2.mem ((c.tc : Thread Cert.KernelIdeal.nD Cert.KernelIdeal.τ).loc Cert.KernelIdeal.main_v39) = v15 c
          ∧ r.2.mem ((c.tc : Thread Cert.KernelIdeal.nD Cert.KernelIdeal.τ).loc Cert.KernelIdeal.main_v9_0) = v16 c
          ∧ r.2.mem ((c.tc : Thread Cert.KernelIdeal.nD Cert.KernelIdeal.τ).loc Cert.KernelIdeal.main_v40) = v17 c
          ∧ r.2.mem ((c.tc : Thread Cert.KernelIdeal.nD Cert.KernelIdeal.τ).loc Cert.KernelIdeal.main_v41) = v18 c
          ∧ r.2.mem ((c.tc : Thread Cert.KernelIdeal.nD Cert.KernelIdeal.τ).loc Cert.KernelIdeal.main_v42) = v19 c
          ∧ r.2.mem ((c.tc : Thread Cert.KernelIdeal.nD Cert.KernelIdeal.τ).loc Cert.KernelIdeal.main_v43) = v20 c
          ∧ r.2.mem ((c.tc : Thread Cert.KernelIdeal.nD Cert.KernelIdeal.τ).loc Cert.KernelIdeal.main_v44) = v21 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_v19) = v6 c
          ∧ r.2.mem ((c.tc : Thread Cert.ReferenceIdeal.nD Cert.ReferenceIdeal.τ).loc Cert.ReferenceIdeal.main_v22) = v7 c
          ∧ r.2.mem ((c.tc : Thread Cert.ReferenceIdeal.nD Cert.ReferenceIdeal.τ).loc Cert.ReferenceIdeal.main_v25) = v8 c
          ∧ r.2.mem ((c.tc : Thread Cert.ReferenceIdeal.nD Cert.ReferenceIdeal.τ).loc Cert.ReferenceIdeal.main_v28) = v9 c
          ∧ r.2.mem ((c.tc : Thread Cert.ReferenceIdeal.nD Cert.ReferenceIdeal.τ).loc Cert.ReferenceIdeal.main_v29) = v10 c
          ∧ r.2.mem ((c.tc : Thread Cert.ReferenceIdeal.nD Cert.ReferenceIdeal.τ).loc Cert.ReferenceIdeal.main_v30) = v11 c
          ∧ r.2.mem ((c.tc : Thread Cert.ReferenceIdeal.nD Cert.ReferenceIdeal.τ).loc Cert.ReferenceIdeal.main_v8_12) = v12 c
          ∧ r.2.mem ((c.tc : Thread Cert.ReferenceIdeal.nD Cert.ReferenceIdeal.τ).loc Cert.ReferenceIdeal.main_v31) = v13 c
          ∧ r.2.mem ((c.tc : Thread Cert.ReferenceIdeal.nD Cert.ReferenceIdeal.τ).loc Cert.ReferenceIdeal.main_v32) = v14 c
          ∧ r.2.mem ((c.tc : Thread Cert.ReferenceIdeal.nD Cert.ReferenceIdeal.τ).loc Cert.ReferenceIdeal.main_v33) = v15 c
          ∧ r.2.mem ((c.tc : Thread Cert.ReferenceIdeal.nD Cert.ReferenceIdeal.τ).loc Cert.ReferenceIdeal.main_v8_16) = v16 c
          ∧ r.2.mem ((c.tc : Thread Cert.ReferenceIdeal.nD Cert.ReferenceIdeal.τ).loc Cert.ReferenceIdeal.main_v34) = v17 c
          ∧ r.2.mem ((c.tc : Thread Cert.ReferenceIdeal.nD Cert.ReferenceIdeal.τ).loc Cert.ReferenceIdeal.main_v35) = v18 c
          ∧ r.2.mem ((c.tc : Thread Cert.ReferenceIdeal.nD Cert.ReferenceIdeal.τ).loc Cert.ReferenceIdeal.main_v36) = v19 c
          ∧ r.2.mem ((c.tc : Thread Cert.ReferenceIdeal.nD Cert.ReferenceIdeal.τ).loc Cert.ReferenceIdeal.main_v37) = v20 c
          ∧ r.2.mem ((c.tc : Thread Cert.ReferenceIdeal.nD Cert.ReferenceIdeal.τ).loc Cert.ReferenceIdeal.main_v38) = v21 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048x8192 : Shape := ⟨2, ![2048, 8192]⟩
abbrev S8192x2048 : Shape := ⟨2, ![8192, 2048]⟩
abbrev S16 : Shape := ⟨1, ![16]⟩
abbrev S16384x2048 : Shape := ⟨2, ![16384, 2048]⟩
abbrev S1x16 : Shape := ⟨2, ![1, 16]⟩
abbrev S1x1 : Shape := ⟨2, ![1, 1]⟩
abbrev S512x2048 : Shape := ⟨2, ![512, 2048]⟩
abbrev S8x2048 : Shape := ⟨2, ![8, 2048]⟩
abbrev S1 : Shape := ⟨1, ![1]⟩
abbrev S1x253 : Shape := ⟨2, ![1, 253]⟩
abbrev S64x8x2048 : Shape := ⟨3, ![64, 8, 2048]⟩
abbrev S2048 : Shape := ⟨1, ![2048]⟩
abbrev S1x2048 : Shape := ⟨2, ![1, 2048]⟩
abbrev S512x8192 : Shape := ⟨2, ![512, 8192]⟩
abbrev S8x8192 : Shape := ⟨2, ![8, 8192]⟩
abbrev S64x8x8192 : Shape := ⟨3, ![64, 8, 8192]⟩
abbrev S8192 : Shape := ⟨1, ![8192]⟩
abbrev S1x8192 : Shape := ⟨2, ![1, 8192]⟩
abbrev S16384x8192 : Shape := ⟨2, ![16384, 8192]⟩
abbrev S2048x1024 : Shape := ⟨2, ![2048, 1024]⟩
abbrev S1024x2048 : Shape := ⟨2, ![1024, 2048]⟩
abbrev S512x1024 : Shape := ⟨2, ![512, 1024]⟩
abbrev S8x1024 : Shape := ⟨2, ![8, 1024]⟩
abbrev S64x8x1024 : Shape := ⟨3, ![64, 8, 1024]⟩
abbrev S1024 : Shape := ⟨1, ![1024]⟩
abbrev S1x1024 : Shape := ⟨2, ![1, 1024]⟩
abbrev S2048x2048 : Shape := ⟨2, ![2048, 2048]⟩
abbrev S15 : Shape := ⟨1, ![15]⟩
abbrev S_ : Shape := ⟨0, ![]⟩
abbrev S4x4096x8192 : Shape := ⟨3, ![4, 4096, 8192]⟩

abbrev nBuf : Space → Nat
  | .hbm => 70
  | .vmem => 76
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S8192x2048, .f32⟩
  | .hbm, ⟨3, _⟩ => ⟨S4x4096x2048, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16384x2048, .f32⟩
  | .hbm, ⟨11, _⟩ => ⟨S1x16, .f32⟩
  | .hbm, ⟨12, _⟩ => ⟨S16384x2048, .fp8e4m3⟩
  | .hbm, ⟨13, _⟩ => ⟨S1x1, .f32⟩
  | .hbm, ⟨14, _⟩ => ⟨S1x1, .f32⟩
  | .hbm, ⟨15, _⟩ => ⟨S16384x2048, .f32⟩
  | .hbm, ⟨16, _⟩ => ⟨S1x16, .f32⟩
  | .hbm, ⟨17, _⟩ => ⟨S16384x2048, .fp8e5m2⟩
  | .hbm, ⟨18, _⟩ => ⟨S1x1, .f32⟩
  | .hbm, ⟨19, _⟩ => ⟨S1x1, .f32⟩
  | .hbm, ⟨20, _⟩ => ⟨S1x16, .f32⟩
  | .hbm, ⟨21, _⟩ => ⟨S2048x8192, .fp8e4m3⟩
  | .hbm, ⟨22, _⟩ => ⟨S1x1, .f32⟩
  | .hbm, ⟨23, _⟩ => ⟨S1x1, .f32⟩
  | .hbm, ⟨24, _⟩ => ⟨S1x16, .f32⟩
  | .hbm, ⟨25, _⟩ => ⟨S8192x2048, .fp8e4m3⟩
  | .hbm, ⟨26, _⟩ => ⟨S1x1, .f32⟩
  | .hbm, ⟨27, _⟩ => ⟨S1x1, .f32⟩
  | .hbm, ⟨28, _⟩ => ⟨S1x16, .f32⟩
  | .hbm, ⟨29, _⟩ => ⟨S1x16, .f32⟩
  | .hbm, ⟨30, _⟩ => ⟨S16384x8192, .fp8e4m3⟩
  | .hbm, ⟨31, _⟩ => ⟨S16384x8192, .fp8e5m2⟩
  | .hbm, ⟨32, _⟩ => ⟨S16384x2048, .f32⟩
  | .hbm, ⟨33, _⟩ => ⟨S16384x2048, .f32⟩
  | .hbm, ⟨34, _⟩ => ⟨S1x1, .f32⟩
  | .hbm, ⟨35, _⟩ => ⟨S1x1, .f32⟩
  | .hbm, ⟨36, _⟩ => ⟨S1x1, .f32⟩
  | .hbm, ⟨37, _⟩ => ⟨S1x1, .f32⟩
  | .hbm, ⟨38, _⟩ => ⟨S2048x8192, .f32⟩
  | .hbm, ⟨39, _⟩ => ⟨S8192x2048, .f32⟩
  | .hbm, ⟨40, _⟩ => ⟨S4x4096x2048, .f32⟩
  | .hbm, ⟨41, _⟩ => ⟨S4x4096x2048, .f32⟩
  | .hbm, ⟨42, _⟩ => ⟨S15, .f32⟩
  | .hbm, ⟨43, _⟩ => ⟨S1, .f32⟩
  | .hbm, ⟨44, _⟩ => ⟨S16, .f32⟩
  | .hbm, ⟨45, _⟩ => ⟨S15, .f32⟩
  | .hbm, ⟨46, _⟩ => ⟨S1, .f32⟩
  | .hbm, ⟨47, _⟩ => ⟨S16, .f32⟩
  | .hbm, ⟨48, _⟩ => ⟨S15, .f32⟩
  | .hbm, ⟨49, _⟩ => ⟨S1, .f32⟩
  | .hbm, ⟨50, _⟩ => ⟨S16, .f32⟩
  | .hbm, ⟨51, _⟩ => ⟨S15, .f32⟩
  | .hbm, ⟨52, _⟩ => ⟨S1, .f32⟩
  | .hbm, ⟨53, _⟩ => ⟨S16, .f32⟩
  | .hbm, ⟨54, _⟩ => ⟨S15, .f32⟩
  | .hbm, ⟨55, _⟩ => ⟨S1, .f32⟩
  | .hbm, ⟨56, _⟩ => ⟨S16, .f32⟩
  | .hbm, ⟨57, _⟩ => ⟨S15, .f32⟩
  | .hbm, ⟨58, _⟩ => ⟨S1, .f32⟩
  | .hbm, ⟨59, _⟩ => ⟨S16, .f32⟩
  | .hbm, ⟨60, _⟩ => ⟨S4x4096x2048, .fp8e4m3⟩
  | .hbm, ⟨61, _⟩ => ⟨S_, .f32⟩
  | .hbm, ⟨62, _⟩ => ⟨S_, .f32⟩
  | .hbm, ⟨63, _⟩ => ⟨S4x4096x8192, .fp8e4m3⟩
  | .hbm, ⟨64, _⟩ => ⟨S_, .f32⟩
  | .hbm, ⟨65, _⟩ => ⟨S_, .f32⟩
  | .hbm, ⟨66, _⟩ => ⟨S4x4096x2048, .fp8e5m2⟩
  | .hbm, ⟨67, _⟩ => ⟨S_, .f32⟩
  | .hbm, ⟨68, _⟩ => ⟨S4x4096x8192, .fp8e5m2⟩
  | .hbm, ⟨69, _⟩ => ⟨S_, .f32⟩
  | .local _ .vmem, ⟨0, _⟩ => ⟨S1x16, .f32⟩
  | .local _ .vmem, ⟨1, _⟩ => ⟨S512x2048, .f32⟩
  | .local _ .vmem, ⟨2, _⟩ => ⟨S512x2048, .f32⟩
  | .local _ .vmem, ⟨3, _⟩ => ⟨S512x2048, .fp8e4m3⟩
  | .local _ .vmem, ⟨4, _⟩ => ⟨S512x2048, .fp8e4m3⟩
  | .local _ .vmem, ⟨5, _⟩ => ⟨S1x1, .f32⟩
  | .local _ .vmem, ⟨6, _⟩ => ⟨S1x1, .f32⟩
  | .local _ .vmem, ⟨7, _⟩ => ⟨S8x2048, .f32⟩
  | .local _ .vmem, ⟨8, _⟩ => ⟨S1x16, .f32⟩
  | .local _ .vmem, ⟨9, _⟩ => ⟨S512x2048, .f32⟩
  | .local _ .vmem, ⟨10, _⟩ => ⟨S512x2048, .f32⟩
  | .local _ .vmem, ⟨11, _⟩ => ⟨S512x2048, .fp8e5m2⟩
  | .local _ .vmem, ⟨12, _⟩ => ⟨S512x2048, .fp8e5m2⟩
  | .local _ .vmem, ⟨13, _⟩ => ⟨S1x1, .f32⟩
  | .local _ .vmem, ⟨14, _⟩ => ⟨S1x1, .f32⟩
  | .local _ .vmem, ⟨15, _⟩ => ⟨S8x2048, .f32⟩
  | .local _ .vmem, ⟨16, _⟩ => ⟨S1x16, .f32⟩
  | .local _ .vmem, ⟨17, _⟩ => ⟨S512x8192, .f32⟩
  | .local _ .vmem, ⟨18, _⟩ => ⟨S512x8192, .f32⟩
  | .local _ .vmem, ⟨19, _⟩ => ⟨S512x8192, .fp8e4m3⟩
  | .local _ .vmem, ⟨20, _⟩ => ⟨S512x8192, .fp8e4m3⟩
  | .local _ .vmem, ⟨21, _⟩ => ⟨S1x1, .f32⟩
  | .local _ .vmem, ⟨22, _⟩ => ⟨S1x1, .f32⟩
  | .local _ .vmem, ⟨23, _⟩ => ⟨S8x8192, .f32⟩
  | .local _ .vmem, ⟨24, _⟩ => ⟨S1x16, .f32⟩
  | .local _ .vmem, ⟨25, _⟩ => ⟨S512x2048, .f32⟩
  | .local _ .vmem, ⟨26, _⟩ => ⟨S512x2048, .f32⟩
  | .local _ .vmem, ⟨27, _⟩ => ⟨S512x2048, .fp8e4m3⟩
  | .local _ .vmem, ⟨28, _⟩ => ⟨S512x2048, .fp8e4m3⟩
  | .local _ .vmem, ⟨29, _⟩ => ⟨S1x1, .f32⟩
  | .local _ .vmem, ⟨30, _⟩ => ⟨S1x1, .f32⟩
  | .local _ .vmem, ⟨31, _⟩ => ⟨S8x2048, .f32⟩
  | .local _ .vmem, ⟨32, _⟩ => ⟨S1x1, .f32⟩
  | .local _ .vmem, ⟨33, _⟩ => ⟨S1x1, .f32⟩
  | .local _ .vmem, ⟨34, _⟩ => ⟨S1x1, .f32⟩
  | .local _ .vmem, ⟨35, _⟩ => ⟨S1x1, .f32⟩
  | .local _ .vmem, ⟨36, _⟩ => ⟨S1x16, .f32⟩
  | .local _ .vmem, ⟨37, _⟩ => ⟨S1x16, .f32⟩
  | .local _ .vmem, ⟨38, _⟩ => ⟨S512x2048, .fp8e4m3⟩
  | .local _ .vmem, ⟨39, _⟩ => ⟨S512x2048, .fp8e4m3⟩
  | .local _ .vmem, ⟨40, _⟩ => ⟨S512x2048, .fp8e5m2⟩
  | .local _ .vmem, ⟨41, _⟩ => ⟨S512x2048, .fp8e5m2⟩
  | .local _ .vmem, ⟨42, _⟩ => ⟨S2048x1024, .fp8e4m3⟩
  | .local _ .vmem, ⟨43, _⟩ => ⟨S2048x1024, .fp8e4m3⟩
  | .local _ .vmem, ⟨44, _⟩ => ⟨S1024x2048, .fp8e4m3⟩
  | .local _ .vmem, ⟨45, _⟩ => ⟨S1024x2048, .fp8e4m3⟩
  | .local _ .vmem, ⟨46, _⟩ => ⟨S512x1024, .fp8e4m3⟩
  | .local _ .vmem, ⟨47, _⟩ => ⟨S512x1024, .fp8e4m3⟩
  | .local _ .vmem, ⟨48, _⟩ => ⟨S512x1024, .fp8e5m2⟩
  | .local _ .vmem, ⟨49, _⟩ => ⟨S512x1024, .fp8e5m2⟩
  | .local _ .vmem, ⟨50, _⟩ => ⟨S512x2048, .f32⟩
  | .local _ .vmem, ⟨51, _⟩ => ⟨S512x2048, .f32⟩
  | .local _ .vmem, ⟨52, _⟩ => ⟨S512x2048, .f32⟩
  | .local _ .vmem, ⟨53, _⟩ => ⟨S512x2048, .f32⟩
  | .local _ .vmem, ⟨54, _⟩ => ⟨S1x1, .f32⟩
  | .local _ .vmem, ⟨55, _⟩ => ⟨S1x1, .f32⟩
  | .local _ .vmem, ⟨56, _⟩ => ⟨S1x1, .f32⟩
  | .local _ .vmem, ⟨57, _⟩ => ⟨S1x1, .f32⟩
  | .local _ .vmem, ⟨58, _⟩ => ⟨S8x1024, .f32⟩
  | .local _ .vmem, ⟨59, _⟩ => ⟨S8x1024, .f32⟩
  | .local _ .vmem, ⟨60, _⟩ => ⟨S1x1, .f32⟩
  | .local _ .vmem, ⟨61, _⟩ => ⟨S1x1, .f32⟩
  | .local _ .vmem, ⟨62, _⟩ => ⟨S1024x2048, .fp8e4m3⟩
  | .local _ .vmem, ⟨63, _⟩ => ⟨S1024x2048, .fp8e4m3⟩
  | .local _ .vmem, ⟨64, _⟩ => ⟨S1024x2048, .fp8e5m2⟩
  | .local _ .vmem, ⟨65, _⟩ => ⟨S1024x2048, .fp8e5m2⟩
  | .local _ .vmem, ⟨66, _⟩ => ⟨S2048x2048, .f32⟩
  | .local _ .vmem, ⟨67, _⟩ => ⟨S2048x2048, .f32⟩
  | .local _ .vmem, ⟨68, _⟩ => ⟨S1x1, .f32⟩
  | .local _ .vmem, ⟨69, _⟩ => ⟨S1x1, .f32⟩
  | .local _ .vmem, ⟨70, _⟩ => ⟨S1024x2048, .fp8e4m3⟩
  | .local _ .vmem, ⟨71, _⟩ => ⟨S1024x2048, .fp8e4m3⟩
  | .local _ .vmem, ⟨72, _⟩ => ⟨S1024x2048, .fp8e5m2⟩
  | .local _ .vmem, ⟨73, _⟩ => ⟨S1024x2048, .fp8e5m2⟩
  | .local _ .vmem, ⟨74, _⟩ => ⟨S2048x2048, .f32⟩
  | .local _ .vmem, ⟨75, _⟩ => ⟨S2048x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev main_v12_4 : Ref sig .tc := ⟨.hbm, 34, rfl⟩
abbrev main_v12_5 : Ref sig .tc := ⟨.hbm, 35, rfl⟩
abbrev main_v12_6 : Ref sig .tc := ⟨.hbm, 36, rfl⟩
abbrev main_v12_7 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc4_stg7_0 : Ref sig .tc := ⟨.vmem, 40, rfl⟩
abbrev cc4_stg7_1 : Ref sig .tc := ⟨.vmem, 41, rfl⟩
abbrev cc4_stg8_0 : Ref sig .tc := ⟨.vmem, 42, rfl⟩
abbrev cc4_stg8_1 : Ref sig .tc := ⟨.vmem, 43, rfl⟩
abbrev cc4_stg9_0 : Ref sig .tc := ⟨.vmem, 44, rfl⟩
abbrev cc4_stg9_1 : Ref sig .tc := ⟨.vmem, 45, rfl⟩
abbrev cc4_stg10_0 : Ref sig .tc := ⟨.vmem, 46, rfl⟩
abbrev cc4_stg10_1 : Ref sig .tc := ⟨.vmem, 47, rfl⟩
abbrev cc4_stg11_0 : Ref sig .tc := ⟨.vmem, 48, rfl⟩
abbrev cc4_stg11_1 : Ref sig .tc := ⟨.vmem, 49, rfl⟩
abbrev cc4_stg12_0 : Ref sig .tc := ⟨.vmem, 50, rfl⟩
abbrev cc4_stg12_1 : Ref sig .tc := ⟨.vmem, 51, rfl⟩
abbrev cc4_stg13_0 : Ref sig .tc := ⟨.vmem, 52, rfl⟩
abbrev cc4_stg13_1 : Ref sig .tc := ⟨.vmem, 53, rfl⟩
abbrev cc4_stg14_0 : Ref sig .tc := ⟨.vmem, 54, rfl⟩
abbrev cc4_stg15_0 : Ref sig .tc := ⟨.vmem, 55, rfl⟩
abbrev cc4_stg16_0 : Ref sig .tc := ⟨.vmem, 56, rfl⟩
abbrev cc4_stg17_0 : Ref sig .tc := ⟨.vmem, 57, rfl⟩
abbrev cc4_scratch0 : Ref sig .tc := ⟨.vmem, 58, rfl⟩
abbrev cc4_scratch1 : Ref sig .tc := ⟨.vmem, 59, rfl⟩
abbrev cc5_stg0_0 : Ref sig .tc := ⟨.vmem, 60, rfl⟩
abbrev cc5_stg1_0 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc5_stg4_0 : Ref sig .tc := ⟨.vmem, 66, rfl⟩
abbrev cc5_stg4_1 : Ref sig .tc := ⟨.vmem, 67, rfl⟩
abbrev cc6_stg0_0 : Ref sig .tc := ⟨.vmem, 68, rfl⟩
abbrev cc6_stg1_0 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg3_1 : Ref sig .tc := ⟨.vmem, 73, rfl⟩
abbrev cc6_stg4_0 : Ref sig .tc := ⟨.vmem, 74, rfl⟩
abbrev cc6_stg4_1 : Ref sig .tc := ⟨.vmem, 75, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35
abbrev cc4_sem7_0 : DmaSem sig := 36
abbrev cc4_sem7_1 : DmaSem sig := 37
abbrev cc4_sem8_0 : DmaSem sig := 38
abbrev cc4_sem8_1 : DmaSem sig := 39
abbrev cc4_sem9_0 : DmaSem sig := 40
abbrev cc4_sem9_1 : DmaSem sig := 41
abbrev cc4_sem10_0 : DmaSem sig := 42
abbrev cc4_sem10_1 : DmaSem sig := 43
abbrev cc4_sem11_0 : DmaSem sig := 44
abbrev cc4_sem11_1 : DmaSem sig := 45
abbrev cc4_sem12_0 : DmaSem sig := 46
abbrev cc4_sem12_1 : DmaSem sig := 47
abbrev cc4_sem13_0 : DmaSem sig := 48
abbrev cc4_sem13_1 : DmaSem sig := 49
abbrev cc4_sem14_0 : DmaSem sig := 50
abbrev cc4_sem15_0 : DmaSem sig := 51
abbrev cc4_sem16_0 : DmaSem sig := 52
abbrev cc4_sem17_0 : DmaSem sig := 53
abbrev cc5_sem0_0 : DmaSem sig := 54
abbrev cc5_sem1_0 : DmaSem sig := 55
abbrev cc5_sem2_0 : DmaSem sig := 56
abbrev cc5_sem2_1 : DmaSem sig := 57
abbrev cc5_sem3_0 : DmaSem sig := 58
abbrev cc5_sem3_1 : DmaSem sig := 59
abbrev cc5_sem4_0 : DmaSem sig := 60
abbrev cc5_sem4_1 : DmaSem sig := 61
abbrev cc6_sem0_0 : DmaSem sig := 62
abbrev cc6_sem1_0 : DmaSem sig := 63
abbrev cc6_sem2_0 : DmaSem sig := 64
abbrev cc6_sem2_1 : DmaSem sig := 65
abbrev cc6_sem3_0 : DmaSem sig := 66
abbrev cc6_sem3_1 : DmaSem sig := 67
abbrev cc6_sem4_0 : DmaSem sig := 68
abbrev cc6_sem4_1 : DmaSem sig := 69

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c31_i32 : BitVec 32 := 31#32
  let v60 : BitVec 1 := Scalar.cmpi .eq arg0 c31_i32
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def k1_cond1 (i : grid1.Coords) : BitVec 1 :=
  let arg0 : BitVec 32 := BitVec.ofNat 32 (i 0).val
  let c31_i32 : BitVec 32 := 31#32
  let v60 : BitVec 1 := Scalar.cmpi .eq arg0 c31_i32
  let v61 : BitVec 32 := Scalar.extui v60
  let c0_i32_23 : BitVec 32 := 0#32
  let v62 : BitVec 1 := Scalar.cmpi .ne v61 c0_i32_23
  v62

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![4], ![false]⟩

def k2_cond1 (i : grid2.Coords) : BitVec 1 :=
  let arg0 : BitVec 32 := BitVec.ofNat 32 (i 0).val
  let c3_i32 : BitVec 32 := 3#32
  let v59 : BitVec 1 := Scalar.cmpi .eq arg0 c3_i32
  let v60 : BitVec 32 := Scalar.extui v59
  let c0_i32_23 : BitVec 32 := 0#32
  let v61 : BitVec 1 := Scalar.cmpi .ne v60 c0_i32_23
  v61

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x8192 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![16], ![false]⟩

def k3_cond1 (i : grid3.Coords) : BitVec 1 :=
  let arg0 : BitVec 32 := BitVec.ofNat 32 (i 0).val
  let c15_i32 : BitVec 32 := 15#32
  let v59 : BitVec 1 := Scalar.cmpi .eq arg0 c15_i32
  let v60 : BitVec 32 := Scalar.extui v59
  let c0_i32_23 : BitVec 32 := 0#32
  let v61 : BitVec 1 := Scalar.cmpi .ne v60 c0_i32_23
  v61

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x2048 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨2, ![32, 8], ![false, false]⟩

def k4_cond3 (i : grid4.Coords) : BitVec 1 :=
  let arg0 : BitVec 32 := BitVec.ofNat 32 (i 0).val
  let c31_i32 : BitVec 32 := 31#32
  let v174 : BitVec 1 := Scalar.cmpi .eq arg0 c31_i32
  let arg1 : BitVec 32 := BitVec.ofNat 32 (i 1).val
  let c7_i32 : BitVec 32 := 7#32
  let v0 : BitVec 1 := Scalar.cmpi .eq arg1 c7_i32
  let v175 : BitVec 1 := Scalar.andi v174 v0
  let v176 : BitVec 32 := Scalar.extui v175
  let c0_i32_84 : BitVec 32 := 0#32
  let v177 : BitVec 1 := Scalar.cmpi .ne v176 c0_i32_84
  v177

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_11 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_12 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_14 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S512x2048 .fp8e4m3 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev stage4_7 : Fin 2 → Memref sig .tc .vmem S512x2048 .fp8e5m2 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S2048x1024 .fp8e4m3 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![false, true]

abbrev stage4_9 : Fin 2 → Memref sig .tc .vmem S1024x2048 .fp8e4m3 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![false, true]

abbrev stage4_10 : Fin 2 → Memref sig .tc .vmem S512x1024 .fp8e4m3 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, true]

abbrev stage4_11 : Fin 2 → Memref sig .tc .vmem S512x1024 .fp8e5m2 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, true]

abbrev stage4_12 : Fin 2 → Memref sig .tc .vmem S512x2048 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true, false]

abbrev stage4_13 : Fin 2 → Memref sig .tc .vmem S512x2048 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true, false]

abbrev stage4_14 : Fin 1 → Memref sig .tc .vmem S1x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false, false]

abbrev stage4_15 : Fin 1 → Memref sig .tc .vmem S1x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false, false]

abbrev stage4_16 : Fin 1 → Memref sig .tc .vmem S1x1 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false, false]

abbrev stage4_17 : Fin 1 → Memref sig .tc .vmem S1x1 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false, false]

abbrev grid5 : Pipeline.Grid := ⟨3, ![1, 4, 16], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S1x1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false, false]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, false]

abbrev stage5_2 : Fin 2 → Memref sig .tc .vmem S1024x2048 .fp8e4m3 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false, true]

abbrev stage5_3 : Fin 2 → Memref sig .tc .vmem S1024x2048 .fp8e5m2 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, true]

abbrev stage5_4 : Fin 2 → Memref sig .tc .vmem S2048x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

abbrev grid6 : Pipeline.Grid := ⟨3, ![4, 1, 16], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S1x1 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false, false]

abbrev stage6_1 : Fin 1 → Memref sig .tc .vmem S1x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false, false]

abbrev stage6_2 : Fin 2 → Memref sig .tc .vmem S1024x2048 .fp8e4m3 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false, true]

abbrev stage6_3 : Fin 2 → Memref sig .tc .vmem S1024x2048 .fp8e5m2 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true, true]

abbrev stage6_4 : Fin 2 → Memref sig .tc .vmem S2048x2048 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, false]
-- ==== ReferenceIdeal.lean ====
abbrev S4x4096x2048 : Shape := ⟨3, ![4, 4096, 2048]⟩
abbrev S2048x8192 : Shape := ⟨2, ![2048, 8192]⟩
abbrev S8192x2048 : Shape := ⟨2, ![8192, 2048]⟩
abbrev S16 : Shape := ⟨1, ![16]⟩
abbrev S16384x2048 : Shape := ⟨2, ![16384, 2048]⟩
abbrev S1x16 : Shape := ⟨2, ![1, 16]⟩
abbrev S1x1 : Shape := ⟨2, ![1, 1]⟩
abbrev S16384x8192 : Shape := ⟨2, ![16384, 8192]⟩
abbrev S1 : Shape := ⟨1, ![1]⟩
abbrev S16384 : Shape := ⟨1, ![16384]⟩
abbrev S16384x1 : Shape := ⟨2, ![16384, 1]⟩
abbrev S2048 : Shape := ⟨1, ![2048]⟩
abbrev S2048x1 : Shape := ⟨2, ![2048, 1]⟩
abbrev S8192 : Shape := ⟨1, ![8192]⟩
abbrev S8192x1 : Shape := ⟨2, ![8192, 1]⟩
abbrev S15 : Shape := ⟨1, ![15]⟩
abbrev S_ : Shape := ⟨0, ![]⟩
abbrev S4x4096x8192 : Shape := ⟨3, ![4, 4096, 8192]⟩

abbrev nBuf : Space → Nat
  | .hbm => 70
  | .vmem => 32
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S8192x2048, .f32⟩
  | .hbm, ⟨3, _⟩ => ⟨S4x4096x2048, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16384x2048, .f32⟩
  | .hbm, ⟨11, _⟩ => ⟨S16384x2048, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S16384x2048, .f32⟩
  | .hbm, ⟨19, _⟩ => ⟨S16384x2048, .f32⟩
  | .hbm, ⟨20, _⟩ => ⟨S2048x8192, .f32⟩
  | .hbm, ⟨21, _⟩ => ⟨S8192x2048, .f32⟩
  | .hbm, ⟨22, _⟩ => ⟨S1x1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S16384x2048, .fp8e4m3⟩
  | .hbm, ⟨29, _⟩ => ⟨S1x1, .f32⟩
  | .hbm, ⟨30, _⟩ => ⟨S2048x8192, .fp8e4m3⟩
  | .hbm, ⟨31, _⟩ => ⟨S1x1, .f32⟩
  | .hbm, ⟨32, _⟩ => ⟨S16384x8192, .fp8e4m3⟩
  | .hbm, ⟨33, _⟩ => ⟨S1x1, .f32⟩
  | .hbm, ⟨34, _⟩ => ⟨S8192x2048, .fp8e4m3⟩
  | .hbm, ⟨35, _⟩ => ⟨S1x1, .f32⟩
  | .hbm, ⟨36, _⟩ => ⟨S16384x2048, .fp8e5m2⟩
  | .hbm, ⟨37, _⟩ => ⟨S1x1, .f32⟩
  | .hbm, ⟨38, _⟩ => ⟨S16384x8192, .fp8e5m2⟩
  | .hbm, ⟨39, _⟩ => ⟨S1x1, .f32⟩
  | .hbm, ⟨40, _⟩ => ⟨S4x4096x2048, .f32⟩
  | .hbm, ⟨41, _⟩ => ⟨S4x4096x2048, .f32⟩
  | .hbm, ⟨42, _⟩ => ⟨S15, .f32⟩
  | .hbm, ⟨43, _⟩ => ⟨S1, .f32⟩
  | .hbm, ⟨44, _⟩ => ⟨S16, .f32⟩
  | .hbm, ⟨45, _⟩ => ⟨S15, .f32⟩
  | .hbm, ⟨46, _⟩ => ⟨S1, .f32⟩
  | .hbm, ⟨47, _⟩ => ⟨S16, .f32⟩
  | .hbm, ⟨48, _⟩ => ⟨S15, .f32⟩
  | .hbm, ⟨49, _⟩ => ⟨S1, .f32⟩
  | .hbm, ⟨50, _⟩ => ⟨S16, .f32⟩
  | .hbm, ⟨51, _⟩ => ⟨S15, .f32⟩
  | .hbm, ⟨52, _⟩ => ⟨S1, .f32⟩
  | .hbm, ⟨53, _⟩ => ⟨S16, .f32⟩
  | .hbm, ⟨54, _⟩ => ⟨S15, .f32⟩
  | .hbm, ⟨55, _⟩ => ⟨S1, .f32⟩
  | .hbm, ⟨56, _⟩ => ⟨S16, .f32⟩
  | .hbm, ⟨57, _⟩ => ⟨S15, .f32⟩
  | .hbm, ⟨58, _⟩ => ⟨S1, .f32⟩
  | .hbm, ⟨59, _⟩ => ⟨S16, .f32⟩
  | .hbm, ⟨60, _⟩ => ⟨S4x4096x2048, .fp8e4m3⟩
  | .hbm, ⟨61, _⟩ => ⟨S_, .f32⟩
  | .hbm, ⟨62, _⟩ => ⟨S_, .f32⟩
  | .hbm, ⟨63, _⟩ => ⟨S4x4096x8192, .fp8e4m3⟩
  | .hbm, ⟨64, _⟩ => ⟨S_, .f32⟩
  | .hbm, ⟨65, _⟩ => ⟨S_, .f32⟩
  | .hbm, ⟨66, _⟩ => ⟨S4x4096x2048, .fp8e5m2⟩
  | .hbm, ⟨67, _⟩ => ⟨S_, .f32⟩
  | .hbm, ⟨68, _⟩ => ⟨S4x4096x8192, .fp8e5m2⟩
  | .hbm, ⟨69, _⟩ => ⟨S_, .f32⟩
  | .local _ .vmem, ⟨0, _⟩ => ⟨S16384x2048, .f32⟩
  | .local _ .vmem, ⟨1, _⟩ => ⟨S2048x8192, .f32⟩
  | .local _ .vmem, ⟨2, _⟩ => ⟨S8192x2048, .f32⟩
  | .local _ .vmem, ⟨3, _⟩ => ⟨S16384x2048, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S16384x2048, .f32⟩
  | .local _ .vmem, ⟨11, _⟩ => ⟨S16384x2048, .f32⟩
  | .local _ .vmem, ⟨12, _⟩ => ⟨S2048x8192, .f32⟩
  | .local _ .vmem, ⟨13, _⟩ => ⟨S8192x2048, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S1x1, .f32⟩
  | .local _ .vmem, ⟨19, _⟩ => ⟨S1x1, .f32⟩
  | .local _ .vmem, ⟨20, _⟩ => ⟨S16384x2048, .fp8e4m3⟩
  | .local _ .vmem, ⟨21, _⟩ => ⟨S1x1, .f32⟩
  | .local _ .vmem, ⟨22, _⟩ => ⟨S2048x8192, .fp8e4m3⟩
  | .local _ .vmem, ⟨23, _⟩ => ⟨S1x1, .f32⟩
  | .local _ .vmem, ⟨24, _⟩ => ⟨S16384x8192, .fp8e4m3⟩
  | .local _ .vmem, ⟨25, _⟩ => ⟨S1x1, .f32⟩
  | .local _ .vmem, ⟨26, _⟩ => ⟨S8192x2048, .fp8e4m3⟩
  | .local _ .vmem, ⟨27, _⟩ => ⟨S1x1, .f32⟩
  | .local _ .vmem, ⟨28, _⟩ => ⟨S16384x2048, .fp8e5m2⟩
  | .local _ .vmem, ⟨29, _⟩ => ⟨S1x1, .f32⟩
  | .local _ .vmem, ⟨30, _⟩ => ⟨S16384x8192, .fp8e5m2⟩
  | .local _ .vmem, ⟨31, _⟩ => ⟨S1x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev main_v8_8 : Ref sig .tc := ⟨.hbm, 26, rfl⟩
abbrev main_v8_9 : Ref sig .tc := ⟨.hbm, 27, rfl⟩
abbrev main_v8_10 : Ref sig .tc := ⟨.hbm, 28, rfl⟩
abbrev main_v8_11 : Ref sig .tc := ⟨.hbm, 29, rfl⟩
abbrev main_v8_12 : Ref sig .tc := ⟨.hbm, 30, rfl⟩
abbrev main_v8_13 : Ref sig .tc := ⟨.hbm, 31, rfl⟩
abbrev main_v8_14 : Ref sig .tc := ⟨.hbm, 32, rfl⟩
abbrev main_v8_15 : Ref sig .tc := ⟨.hbm, 33, rfl⟩
abbrev main_v8_16 : Ref sig .tc := ⟨.hbm, 34, rfl⟩
abbrev main_v8_17 : Ref sig .tc := ⟨.hbm, 35, rfl⟩
abbrev main_v8_18 : Ref sig .tc := ⟨.hbm, 36, rfl⟩
abbrev main_v8_19 : Ref sig .tc := ⟨.hbm, 37, rfl⟩
abbrev main_v8_20 : Ref sig .tc := ⟨.hbm, 38, rfl⟩
abbrev main_v8_21 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S16384x2048 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2048x8192 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S16384x8192 .fp8e4m3 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S8192x2048 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S16384x2048 .fp8e5m2 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S16384x8192 .fp8e5m2 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
-- ==== Proof.Ref.lean ====
/-
  The reference's one call, run: what each of its outputs holds after the body, the run of the whole reference, and its frame.
-/
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ReferenceIdeal.Ref

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1920000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1920000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_ReferenceIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c))⟩) h

/-! ## The body's accesses -/

abbrev r0_0 : Rect S16384x2048 := Rect.unit (s := S16384x2048) ![0, 0] S16384x2048.size inb_S16384x2048_S16384x2048_0_0
abbrev r0_1 : Rect S2048x8192 := Rect.unit (s := S2048x8192) ![0, 0] S2048x8192.size inb_S2048x8192_S2048x8192_0_0
abbrev r0_2 : Rect S8192x2048 := Rect.unit (s := S8192x2048) ![0, 0] S8192x2048.size inb_S8192x2048_S8192x2048_0_0
abbrev r0_3 : Rect S1x16 := Rect.unit (s := S1x16) ![0, 0] S1x16.size inb_S1x16_S1x16_0_0
abbrev r0_4 : Rect S1x1 := Rect.unit (s := S1x1) ![0, 0] S1x1.size inb_S1x1_S1x1_0_0
abbrev r0_5 : Rect S16384x8192 := Rect.unit (s := S16384x8192) ![0, 0] S16384x8192.size inb_S16384x8192_S16384x8192_0_0

/-! ## What the body leaves in each output window's buffer -/

/-! ### Values of the body that the stores' payloads, spelt out, would write more than once

    Each is a vector the body binds (often a part call's result), stated over the input windows' blocks and
    numbered on from the skeleton's payload functions (`k0_pay41` …, after `k0_pay40`), so that
    `out0_W` and the values after it name it instead of spelling it out ; the comment after each is the printed function's
    name for the value (a count appended where that name is bound again). -/

def k0_pay41 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x2048 .f32 :=
  k0_pay2 (View.ld x3 r0_0) -- `v5`
def k0_pay42 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S1x1 .f32 :=
  k0_pay4 (View.ld x4 r0_3) -- `v33`
def k0_pay43 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x2048 .f32 :=
  k0_pay5 (View.ld x0 r0_0) (View.ld x4 r0_3) -- `v38`
def k0_pay44 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x2048 .fp8e4m3 :=
  k0_pay6 (k0_pay43 x0 x1 x2 x3 x4 x5 x6 x7 x8 x9) (Scalar.ofBits .f32 0xC3E00000#32) -- `v43`
def k0_pay45 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S1x1 .f32 :=
  k0_pay8 (View.ld x5 r0_3) -- `v71`
def k0_pay46 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S2048x8192 .fp8e4m3 :=
  k0_pay9 (View.ld x1 r0_1) (View.ld x5 r0_3) -- `v81`
def k0_pay47 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x8192 .f32 :=
  k0_pay10 (View.ld x1 r0_1) (k0_pay43 x0 x1 x2 x3 x4 x5 x6 x7 x8 x9) (Scalar.ofBits .f32 0xC3E00000#32) (View.ld x5 r0_3) -- `v82`
def k0_pay48 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S1x1 .f32 :=
  k0_pay15 (View.ld x6 r0_3) -- `v121`
def k0_pay49 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x8192 .f32 :=
  k0_pay16 (k0_pay42 x0 x1 x2 x3 x4 x5 x6 x7 x8 x9) (k0_pay45 x0 x1 x2 x3 x4 x5 x6 x7 x8 x9) (k0_pay47 x0 x1 x2 x3 x4 x5 x6 x7 x8 x9) (View.ld x6 r0_3) -- `v126`
def k0_pay50 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x8192 .fp8e4m3 :=
  k0_pay17 (k0_pay49 x0 x1 x2 x3 x4 x5 x6 x7 x8 x9) (Scalar.ofBits .f32 0xC3E00000#32) -- `v131`
def k0_pay51 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S1x1 .f32 :=
  k0_pay19 (View.ld x7 r0_3) -- `v159`
def k0_pay52 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S8192x2048 .fp8e4m3 :=
  k0_pay20 (View.ld x2 r0_2) (View.ld x7 r0_3) -- `v169`
def k0_pay53 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S1x1 .f32 :=
  k0_pay24 (View.ld x8 r0_3) -- `v201`
def k0_pay54 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x2048 .fp8e5m2 :=
  k0_pay25 (k0_pay41 x0 x1 x2 x3 x4 x5 x6 x7 x8 x9) (View.ld x8 r0_3) -- `v211`
def k0_pay55 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x8192 .f32 :=
  k0_pay28 (k0_pay11 (k0_pay42 x0 x1 x2 x3 x4 x5 x6 x7 x8 x9) (k0_pay45 x0 x1 x2 x3 x4 x5 x6 x7 x8 x9) (k0_pay47 x0 x1 x2 x3 x4 x5 x6 x7 x8 x9)) (k0_pay12 (k0_pay42 x0 x1 x2 x3 x4 x5 x6 x7 x8 x9) (k0_pay45 x0 x1 x2 x3 x4 x5 x6 x7 x8 x9) (k0_pay47 x0 x1 x2 x3 x4 x5 x6 x7 x8 x9)) (k0_pay26 (k0_pay41 x0 x1 x2 x3 x4 x5 x6 x7 x8 x9) (k0_pay51 x0 x1 x2 x3 x4 x5 x6 x7 x8 x9) (k0_pay52 x0 x1 x2 x3 x4 x5 x6 x7 x8 x9) (View.ld x8 r0_3)) -- `v228`
def k0_pay56 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S1x1 .f32 :=
  k0_pay30 (View.ld x9 r0_3) -- `v256`
def k0_pay57 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : FVec F S16384x8192 .f32 :=
  k0_pay31 (View.ld x9 r0_3) -- `v260`

/-- Window 10's staging buffer after the body, from the input windows' blocks: its 1 store as pieces, LAST
    FIRST (Lib/Pipeline/FrameBody.lean `View.canon`; the payloads are the skeleton's and the values stated above). -/
def out0_10 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S16384x2048 .f32 :=
  View.canon [⟨r0_0, k0_pay22 (k0_pay48 x0 x1 x2 x3 x4 x5 x6 x7 x8 x9) (k0_pay51 x0 x1 x2 x3 x4 x5 x6 x7 x8 x9) (k0_pay21 (View.ld x2 r0_2) (k0_pay49 x0 x1 x2 x3 x4 x5 x6 x7 x8 x9) (Scalar.ofBits .f32 0xC3E00000#32) (View.ld x7 r0_3))⟩]

/-- Its stores tile the buffer (checked by evaluation), so they cover it. -/
theorem cover0_10 (p0 : Vec F S16384x2048 .f32) (y : S16384x2048.Idx) :
    ∃ pc ∈ ([⟨r0_0, p0⟩] : List (View.Piece (Elt F) S16384x2048 .f32)), y ∈ pc.1.set :=
  View.cover_of_tiled [⟨r0_0, p0⟩] S16384x2048.size (by rfl) y

/-- Window 11's staging buffer after the body, from the input windows' blocks: its 1 store as pieces, LAST
    FIRST (Lib/Pipeline/FrameBody.lean `View.canon`; the payloads are the skeleton's and the values stated above). -/
def out0_11 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S16384x2048 .f32 :=
  View.canon [⟨r0_0, k0_pay33 (k0_pay45 x0 x1 x2 x3 x4 x5 x6 x7 x8 x9) (k0_pay46 x0 x1 x2 x3 x4 x5 x6 x7 x8 x9) (k0_pay55 x0 x1 x2 x3 x4 x5 x6 x7 x8 x9) (k0_pay56 x0 x1 x2 x3 x4 x5 x6 x7 x8 x9) (k0_pay57 x0 x1 x2 x3 x4 x5 x6 x7 x8 x9)⟩]

/-- Its stores tile the buffer (checked by evaluation), so they cover it. -/
theorem cover0_11 (p0 : Vec F S16384x2048 .f32) (y : S16384x2048.Idx) :
    ∃ pc ∈ ([⟨r0_0, p0⟩] : List (View.Piece (Elt F) S16384x2048 .f32)), y ∈ pc.1.set :=
  View.cover_of_tiled [⟨r0_0, p0⟩] S16384x2048.size (by rfl) y

/-- Window 12's staging buffer after the body, from the input windows' blocks: its 1 store as pieces, LAST
    FIRST (Lib/Pipeline/FrameBody.lean `View.canon`; the payloads are the skeleton's and the values stated above). -/
def out0_12 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S2048x8192 .f32 :=
  View.canon [⟨r0_1, k0_pay34 (k0_pay42 x0 x1 x2 x3 x4 x5 x6 x7 x8 x9) (k0_pay44 x0 x1 x2 x3 x4 x5 x6 x7 x8 x9) (k0_pay55 x0 x1 x2 x3 x4 x5 x6 x7 x8 x9) (k0_pay56 x0 x1 x2 x3 x4 x5 x6 x7 x8 x9) (k0_pay57 x0 x1 x2 x3 x4 x5 x6 x7 x8 x9)⟩]

/-- Its stores tile the buffer (checked by evaluation), so they cover it. -/
theorem cover0_12 (p0 : Vec F S2048x8192 .f32) (y : S2048x8192.Idx) :
    ∃ pc ∈ ([⟨r0_1, p0⟩] : List (View.Piece (Elt F) S2048x8192 .f32)), y ∈ pc.1.set :=
  View.cover_of_tiled [⟨r0_1, p0⟩] S2048x8192.size (by rfl) y

/-- Window 13's staging buffer after the body, from the input windows' blocks: its 1 store as pieces, LAST
    FIRST (Lib/Pipeline/FrameBody.lean `View.canon`; the payloads are the skeleton's and the values stated above). -/
def out0_13 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S8192x2048 .f32 :=
  View.canon [⟨r0_2, k0_pay27 (k0_pay48 x0 x1 x2 x3 x4 x5 x6 x7 x8 x9) (k0_pay50 x0 x1 x2 x3 x4 x5 x6 x7 x8 x9) (k0_pay53 x0 x1 x2 x3 x4 x5 x6 x7 x8 x9) (k0_pay54 x0 x1 x2 x3 x4 x5 x6 x7 x8 x9)⟩]

/-- Its stores tile the buffer (checked by evaluation), so they cover it. -/
theorem cover0_13 (p0 : Vec F S8192x2048 .f32) (y : S8192x2048.Idx) :
    ∃ pc ∈ ([⟨r0_2, p0⟩] : List (View.Piece (Elt F) S8192x2048 .f32)), y ∈ pc.1.set :=
  View.cover_of_tiled [⟨r0_2, p0⟩] S8192x2048.size (by rfl) y

/-- Window 14's staging buffer after the body, from the input windows' blocks: its 1 store as pieces, LAST
    FIRST (Lib/Pipeline/FrameBody.lean `View.canon`; the payloads are the skeleton's and the values stated above). -/
def out0_14 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay35 (k0_pay1 (View.ld x0 r0_0))⟩]

/-- Its stores tile the buffer (checked by evaluation), so they cover it. -/
theorem cover0_14 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 15's staging buffer after the body, from the input windows' blocks: its 1 store as pieces, LAST
    FIRST (Lib/Pipeline/FrameBody.lean `View.canon`; the payloads are the skeleton's and the values stated above). -/
def out0_15 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay36 (View.ld x1 r0_1)⟩]

/-- Its stores tile the buffer (checked by evaluation), so they cover it. -/
theorem cover0_15 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 16's staging buffer after the body, from the input windows' blocks: its 1 store as pieces, LAST
    FIRST (Lib/Pipeline/FrameBody.lean `View.canon`; the payloads are the skeleton's and the values stated above). -/
def out0_16 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay37 (k0_pay13 (k0_pay42 x0 x1 x2 x3 x4 x5 x6 x7 x8 x9) (k0_pay45 x0 x1 x2 x3 x4 x5 x6 x7 x8 x9) (k0_pay47 x0 x1 x2 x3 x4 x5 x6 x7 x8 x9))⟩]

/-- Its stores tile the buffer (checked by evaluation), so they cover it. -/
theorem cover0_16 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 17's staging buffer after the body, from the input windows' blocks: its 1 store as pieces, LAST
    FIRST (Lib/Pipeline/FrameBody.lean `View.canon`; the payloads are the skeleton's and the values stated above). -/
def out0_17 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay38 (View.ld x2 r0_2)⟩]

/-- Its stores tile the buffer (checked by evaluation), so they cover it. -/
theorem cover0_17 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 18's staging buffer after the body, from the input windows' blocks: its 1 store as pieces, LAST
    FIRST (Lib/Pipeline/FrameBody.lean `View.canon`; the payloads are the skeleton's and the values stated above). -/
def out0_18 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay39 (k0_pay41 x0 x1 x2 x3 x4 x5 x6 x7 x8 x9)⟩]

/-- Its stores tile the buffer (checked by evaluation), so they cover it. -/
theorem cover0_18 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 19's staging buffer after the body, from the input windows' blocks: its 1 store as pieces, LAST
    FIRST (Lib/Pipeline/FrameBody.lean `View.canon`; the payloads are the skeleton's and the values stated above). -/
def out0_19 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay40 (k0_pay55 x0 x1 x2 x3 x4 x5 x6 x7 x8 x9)⟩]

/-- Its stores tile the buffer (checked by evaluation), so they cover it. -/
theorem cover0_19 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 20's staging buffer after the body, from the input windows' blocks: its 1 store as pieces, LAST
    FIRST (Lib/Pipeline/FrameBody.lean `View.canon`; the payloads are the skeleton's and the values stated above). -/
def out0_20 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S16384x2048 .fp8e4m3 :=
  View.canon [⟨r0_0, k0_pay44 x0 x1 x2 x3 x4 x5 x6 x7 x8 x9⟩]

/-- Its stores tile the buffer (checked by evaluation), so they cover it. -/
theorem cover0_20 (p0 : Vec F S16384x2048 .fp8e4m3) (y : S16384x2048.Idx) :
    ∃ pc ∈ ([⟨r0_0, p0⟩] : List (View.Piece (Elt F) S16384x2048 .fp8e4m3)), y ∈ pc.1.set :=
  View.cover_of_tiled [⟨r0_0, p0⟩] S16384x2048.size (by rfl) y

/-- Window 21's staging buffer after the body, from the input windows' blocks: its 1 store as pieces, LAST
    FIRST (Lib/Pipeline/FrameBody.lean `View.canon`; the payloads are the skeleton's and the values stated above). -/
def out0_21 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay42 x0 x1 x2 x3 x4 x5 x6 x7 x8 x9⟩]

/-- Its stores tile the buffer (checked by evaluation), so they cover it. -/
theorem cover0_21 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 22's staging buffer after the body, from the input windows' blocks: its 1 store as pieces, LAST
    FIRST (Lib/Pipeline/FrameBody.lean `View.canon`; the payloads are the skeleton's and the values stated above). -/
def out0_22 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S2048x8192 .fp8e4m3 :=
  View.canon [⟨r0_1, k0_pay46 x0 x1 x2 x3 x4 x5 x6 x7 x8 x9⟩]

/-- Its stores tile the buffer (checked by evaluation), so they cover it. -/
theorem cover0_22 (p0 : Vec F S2048x8192 .fp8e4m3) (y : S2048x8192.Idx) :
    ∃ pc ∈ ([⟨r0_1, p0⟩] : List (View.Piece (Elt F) S2048x8192 .fp8e4m3)), y ∈ pc.1.set :=
  View.cover_of_tiled [⟨r0_1, p0⟩] S2048x8192.size (by rfl) y

/-- Window 23's staging buffer after the body, from the input windows' blocks: its 1 store as pieces, LAST
    FIRST (Lib/Pipeline/FrameBody.lean `View.canon`; the payloads are the skeleton's and the values stated above). -/
def out0_23 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay45 x0 x1 x2 x3 x4 x5 x6 x7 x8 x9⟩]

/-- Its stores tile the buffer (checked by evaluation), so they cover it. -/
theorem cover0_23 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 24's staging buffer after the body, from the input windows' blocks: its 1 store as pieces, LAST
    FIRST (Lib/Pipeline/FrameBody.lean `View.canon`; the payloads are the skeleton's and the values stated above). -/
def out0_24 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S16384x8192 .fp8e4m3 :=
  View.canon [⟨r0_5, k0_pay50 x0 x1 x2 x3 x4 x5 x6 x7 x8 x9⟩]

/-- Its stores tile the buffer (checked by evaluation), so they cover it. -/
theorem cover0_24 (p0 : Vec F S16384x8192 .fp8e4m3) (y : S16384x8192.Idx) :
    ∃ pc ∈ ([⟨r0_5, p0⟩] : List (View.Piece (Elt F) S16384x8192 .fp8e4m3)), y ∈ pc.1.set :=
  View.cover_of_tiled [⟨r0_5, p0⟩] S16384x8192.size (by rfl) y

/-- Window 25's staging buffer after the body, from the input windows' blocks: its 1 store as pieces, LAST
    FIRST (Lib/Pipeline/FrameBody.lean `View.canon`; the payloads are the skeleton's and the values stated above). -/
def out0_25 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay48 x0 x1 x2 x3 x4 x5 x6 x7 x8 x9⟩]

/-- Its stores tile the buffer (checked by evaluation), so they cover it. -/
theorem cover0_25 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 26's staging buffer after the body, from the input windows' blocks: its 1 store as pieces, LAST
    FIRST (Lib/Pipeline/FrameBody.lean `View.canon`; the payloads are the skeleton's and the values stated above). -/
def out0_26 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S8192x2048 .fp8e4m3 :=
  View.canon [⟨r0_2, k0_pay52 x0 x1 x2 x3 x4 x5 x6 x7 x8 x9⟩]

/-- Its stores tile the buffer (checked by evaluation), so they cover it. -/
theorem cover0_26 (p0 : Vec F S8192x2048 .fp8e4m3) (y : S8192x2048.Idx) :
    ∃ pc ∈ ([⟨r0_2, p0⟩] : List (View.Piece (Elt F) S8192x2048 .fp8e4m3)), y ∈ pc.1.set :=
  View.cover_of_tiled [⟨r0_2, p0⟩] S8192x2048.size (by rfl) y

/-- Window 27's staging buffer after the body, from the input windows' blocks: its 1 store as pieces, LAST
    FIRST (Lib/Pipeline/FrameBody.lean `View.canon`; the payloads are the skeleton's and the values stated above). -/
def out0_27 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay51 x0 x1 x2 x3 x4 x5 x6 x7 x8 x9⟩]

/-- Its stores tile the buffer (checked by evaluation), so they cover it. -/
theorem cover0_27 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 28's staging buffer after the body, from the input windows' blocks: its 1 store as pieces, LAST
    FIRST (Lib/Pipeline/FrameBody.lean `View.canon`; the payloads are the skeleton's and the values stated above). -/
def out0_28 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S16384x2048 .fp8e5m2 :=
  View.canon [⟨r0_0, k0_pay54 x0 x1 x2 x3 x4 x5 x6 x7 x8 x9⟩]

/-- Its stores tile the buffer (checked by evaluation), so they cover it. -/
theorem cover0_28 (p0 : Vec F S16384x2048 .fp8e5m2) (y : S16384x2048.Idx) :
    ∃ pc ∈ ([⟨r0_0, p0⟩] : List (View.Piece (Elt F) S16384x2048 .fp8e5m2)), y ∈ pc.1.set :=
  View.cover_of_tiled [⟨r0_0, p0⟩] S16384x2048.size (by rfl) y

/-- Window 29's staging buffer after the body, from the input windows' blocks: its 1 store as pieces, LAST
    FIRST (Lib/Pipeline/FrameBody.lean `View.canon`; the payloads are the skeleton's and the values stated above). -/
def out0_29 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay53 x0 x1 x2 x3 x4 x5 x6 x7 x8 x9⟩]

/-- Its stores tile the buffer (checked by evaluation), so they cover it. -/
theorem cover0_29 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-- Window 30's staging buffer after the body, from the input windows' blocks: its 1 store as pieces, LAST
    FIRST (Lib/Pipeline/FrameBody.lean `View.canon`; the payloads are the skeleton's and the values stated above). -/
def out0_30 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S16384x8192 .fp8e5m2 :=
  View.canon [⟨r0_5, k0_pay32 (k0_pay55 x0 x1 x2 x3 x4 x5 x6 x7 x8 x9) (k0_pay57 x0 x1 x2 x3 x4 x5 x6 x7 x8 x9)⟩]

/-- Its stores tile the buffer (checked by evaluation), so they cover it. -/
theorem cover0_30 (p0 : Vec F S16384x8192 .fp8e5m2) (y : S16384x8192.Idx) :
    ∃ pc ∈ ([⟨r0_5, p0⟩] : List (View.Piece (Elt F) S16384x8192 .fp8e5m2)), y ∈ pc.1.set :=
  View.cover_of_tiled [⟨r0_5, p0⟩] S16384x8192.size (by rfl) y

/-- Window 31's staging buffer after the body, from the input windows' blocks: its 1 store as pieces, LAST
    FIRST (Lib/Pipeline/FrameBody.lean `View.canon`; the payloads are the skeleton's and the values stated above). -/
def out0_31 (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) : Vec F S1x1 .f32 :=
  View.canon [⟨r0_4, k0_pay56 x0 x1 x2 x3 x4 x5 x6 x7 x8 x9⟩]

/-- Its stores tile the buffer (checked by evaluation), so they cover it. -/
theorem cover0_31 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S16384x2048 .f32) (harg0 : arg0.IsWhole) (arg1 : Memref sig .tc .vmem S2048x8192 .f32) (harg1 : arg1.IsWhole) (arg2 : Memref sig .tc .vmem S8192x2048 .f32) (harg2 : arg2.IsWhole) (arg3 : Memref sig .tc .vmem S16384x2048 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S16384x2048 .f32) (harg10 : arg10.IsWhole) (arg11 : Memref sig .tc .vmem S16384x2048 .f32) (harg11 : arg11.IsWhole) (arg12 : Memref sig .tc .vmem S2048x8192 .f32) (harg12 : arg12.IsWhole) (arg13 : Memref sig .tc .vmem S8192x2048 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S16384x2048 .fp8e4m3) (harg20 : arg20.IsWhole) (arg21 : Memref sig .tc .vmem S1x1 .f32) (harg21 : arg21.IsWhole) (arg22 : Memref sig .tc .vmem S2048x8192 .fp8e4m3) (harg22 : arg22.IsWhole) (arg23 : Memref sig .tc .vmem S1x1 .f32) (harg23 : arg23.IsWhole) (arg24 : Memref sig .tc .vmem S16384x8192 .fp8e4m3) (harg24 : arg24.IsWhole) (arg25 : Memref sig .tc .vmem S1x1 .f32) (harg25 : arg25.IsWhole) (arg26 : Memref sig .tc .vmem S8192x2048 .fp8e4m3) (harg26 : arg26.IsWhole) (arg27 : Memref sig .tc .vmem S1x1 .f32) (harg27 : arg27.IsWhole) (arg28 : Memref sig .tc .vmem S16384x2048 .fp8e5m2) (harg28 : arg28.IsWhole) (arg29 : Memref sig .tc .vmem S1x1 .f32) (harg29 : arg29.IsWhole) (arg30 : Memref sig .tc .vmem S16384x8192 .fp8e5m2) (harg30 : arg30.IsWhole) (arg31 : Memref sig .tc .vmem S1x1 .f32) (harg31 : arg31.IsWhole)
    (x0 : Vec F S16384x2048 .f32) (x1 : Vec F S2048x8192 .f32) (x2 : Vec F S8192x2048 .f32) (x3 : Vec F S16384x2048 .f32) (x4 : Vec F S1x16 .f32) (x5 : Vec F S1x16 .f32) (x6 : Vec F S1x16 .f32) (x7 : Vec F S1x16 .f32) (x8 : Vec F S1x16 .f32) (x9 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out0_10 x0 x1 x2 x3 x4 x5 x6 x7 x8 x9) ∗ owns (c : Thread nD τ) arg11 fullShare (out0_11 x0 x1 x2 x3 x4 x5 x6 x7 x8 x9) ∗ owns (c : Thread nD τ) arg12 fullShare (out0_12 x0 x1 x2 x3 x4 x5 x6 x7 x8 x9) ∗ owns (c : Thread nD τ) arg13 fullShare (out0_13 x0 x1 x2 x3 x4 x5 x6 x7 x8 x9) ∗ owns (c : Thread nD τ) arg14 fullShare (out0_14 x0 x1 x2 x3 x4 x5 x6 x7 x8 x9) ∗ owns (c : Thread nD τ) arg15 fullShare (out0_15 x0 x1 x2 x3 x4 x5 x6 x7 x8 x9) ∗ owns (c : Thread nD τ) arg16 fullShare (out0_16 x0 x1 x2 x3 x4 x5 x6 x7 x8 x9) ∗ owns (c : Thread nD τ) arg17 fullShare (out0_17 x0 x1 x2 x3 x4 x5 x6 x7 x8 x9) ∗ owns (c : Thread nD τ) arg18 fullShare (out0_18 x0 x1 x2 x3 x4 x5 x6 x7 x8 x9) ∗ owns (c : Thread nD τ) arg19 fullShare (out0_19 x0 x1 x2 x3 x4 x5 x6 x7 x8 x9) ∗ owns (c : Thread nD τ) arg20 fullShare (out0_20 x0 x1 x2 x3 x4 x5 x6 x7 x8 x9) ∗ owns (c : Thread nD τ) arg21 fullShare (out0_21 x0 x1 x2 x3 x4 x5 x6 x7 x8 x9) ∗ owns (c : Thread nD τ) arg22 fullShare (out0_22 x0 x1 x2 x3 x4 x5 x6 x7 x8 x9) ∗ owns (c : Thread nD τ) arg23 fullShare (out0_23 x0 x1 x2 x3 x4 x5 x6 x7 x8 x9) ∗ owns (c : Thread nD τ) arg24 fullShare (out0_24 x0 x1 x2 x3 x4 x5 x6 x7 x8 x9) ∗ owns (c : Thread nD τ) arg25 fullShare (out0_25 x0 x1 x2 x3 x4 x5 x6 x7 x8 x9) ∗ owns (c : Thread nD τ) arg26 fullShare (out0_26 x0 x1 x2 x3 x4 x5 x6 x7 x8 x9) ∗ owns (c : Thread nD τ) arg27 fullShare (out0_27 x0 x1 x2 x3 x4 x5 x6 x7 x8 x9) ∗ owns (c : Thread nD τ) arg28 fullShare (out0_28 x0 x1 x2 x3 x4 x5 x6 x7 x8 x9) ∗ owns (c : Thread nD τ) arg29 fullShare (out0_29 x0 x1 x2 x3 x4 x5 x6 x7 x8 x9) ∗ owns (c : Thread nD τ) arg30 fullShare (out0_30 x0 x1 x2 x3 x4 x5 x6 x7 x8 x9) ∗ owns (c : Thread nD τ) arg31 fullShare (out0_31 x0 x1 x2 x3 x4 x5 x6 x7 x8 x9)) -∗ K ⟨⟩))
      ⊢ wp frame (wpE (defs₀ (F := F)) Variants.none c none) E (cc0__reference_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0__reference_body_eq_skeleton]; unfold cc0__reference_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  iexists _; isplitr
  swap; · iexact H31
  ipureintro
  refine (View.read_writes_eq_canon _ _ _ (cover0_31 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t)
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The reference runs, its arguments end unchanged and every counter ends at zero, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.ReferenceIdeal.Ref

end
-- ==== Proof.QuantX.lean ====
/-
  The quantising call of the activations `x` (the first of the seven calls), at any float instance.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.QuantX

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's run. -/
abbrev MM (F : FTy → Type) : Type := MT nD τ sig Unit (Elt F) ℕ (UR sig nD τ) ℕ

/-- At a point that is not the last the body stores the codes and the running maximum. -/
theorem run_mid (c : Dev nD) (i : grid0.Coords) (a1 : Memref sig .tc .vmem S1x16 .f32) (h1 : a1.IsWhole) (a2 : Memref sig .tc .vmem S512x2048 .f32) (h2 : a2.IsWhole)
    (a3 : Memref sig .tc .vmem S512x2048 .fp8e4m3) (h3 : a3.IsWhole) (a4 : Memref sig .tc .vmem S1x1 .f32) (h4 : a4.IsWhole) (a5 : Memref sig .tc .vmem S1x1 .f32) (h5 : a5.IsWhole)
    (a6 : Memref sig .tc .vmem S8x2048 .f32) (h6 : a6.IsWhole) (hc : ¬ k0_cond1 i = 1#1)
    (x0 : Vec F S1x16 .f32) (x1 : Vec F S512x2048 .f32) (w : Vec F S8x2048 .f32) (E : Set ℕ) (K : PUnit → sProp (MM F)) :
    iprop(owns (c : Thread nD τ) a1 fullShare x0 ∗ owns (c : Thread nD τ) a2 fullShare x1 ∗ (∃ d, owns (c : Thread nD τ) a3 fullShare d) ∗ owns (c : Thread nD τ) a6 fullShare w
        ∗ (iprop(owns (c : Thread nD τ) a1 fullShare x0 ∗ owns (c : Thread nD τ) a2 fullShare x1 ∗ owns (c : Thread nD τ) a3 fullShare (k0_pay2 (k0_pay7 x0) x1)
            ∗ owns (c : Thread nD τ) a6 fullShare (k0_pay3 (BitVec.ofNat 32 (i 0).val) x1 w)) -∗ K ⟨⟩))
      ⊢ wp frame (wpE (defs₀ (F := F)) Variants.none c none) E (cc0_quant_x i a1 h1 a2 h2 a3 h3 a4 h4 a5 h5 a6 h6) K := by
  simp only [cc0_quant_x_eq_skeleton]; unfold cc0_quant_x_skel
  simp only [k0_part1_eq_skeleton]
  unfold owns
  iintro ⟨⟨%f0, %hf0, H0⟩, ⟨%f1, %hf1, H1⟩, ⟨%d2, %f2, -, H2⟩, ⟨%fs0, %hfs0, HS0⟩, Hk⟩
  obtain rfl := h1.eq_unread hf0; obtain rfl := h2.eq_unread hf1; obtain rfl := h6.eq_unread hfs0
  sl_exec (disch := sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; delta run_mid.sl.r_1; rw [View.read_writes_full]; repeat rw [View.readAt_full]
    simp only [Memref.IsWhole.read_unread]
  iexists _; isplitr; swap; · iexact HS0
  ipureintro; rw [View.read_writes_full]; repeat rw [View.readAt_full]
  simp only [Memref.IsWhole.read_unread]

/-- At the last point the body stores, besides, the scale and the maximum of the running maxima. -/
theorem run_last (c : Dev nD) (i : grid0.Coords) (a1 : Memref sig .tc .vmem S1x16 .f32) (h1 : a1.IsWhole) (a2 : Memref sig .tc .vmem S512x2048 .f32) (h2 : a2.IsWhole)
    (a3 : Memref sig .tc .vmem S512x2048 .fp8e4m3) (h3 : a3.IsWhole) (a4 : Memref sig .tc .vmem S1x1 .f32) (h4 : a4.IsWhole) (a5 : Memref sig .tc .vmem S1x1 .f32) (h5 : a5.IsWhole)
    (a6 : Memref sig .tc .vmem S8x2048 .f32) (h6 : a6.IsWhole) (hc : k0_cond1 i = 1#1)
    (x0 : Vec F S1x16 .f32) (x1 : Vec F S512x2048 .f32) (w : Vec F S8x2048 .f32) (E : Set ℕ) (K : PUnit → sProp (MM F)) :
    iprop(owns (c : Thread nD τ) a1 fullShare x0 ∗ owns (c : Thread nD τ) a2 fullShare x1 ∗ (∃ d, owns (c : Thread nD τ) a3 fullShare d)
        ∗ (∃ d, owns (c : Thread nD τ) a4 fullShare d) ∗ (∃ d, owns (c : Thread nD τ) a5 fullShare d) ∗ owns (c : Thread nD τ) a6 fullShare w
        ∗ (iprop(owns (c : Thread nD τ) a1 fullShare x0 ∗ owns (c : Thread nD τ) a2 fullShare x1 ∗ owns (c : Thread nD τ) a3 fullShare (k0_pay2 (k0_pay7 x0) x1)
            ∗ owns (c : Thread nD τ) a4 fullShare (k0_pay6 x0) ∗ owns (c : Thread nD τ) a5 fullShare (k0_pay4 (k0_pay3 (BitVec.ofNat 32 (i 0).val) x1 w))
            ∗ owns (c : Thread nD τ) a6 fullShare (k0_pay3 (BitVec.ofNat 32 (i 0).val) x1 w)) -∗ K ⟨⟩))
      ⊢ wp frame (wpE (defs₀ (F := F)) Variants.none c none) E (cc0_quant_x i a1 h1 a2 h2 a3 h3 a4 h4 a5 h5 a6 h6) K := by
  simp only [cc0_quant_x_eq_skeleton]; unfold cc0_quant_x_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
  obtain rfl := h1.eq_unread hf0; obtain rfl := h2.eq_unread hf1; obtain rfl := h6.eq_unread hfs0
  sl_exec (disch := sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; (try delta run_last.sl.r_1); (try delta run_last.sl.r); rw [View.read_writes_full]; repeat rw [View.readAt_full]
    simp only [Memref.IsWhole.read_unread]
  isplitl [H3]
  · iexists _; isplitr; swap; · iexact H3
    ipureintro; (try delta run_last.sl.r_1); (try delta run_last.sl.r); rw [View.read_writes_full]; repeat rw [View.readAt_full]
    simp only [Memref.IsWhole.read_unread]
  isplitl [H4]
  · iexists _; isplitr; swap; · iexact H4
    ipureintro; (try delta run_last.sl.v64); (try delta run_last.sl.HS0_1); rw [View.read_writes_full, View.readCov_full]; repeat rw [View.readAt_full]
    simp only [Memref.IsWhole.read_unread]
  iexists _; isplitr; swap; · iexact HS0
  ipureintro; (try delta run_last.sl.v64); (try delta run_last.sl.HS0_1); rw [View.read_writes_full]; repeat rw [View.readAt_full]
  simp only [Memref.IsWhole.read_unread]

/-! ## The proof data -/

variable (V : Dev nD → Valuation τ sig (Elt F))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The running maximum after point `n`: the block's own at the first point, then the larger of that and the one before. -/
def acc (c : Dev nD) : (n : ℕ) → n < cfg0.N → Vec F S8x2048 .f32
  | 0, hn => k0_pay3 (BitVec.ofNat 32 (grid0.coords ⟨0, hn⟩ 0).val) (blk V c 1 ⟨0, hn⟩) (fun _ => Scalar.ofBits .f32 0#32)
  | n + 1, hn => k0_pay3 (BitVec.ofNat 32 (grid0.coords ⟨n + 1, hn⟩ 0).val) (blk V c 1 ⟨n + 1, hn⟩) (acc c n (Nat.lt_of_succ_lt hn))

/-- The new running maximum from any old one that the invariant admits. -/
theorem acc_step (c : Dev nD) (t : Fin cfg0.N) (d : Vec F S8x2048 .f32) (hd : ∀ h : t.val - 1 < cfg0.N, t.val ≠ 0 → d = acc V c (t.val - 1) h) :
    k0_pay3 (BitVec.ofNat 32 (grid0.coords t 0).val) (blk V c 1 t) d = acc V c t.val t.isLt := by
  obtain ⟨n, hn⟩ := t
  cases n with
  | zero =>
    have e : (grid0.coords ⟨0, hn⟩ 0).val = 0 / 1 % 32 := Pipeline.Grid.coords_val (G := grid0) ⟨0, hn⟩ 0 (by decide) rfl
    unfold acc; rw [e]; rfl
  | succ n => rw [hd (Nat.lt_of_succ_lt hn) (Nat.succ_ne_zero n)]; rfl

abbrev scr : Memref sig .tc .vmem S8x2048 .f32 := Memref.whole cc0_scratch0

/-- Before point `n` the scratch holds the running maximum after point `n - 1` (anything before the first). -/
def Phi (c : Dev nD) (n : ℕ) : sProp (MM F) :=
  iprop((∃ d, ⌜∀ h : n - 1 < cfg0.N, n ≠ 0 → d = acc V c (n - 1) h⌝ ∗ owns (c : Thread nD τ) scr fullShare d)
    ∗ Pipeline.scopedRestBut (Ix := Unit) (Name := ℕ) (U := UR sig nD τ) (Lvl := ℕ) (Val := Elt F) spec0 c [cc0_scratch0] ∗ ∃ r, prngReg c r)

/-- What each window holds after each point. -/
def dat (c : Dev nD) : Dat τ (Elt F) Unit ℕ (UR sig nD τ) ℕ cfg0 c where
  A w := V c (Proc.devRef .tc (Pipeline.arrRef spec0 w))
  after w t := match w with
    | ⟨0, _⟩ => blk V c 0 t
    | ⟨1, _⟩ => blk V c 1 t
    | ⟨2, _⟩ => k0_pay2 (k0_pay7 (blk V c 0 t)) (blk V c 1 t)
    | ⟨3, _⟩ => k0_pay6 (blk V c 0 t)
    | ⟨4, _⟩ => k0_pay4 (acc V c t.val t.isLt)
  Φ t := Phi V c t.val
  q _ := fullShare
  owed _ := 0

theorem A_eq (c : Dev nD) (w : Fin cfg0.W) : (dat V c).A w = V c (Proc.devRef .tc (Pipeline.arrRef spec0 w)) := by dsimp only [dat]
theorem Phi_castSucc (c : Dev nD) (t : Fin cfg0.N) : (dat V c).Φ t.castSucc = Phi V c t.val := by
  dsimp only [dat]; exact Pipeline.Dat.Φ_castSucc (fun n _ => Phi V c n) t
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = k0_pay2 (k0_pay7 (blk V c 0 t)) (blk V c 1 t) := by dsimp only [dat]
theorem after_3 (c : Dev nD) (t : Fin cfg0.N) : (dat V c).after 3 t = k0_pay6 (blk V c 0 t) := by dsimp only [dat]
theorem after_4 (c : Dev nD) (t : Fin cfg0.N) : (dat V c).after 4 t = k0_pay4 (acc V c t.val t.isLt) := by dsimp only [dat]

/-- An input window's staging buffer holds the window's block at every point. -/
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)

/-! ## The body at a point -/

/-- The last point's condition, by the point's position. -/
theorem cond_last : ∀ t : Fin cfg0.N, (k0_cond1 (grid0.coords t) = 1#1) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [k0_cond1, e0]; word_cmp : ∀ t : Fin grid0.N, (k0_cond1 (grid0.coords t) = 1#1) ↔ t.val % 32 = 31)

def pre (c : Dev nD) (t : Fin cfg0.N) : sProp (MM F) :=
  iprop((dat V c).Φ t.castSucc ∗ (dat V c).owesAt () t.castSucc
    ∗ (∃ d, owns (c : Thread nD τ) (st0_0 t) fullShare ((dat V c).before 0 t d)) ∗ (∃ d, owns (c : Thread nD τ) (st0_1 t) fullShare ((dat V c).before 1 t d))
    ∗ (∃ d, owns (c : Thread nD τ) (st0_2 t) fullShare ((dat V c).before 2 t d)) ∗ (∃ d, owns (c : Thread nD τ) (st0_3 t) fullShare ((dat V c).before 3 t d))
    ∗ (∃ d, owns (c : Thread nD τ) (st0_4 t) fullShare ((dat V c).before 4 t d)))
def post (c : Dev nD) (t : Fin cfg0.N) : sProp (MM F) :=
  iprop((dat V c).Φ t.succ ∗ (dat V c).owesAt () t.succ ∗ (dat V c).leavesExact 0 t ∗ (dat V c).leavesExact 1 t ∗ (dat V c).leavesExact 2 t
    ∗ (dat V c).leavesExact 3 t ∗ (dat V c).leavesExact 4 t)

/-- The body at any point takes `pre` to `post`. -/
theorem sound (c : Dev nD) (t : Fin cfg0.N) :
    pre V c t ⊢ wp frame (wpE (defs₀ (F := F)) Variants.none c none) Set.univ (bodyAt0 t) (fun _ => post V c t) := by
  unfold pre post bodyAt0
  simp only [before_0, before_1]
  rw [show (dat V c).owesAt () t.succ = (dat V c).owesAt () t.castSucc from rfl, show (dat V c).Φ t.succ = Phi V c (t.val + 1) from rfl, Phi_castSucc]
  unfold Phi
  rw [show (dat V c).leavesExact 0 t = owns (c : Thread nD τ) (st0_0 t) fullShare ((dat V c).after 0 t) from rfl,
    show (dat V c).leavesExact 1 t = owns (c : Thread nD τ) (st0_1 t) fullShare ((dat V c).after 1 t) from rfl,
    show (dat V c).leavesExact 2 t = owns (c : Thread nD τ) (st0_2 t) fullShare ((dat V c).after 2 t) from rfl, after_0, after_1, after_2]
  by_cases h1 : t.val % 32 = 31
  · have hc := (cond_last t).mpr h1
    have hi3 : cfg0.idle 3 (cfg0.grid.coords t) = false := by show (!(k0_cond1 (grid0.coords t) == 1#1)) = false; rw [hc]; rfl
    have hi4 : cfg0.idle 4 (cfg0.grid.coords t) = false := by show (!(k0_cond1 (grid0.coords t) == 1#1)) = false; rw [hc]; rfl
    rw [show (dat V c).leavesExact 3 t = owns (c : Thread nD τ) (st0_3 t) fullShare ((dat V c).after 3 t) from by unfold Dat.leavesExact; rw [hi3],
      show (dat V c).leavesExact 4 t = owns (c : Thread nD τ) (st0_4 t) fullShare ((dat V c).after 4 t) from by unfold Dat.leavesExact; rw [hi4], after_3, after_4]
    iintro ⟨⟨⟨%w, %hw, HS⟩, Hr⟩, Ho, ⟨%d0, H0⟩, ⟨%d1, H1⟩, ⟨%d2, H2⟩, ⟨%d3, H3⟩, ⟨%d4, H4⟩⟩
    rw [← acc_step V c t w hw]
    iapply (run_last c (grid0.coords t) _ _ _ _ _ _ _ _ _ _ _ (Memref.isWhole_whole _) hc (blk V c 0 t) (blk V c 1 t) w Set.univ _)
    isplitl [H0]; · iexact H0
    isplitl [H1]; · iexact H1
    isplitl [H2]; · iexists _; iexact H2
    isplitl [H3]; · iexists _; iexact H3
    isplitl [H4]; · iexists _; iexact H4
    isplitl [HS]; · iexact HS
    iintro ⟨H0, H1, H2, H3, H4, HS⟩
    isplitl [HS Hr]
    · isplitl [HS]
      · iexists _; isplitr; swap; · iexact HS
        ipureintro; intro _ _; exact acc_step V c t w hw
      iexact Hr
    isplitl [Ho]; · iexact Ho
    isplitl [H0]; · iexact H0
    isplitl [H1]; · iexact H1
    isplitl [H2]; · iexact H2
    isplitl [H3]; · iexact H3
    iexact H4
  · have hc : ¬ k0_cond1 (grid0.coords t) = 1#1 := fun h => h1 ((cond_last t).mp h)
    have hb : (k0_cond1 (grid0.coords t) == 1#1) = false := beq_eq_false_iff_ne.mpr hc
    have hi3 : cfg0.idle 3 (cfg0.grid.coords t) = true := by show (!(k0_cond1 (grid0.coords t) == 1#1)) = true; rw [hb]; rfl
    have hi4 : cfg0.idle 4 (cfg0.grid.coords t) = true := by show (!(k0_cond1 (grid0.coords t) == 1#1)) = true; rw [hb]; rfl
    have hf3 : (cfg0.win 3).flush t = false := Bool.eq_false_iff.mpr fun h => h1 ((flush0_3 t).mp h)
    have hf4 : (cfg0.win 4).flush t = false := Bool.eq_false_iff.mpr fun h => h1 ((flush0_4 t).mp h)
    rw [(dat V c).leavesExact_idle 3 t hi3 hf3, (dat V c).leavesExact_idle 4 t hi4 hf4]
    iintro ⟨⟨⟨%w, %hw, HS⟩, Hr⟩, Ho, ⟨%d0, H0⟩, ⟨%d1, H1⟩, ⟨%d2, H2⟩, H3, H4⟩
    iapply (run_mid c (grid0.coords t) _ _ _ _ _ _ _ _ _ _ _ (Memref.isWhole_whole _) hc (blk V c 0 t) (blk V c 1 t) w Set.univ _)
    isplitl [H0]; · iexact H0
    isplitl [H1]; · iexact H1
    isplitl [H2]; · iexists _; iexact H2
    isplitl [HS]; · iexact HS
    iintro ⟨H0, H1, H2, HS⟩
    isplitl [HS Hr]
    · isplitl [HS]
      · iexists _; isplitr; swap; · iexact HS
        ipureintro; intro _ _; exact acc_step V c t w hw
      iexact Hr
    isplitl [Ho]; · iexact Ho
    isplitl [H0]; · iexact H0
    isplitl [H1]; · iexact H1
    isplitl [H2]; · iexact H2
    isplitl [H3]; · iexact H3
    iexact H4

theorem row (t : Fin cfg0.N) : (defs₀ (F := F)) .tc cfg0.body (cfg0.bodyArgs t (cfg0.slots t)) = bodyAt0 t := by
  unfold defs₀; rw [Defs.onTc_tc]

/-- The body meets the pipeline's obligation at every point. -/
theorem obligation (c : Dev nD) : BodyObligation (dat V c) (defs₀ (F := F)) Variants.none () Set.univ := fun t => by
  rw [bigSep_W0, bigSep_W0, row]
  exact triple_restated (sound V c t) rfl .rfl fun _ => .rfl

/-- The scratch, the other scoped buffers and the random-number register make the invariant before the first point. -/
theorem hin (c : Dev nD) : iprop(Pipeline.scopedRest (Ix := Unit) (Name := ℕ) (U := UR sig nD τ) (Lvl := ℕ) (Val := Elt F) spec0 c ∗ ∃ r, prngReg c r) ⊢ (dat V c).Φ 0 := by
  rw [show (dat V c).Φ 0 = Phi V c 0 from rfl, scopedRest0_split]; unfold Phi
  simp only [owns_whole]
  iintro ⟨⟨⟨%f, HS⟩, Hb⟩, Hg⟩
  isplitl [HS]
  · iexists f; isplitr; · ipureintro; intro _ h; exact absurd rfl h
    iexact HS
  isplitl [Hb]; · iexact Hb
  iexact Hg

/-- The invariant after the last point gives them back. -/
theorem hout (c : Dev nD) : (dat V c).Φ (Fin.last cfg0.N) ⊢ iprop(Pipeline.scopedRest (Ix := Unit) (Name := ℕ) (U := UR sig nD τ) (Lvl := ℕ) (Val := Elt F) spec0 c ∗ ∃ r, prngReg c r) := by
  rw [show (dat V c).Φ (Fin.last cfg0.N) = Phi V c cfg0.N from rfl, scopedRest0_split]; unfold Phi
  simp only [owns_whole]
  iintro ⟨⟨%f, -, HS⟩, Hb, Hg⟩
  isplitl [HS Hb]
  · isplitl [HS]; · iexists f; iexact HS
    iexact Hb
  iexact Hg

end Cert.KernelIdeal.QuantX

end
-- ==== Proof.QuantDy.lean ====
/-
  The quantising call of the incoming gradient `dy` (the second of the seven calls), at any float instance.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.QuantDy

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's run. -/
abbrev MM (F : FTy → Type) : Type := MT nD τ sig Unit (Elt F) ℕ (UR sig nD τ) ℕ

/-- At a point that is not the last the body stores the codes and the running maximum. -/
theorem run_mid (c : Dev nD) (i : grid1.Coords) (a1 : Memref sig .tc .vmem S1x16 .f32) (h1 : a1.IsWhole) (a2 : Memref sig .tc .vmem S512x2048 .f32) (h2 : a2.IsWhole)
    (a3 : Memref sig .tc .vmem S512x2048 .fp8e5m2) (h3 : a3.IsWhole) (a4 : Memref sig .tc .vmem S1x1 .f32) (h4 : a4.IsWhole) (a5 : Memref sig .tc .vmem S1x1 .f32) (h5 : a5.IsWhole)
    (a6 : Memref sig .tc .vmem S8x2048 .f32) (h6 : a6.IsWhole) (hc : ¬ k1_cond1 i = 1#1)
    (x0 : Vec F S1x16 .f32) (x1 : Vec F S512x2048 .f32) (w : Vec F S8x2048 .f32) (E : Set ℕ) (K : PUnit → sProp (MM F)) :
    iprop(owns (c : Thread nD τ) a1 fullShare x0 ∗ owns (c : Thread nD τ) a2 fullShare x1 ∗ (∃ d, owns (c : Thread nD τ) a3 fullShare d) ∗ owns (c : Thread nD τ) a6 fullShare w
        ∗ (iprop(owns (c : Thread nD τ) a1 fullShare x0 ∗ owns (c : Thread nD τ) a2 fullShare x1 ∗ owns (c : Thread nD τ) a3 fullShare (k1_pay2 (k1_pay7 x0) x1)
            ∗ owns (c : Thread nD τ) a6 fullShare (k1_pay3 (BitVec.ofNat 32 (i 0).val) x1 w)) -∗ K ⟨⟩))
      ⊢ wp frame (wpE (defs₀ (F := F)) Variants.none c none) E (cc1_quant_dy i a1 h1 a2 h2 a3 h3 a4 h4 a5 h5 a6 h6) K := by
  simp only [cc1_quant_dy_eq_skeleton]; unfold cc1_quant_dy_skel
  simp only [k1_part1_eq_skeleton]
  unfold owns
  iintro ⟨⟨%f0, %hf0, H0⟩, ⟨%f1, %hf1, H1⟩, ⟨%d2, %f2, -, H2⟩, ⟨%fs0, %hfs0, HS0⟩, Hk⟩
  obtain rfl := h1.eq_unread hf0; obtain rfl := h2.eq_unread hf1; obtain rfl := h6.eq_unread hfs0
  sl_exec (disch := sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; delta run_mid.sl.r_1; rw [View.read_writes_full]; repeat rw [View.readAt_full]
    simp only [Memref.IsWhole.read_unread]
  iexists _; isplitr; swap; · iexact HS0
  ipureintro; rw [View.read_writes_full]; repeat rw [View.readAt_full]
  simp only [Memref.IsWhole.read_unread]

/-- At the last point the body stores, besides, the scale and the maximum of the running maxima. -/
theorem run_last (c : Dev nD) (i : grid1.Coords) (a1 : Memref sig .tc .vmem S1x16 .f32) (h1 : a1.IsWhole) (a2 : Memref sig .tc .vmem S512x2048 .f32) (h2 : a2.IsWhole)
    (a3 : Memref sig .tc .vmem S512x2048 .fp8e5m2) (h3 : a3.IsWhole) (a4 : Memref sig .tc .vmem S1x1 .f32) (h4 : a4.IsWhole) (a5 : Memref sig .tc .vmem S1x1 .f32) (h5 : a5.IsWhole)
    (a6 : Memref sig .tc .vmem S8x2048 .f32) (h6 : a6.IsWhole) (hc : k1_cond1 i = 1#1)
    (x0 : Vec F S1x16 .f32) (x1 : Vec F S512x2048 .f32) (w : Vec F S8x2048 .f32) (E : Set ℕ) (K : PUnit → sProp (MM F)) :
    iprop(owns (c : Thread nD τ) a1 fullShare x0 ∗ owns (c : Thread nD τ) a2 fullShare x1 ∗ (∃ d, owns (c : Thread nD τ) a3 fullShare d)
        ∗ (∃ d, owns (c : Thread nD τ) a4 fullShare d) ∗ (∃ d, owns (c : Thread nD τ) a5 fullShare d) ∗ owns (c : Thread nD τ) a6 fullShare w
        ∗ (iprop(owns (c : Thread nD τ) a1 fullShare x0 ∗ owns (c : Thread nD τ) a2 fullShare x1 ∗ owns (c : Thread nD τ) a3 fullShare (k1_pay2 (k1_pay7 x0) x1)
            ∗ owns (c : Thread nD τ) a4 fullShare (k1_pay6 x0) ∗ owns (c : Thread nD τ) a5 fullShare (k1_pay4 (k1_pay3 (BitVec.ofNat 32 (i 0).val) x1 w))
            ∗ owns (c : Thread nD τ) a6 fullShare (k1_pay3 (BitVec.ofNat 32 (i 0).val) x1 w)) -∗ K ⟨⟩))
      ⊢ wp frame (wpE (defs₀ (F := F)) Variants.none c none) E (cc1_quant_dy i a1 h1 a2 h2 a3 h3 a4 h4 a5 h5 a6 h6) K := by
  simp only [cc1_quant_dy_eq_skeleton]; unfold cc1_quant_dy_skel
  simp only [k1_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
  obtain rfl := h1.eq_unread hf0; obtain rfl := h2.eq_unread hf1; obtain rfl := h6.eq_unread hfs0
  sl_exec (disch := sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; (try delta run_last.sl.r_1); (try delta run_last.sl.r); rw [View.read_writes_full]; repeat rw [View.readAt_full]
    simp only [Memref.IsWhole.read_unread]
  isplitl [H3]
  · iexists _; isplitr; swap; · iexact H3
    ipureintro; (try delta run_last.sl.r_1); (try delta run_last.sl.r); rw [View.read_writes_full]; repeat rw [View.readAt_full]
    simp only [Memref.IsWhole.read_unread]
  isplitl [H4]
  · iexists _; isplitr; swap; · iexact H4
    ipureintro; (try delta run_last.sl.v64); (try delta run_last.sl.HS0_1); rw [View.read_writes_full, View.readCov_full]; repeat rw [View.readAt_full]
    simp only [Memref.IsWhole.read_unread]
  iexists _; isplitr; swap; · iexact HS0
  ipureintro; (try delta run_last.sl.v64); (try delta run_last.sl.HS0_1); rw [View.read_writes_full]; repeat rw [View.readAt_full]
  simp only [Memref.IsWhole.read_unread]

/-! ## The proof data -/

variable (V : Dev nD → Valuation τ sig (Elt F))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The running maximum after point `n`: the block's own at the first point, then the larger of that and the one before. -/
def acc (c : Dev nD) : (n : ℕ) → n < cfg1.N → Vec F S8x2048 .f32
  | 0, hn => k1_pay3 (BitVec.ofNat 32 (grid1.coords ⟨0, hn⟩ 0).val) (blk V c 1 ⟨0, hn⟩) (fun _ => Scalar.ofBits .f32 0#32)
  | n + 1, hn => k1_pay3 (BitVec.ofNat 32 (grid1.coords ⟨n + 1, hn⟩ 0).val) (blk V c 1 ⟨n + 1, hn⟩) (acc c n (Nat.lt_of_succ_lt hn))

/-- The new running maximum from any old one that the invariant admits. -/
theorem acc_step (c : Dev nD) (t : Fin cfg1.N) (d : Vec F S8x2048 .f32) (hd : ∀ h : t.val - 1 < cfg1.N, t.val ≠ 0 → d = acc V c (t.val - 1) h) :
    k1_pay3 (BitVec.ofNat 32 (grid1.coords t 0).val) (blk V c 1 t) d = acc V c t.val t.isLt := by
  obtain ⟨n, hn⟩ := t
  cases n with
  | zero =>
    have e : (grid1.coords ⟨0, hn⟩ 0).val = 0 / 1 % 32 := Pipeline.Grid.coords_val (G := grid1) ⟨0, hn⟩ 0 (by decide) rfl
    unfold acc; rw [e]; rfl
  | succ n => rw [hd (Nat.lt_of_succ_lt hn) (Nat.succ_ne_zero n)]; rfl

abbrev scr : Memref sig .tc .vmem S8x2048 .f32 := Memref.whole cc1_scratch0

/-- Before point `n` the scratch holds the running maximum after point `n - 1` (anything before the first). -/
def Phi (c : Dev nD) (n : ℕ) : sProp (MM F) :=
  iprop((∃ d, ⌜∀ h : n - 1 < cfg1.N, n ≠ 0 → d = acc V c (n - 1) h⌝ ∗ owns (c : Thread nD τ) scr fullShare d)
    ∗ Pipeline.scopedRestBut (Ix := Unit) (Name := ℕ) (U := UR sig nD τ) (Lvl := ℕ) (Val := Elt F) spec1 c [cc1_scratch0] ∗ ∃ r, prngReg c r)

/-- What each window holds after each point. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => k1_pay2 (k1_pay7 (blk V c 0 t)) (blk V c 1 t)
    | ⟨3, _⟩ => k1_pay6 (blk V c 0 t)
    | ⟨4, _⟩ => k1_pay4 (acc V c t.val t.isLt)
  Φ t := Phi V c t.val
  q _ := fullShare
  owed _ := 0

theorem A_eq (c : Dev nD) (w : Fin cfg1.W) : (dat V c).A w = V c (Proc.devRef .tc (Pipeline.arrRef spec1 w)) := by dsimp only [dat]
theorem Phi_castSucc (c : Dev nD) (t : Fin cfg1.N) : (dat V c).Φ t.castSucc = Phi V c t.val := by
  dsimp only [dat]; exact Pipeline.Dat.Φ_castSucc (fun n _ => Phi V c n) t
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = k1_pay2 (k1_pay7 (blk V c 0 t)) (blk V c 1 t) := by dsimp only [dat]
theorem after_3 (c : Dev nD) (t : Fin cfg1.N) : (dat V c).after 3 t = k1_pay6 (blk V c 0 t) := by dsimp only [dat]
theorem after_4 (c : Dev nD) (t : Fin cfg1.N) : (dat V c).after 4 t = k1_pay4 (acc V c t.val t.isLt) := by dsimp only [dat]

/-- An input window's staging buffer holds the window's block at every point. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)

/-! ## The body at a point -/

/-- The last point's condition, by the point's position. -/
theorem cond_last : ∀ t : Fin cfg1.N, (k1_cond1 (grid1.coords t) = 1#1) ↔ t.val % 32 = 31 :=
  (fun t => by
    have ht : t.val < 32 := Nat.lt_of_lt_of_eq t.isLt N_1
    have e0 : (grid1.coords t 0).val = t.val / 1 % 32 := Pipeline.Grid.coords_val t 0 (by decide) rfl
    simp only [k1_cond1, e0]; word_cmp : ∀ t : Fin grid1.N, (k1_cond1 (grid1.coords t) = 1#1) ↔ t.val % 32 = 31)

def pre (c : Dev nD) (t : Fin cfg1.N) : sProp (MM F) :=
  iprop((dat V c).Φ t.castSucc ∗ (dat V c).owesAt () t.castSucc
    ∗ (∃ d, owns (c : Thread nD τ) (st1_0 t) fullShare ((dat V c).before 0 t d)) ∗ (∃ d, owns (c : Thread nD τ) (st1_1 t) fullShare ((dat V c).before 1 t d))
    ∗ (∃ d, owns (c : Thread nD τ) (st1_2 t) fullShare ((dat V c).before 2 t d)) ∗ (∃ d, owns (c : Thread nD τ) (st1_3 t) fullShare ((dat V c).before 3 t d))
    ∗ (∃ d, owns (c : Thread nD τ) (st1_4 t) fullShare ((dat V c).before 4 t d)))
def post (c : Dev nD) (t : Fin cfg1.N) : sProp (MM F) :=
  iprop((dat V c).Φ t.succ ∗ (dat V c).owesAt () t.succ ∗ (dat V c).leavesExact 0 t ∗ (dat V c).leavesExact 1 t ∗ (dat V c).leavesExact 2 t
    ∗ (dat V c).leavesExact 3 t ∗ (dat V c).leavesExact 4 t)

/-- The body at any point takes `pre` to `post`. -/
theorem sound (c : Dev nD) (t : Fin cfg1.N) :
    pre V c t ⊢ wp frame (wpE (defs₀ (F := F)) Variants.none c none) Set.univ (bodyAt1 t) (fun _ => post V c t) := by
  unfold pre post bodyAt1
  simp only [before_0, before_1]
  rw [show (dat V c).owesAt () t.succ = (dat V c).owesAt () t.castSucc from rfl, show (dat V c).Φ t.succ = Phi V c (t.val + 1) from rfl, Phi_castSucc]
  unfold Phi
  rw [show (dat V c).leavesExact 0 t = owns (c : Thread nD τ) (st1_0 t) fullShare ((dat V c).after 0 t) from rfl,
    show (dat V c).leavesExact 1 t = owns (c : Thread nD τ) (st1_1 t) fullShare ((dat V c).after 1 t) from rfl,
    show (dat V c).leavesExact 2 t = owns (c : Thread nD τ) (st1_2 t) fullShare ((dat V c).after 2 t) from rfl, after_0, after_1, after_2]
  by_cases h1 : t.val % 32 = 31
  · have hc := (cond_last t).mpr h1
    have hi3 : cfg1.idle 3 (cfg1.grid.coords t) = false := by show (!(k1_cond1 (grid1.coords t) == 1#1)) = false; rw [hc]; rfl
    have hi4 : cfg1.idle 4 (cfg1.grid.coords t) = false := by show (!(k1_cond1 (grid1.coords t) == 1#1)) = false; rw [hc]; rfl
    rw [show (dat V c).leavesExact 3 t = owns (c : Thread nD τ) (st1_3 t) fullShare ((dat V c).after 3 t) from by unfold Dat.leavesExact; rw [hi3],
      show (dat V c).leavesExact 4 t = owns (c : Thread nD τ) (st1_4 t) fullShare ((dat V c).after 4 t) from by unfold Dat.leavesExact; rw [hi4], after_3, after_4]
    iintro ⟨⟨⟨%w, %hw, HS⟩, Hr⟩, Ho, ⟨%d0, H0⟩, ⟨%d1, H1⟩, ⟨%d2, H2⟩, ⟨%d3, H3⟩, ⟨%d4, H4⟩⟩
    rw [← acc_step V c t w hw]
    iapply (run_last c (grid1.coords t) _ _ _ _ _ _ _ _ _ _ _ (Memref.isWhole_whole _) hc (blk V c 0 t) (blk V c 1 t) w Set.univ _)
    isplitl [H0]; · iexact H0
    isplitl [H1]; · iexact H1
    isplitl [H2]; · iexists _; iexact H2
    isplitl [H3]; · iexists _; iexact H3
    isplitl [H4]; · iexists _; iexact H4
    isplitl [HS]; · iexact HS
    iintro ⟨H0, H1, H2, H3, H4, HS⟩
    isplitl [HS Hr]
    · isplitl [HS]
      · iexists _; isplitr; swap; · iexact HS
        ipureintro; intro _ _; exact acc_step V c t w hw
      iexact Hr
    isplitl [Ho]; · iexact Ho
    isplitl [H0]; · iexact H0
    isplitl [H1]; · iexact H1
    isplitl [H2]; · iexact H2
    isplitl [H3]; · iexact H3
    iexact H4
  · have hc : ¬ k1_cond1 (grid1.coords t) = 1#1 := fun h => h1 ((cond_last t).mp h)
    have hb : (k1_cond1 (grid1.coords t) == 1#1) = false := beq_eq_false_iff_ne.mpr hc
    have hi3 : cfg1.idle 3 (cfg1.grid.coords t) = true := by show (!(k1_cond1 (grid1.coords t) == 1#1)) = true; rw [hb]; rfl
    have hi4 : cfg1.idle 4 (cfg1.grid.coords t) = true := by show (!(k1_cond1 (grid1.coords t) == 1#1)) = true; rw [hb]; rfl
    have hf3 : (cfg1.win 3).flush t = false := Bool.eq_false_iff.mpr fun h => h1 ((flush1_3 t).mp h)
    have hf4 : (cfg1.win 4).flush t = false := Bool.eq_false_iff.mpr fun h => h1 ((flush1_4 t).mp h)
    rw [(dat V c).leavesExact_idle 3 t hi3 hf3, (dat V c).leavesExact_idle 4 t hi4 hf4]
    iintro ⟨⟨⟨%w, %hw, HS⟩, Hr⟩, Ho, ⟨%d0, H0⟩, ⟨%d1, H1⟩, ⟨%d2, H2⟩, H3, H4⟩
    iapply (run_mid c (grid1.coords t) _ _ _ _ _ _ _ _ _ _ _ (Memref.isWhole_whole _) hc (blk V c 0 t) (blk V c 1 t) w Set.univ _)
    isplitl [H0]; · iexact H0
    isplitl [H1]; · iexact H1
    isplitl [H2]; · iexists _; iexact H2
    isplitl [HS]; · iexact HS
    iintro ⟨H0, H1, H2, HS⟩
    isplitl [HS Hr]
    · isplitl [HS]
      · iexists _; isplitr; swap; · iexact HS
        ipureintro; intro _ _; exact acc_step V c t w hw
      iexact Hr
    isplitl [Ho]; · iexact Ho
    isplitl [H0]; · iexact H0
    isplitl [H1]; · iexact H1
    isplitl [H2]; · iexact H2
    isplitl [H3]; · iexact H3
    iexact H4

theorem row (t : Fin cfg1.N) : (defs₀ (F := F)) .tc cfg1.body (cfg1.bodyArgs t (cfg1.slots t)) = bodyAt1 t := by
  unfold defs₀; rw [Defs.onTc_tc]

/-- The body meets the pipeline's obligation at every point. -/
theorem obligation (c : Dev nD) : BodyObligation (dat V c) (defs₀ (F := F)) Variants.none () Set.univ := fun t => by
  rw [bigSep_W1, bigSep_W1, row]
  exact triple_restated (sound V c t) rfl .rfl fun _ => .rfl

/-- The scratch, the other scoped buffers and the random-number register make the invariant before the first point. -/
theorem hin (c : Dev nD) : iprop(Pipeline.scopedRest (Ix := Unit) (Name := ℕ) (U := UR sig nD τ) (Lvl := ℕ) (Val := Elt F) spec1 c ∗ ∃ r, prngReg c r) ⊢ (dat V c).Φ 0 := by
  rw [show (dat V c).Φ 0 = Phi V c 0 from rfl, scopedRest1_split]; unfold Phi
  simp only [owns_whole]
  iintro ⟨⟨⟨%f, HS⟩, Hb⟩, Hg⟩
  isplitl [HS]
  · iexists f; isplitr; · ipureintro; intro _ h; exact absurd rfl h
    iexact HS
  isplitl [Hb]; · iexact Hb
  iexact Hg

/-- The invariant after the last point gives them back. -/
theorem hout (c : Dev nD) : (dat V c).Φ (Fin.last cfg1.N) ⊢ iprop(Pipeline.scopedRest (Ix := Unit) (Name := ℕ) (U := UR sig nD τ) (Lvl := ℕ) (Val := Elt F) spec1 c ∗ ∃ r, prngReg c r) := by
  rw [show (dat V c).Φ (Fin.last cfg1.N) = Phi V c cfg1.N from rfl, scopedRest1_split]; unfold Phi
  simp only [owns_whole]
  iintro ⟨⟨%f, -, HS⟩, Hb, Hg⟩
  isplitl [HS Hb]
  · isplitl [HS]; · iexists f; iexact HS
    iexact Hb
  iexact Hg

end Cert.KernelIdeal.QuantDy

end
-- ==== Proof.QuantW1.lean ====
/-
  The quantising call of the first weight matrix (the third of the seven calls), at any float instance.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.QuantW1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's run. -/
abbrev MM (F : FTy → Type) : Type := MT nD τ sig Unit (Elt F) ℕ (UR sig nD τ) ℕ

/-- At a point that is not the last the body stores the codes and the running maximum. -/
theorem run_mid (c : Dev nD) (i : grid2.Coords) (a1 : Memref sig .tc .vmem S1x16 .f32) (h1 : a1.IsWhole) (a2 : Memref sig .tc .vmem S512x8192 .f32) (h2 : a2.IsWhole)
    (a3 : Memref sig .tc .vmem S512x8192 .fp8e4m3) (h3 : a3.IsWhole) (a4 : Memref sig .tc .vmem S1x1 .f32) (h4 : a4.IsWhole) (a5 : Memref sig .tc .vmem S1x1 .f32) (h5 : a5.IsWhole)
    (a6 : Memref sig .tc .vmem S8x8192 .f32) (h6 : a6.IsWhole) (hc : ¬ k2_cond1 i = 1#1)
    (x0 : Vec F S1x16 .f32) (x1 : Vec F S512x8192 .f32) (w : Vec F S8x8192 .f32) (E : Set ℕ) (K : PUnit → sProp (MM F)) :
    iprop(owns (c : Thread nD τ) a1 fullShare x0 ∗ owns (c : Thread nD τ) a2 fullShare x1 ∗ (∃ d, owns (c : Thread nD τ) a3 fullShare d) ∗ owns (c : Thread nD τ) a6 fullShare w
        ∗ (iprop(owns (c : Thread nD τ) a1 fullShare x0 ∗ owns (c : Thread nD τ) a2 fullShare x1 ∗ owns (c : Thread nD τ) a3 fullShare (k2_pay1 (k2_pay6 x0) x1)
            ∗ owns (c : Thread nD τ) a6 fullShare (k2_pay2 (BitVec.ofNat 32 (i 0).val) x1 w)) -∗ K ⟨⟩))
      ⊢ wp frame (wpE (defs₀ (F := F)) Variants.none c none) E (cc2_quant_w1 i a1 h1 a2 h2 a3 h3 a4 h4 a5 h5 a6 h6) K := by
  simp only [cc2_quant_w1_eq_skeleton]; unfold cc2_quant_w1_skel
  simp only [k2_part1_eq_skeleton]
  unfold owns
  iintro ⟨⟨%f0, %hf0, H0⟩, ⟨%f1, %hf1, H1⟩, ⟨%d2, %f2, -, H2⟩, ⟨%fs0, %hfs0, HS0⟩, Hk⟩
  obtain rfl := h1.eq_unread hf0; obtain rfl := h2.eq_unread hf1; obtain rfl := h6.eq_unread hfs0
  sl_exec (disch := sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; delta run_mid.sl.r_1; rw [View.read_writes_full]; repeat rw [View.readAt_full]
    simp only [Memref.IsWhole.read_unread]
  iexists _; isplitr; swap; · iexact HS0
  ipureintro; rw [View.read_writes_full]; repeat rw [View.readAt_full]
  simp only [Memref.IsWhole.read_unread]

/-- At the last point the body stores, besides, the scale and the maximum of the running maxima. -/
theorem run_last (c : Dev nD) (i : grid2.Coords) (a1 : Memref sig .tc .vmem S1x16 .f32) (h1 : a1.IsWhole) (a2 : Memref sig .tc .vmem S512x8192 .f32) (h2 : a2.IsWhole)
    (a3 : Memref sig .tc .vmem S512x8192 .fp8e4m3) (h3 : a3.IsWhole) (a4 : Memref sig .tc .vmem S1x1 .f32) (h4 : a4.IsWhole) (a5 : Memref sig .tc .vmem S1x1 .f32) (h5 : a5.IsWhole)
    (a6 : Memref sig .tc .vmem S8x8192 .f32) (h6 : a6.IsWhole) (hc : k2_cond1 i = 1#1)
    (x0 : Vec F S1x16 .f32) (x1 : Vec F S512x8192 .f32) (w : Vec F S8x8192 .f32) (E : Set ℕ) (K : PUnit → sProp (MM F)) :
    iprop(owns (c : Thread nD τ) a1 fullShare x0 ∗ owns (c : Thread nD τ) a2 fullShare x1 ∗ (∃ d, owns (c : Thread nD τ) a3 fullShare d)
        ∗ (∃ d, owns (c : Thread nD τ) a4 fullShare d) ∗ (∃ d, owns (c : Thread nD τ) a5 fullShare d) ∗ owns (c : Thread nD τ) a6 fullShare w
        ∗ (iprop(owns (c : Thread nD τ) a1 fullShare x0 ∗ owns (c : Thread nD τ) a2 fullShare x1 ∗ owns (c : Thread nD τ) a3 fullShare (k2_pay1 (k2_pay6 x0) x1)
            ∗ owns (c : Thread nD τ) a4 fullShare (k2_pay5 x0) ∗ owns (c : Thread nD τ) a5 fullShare (k2_pay3 (k2_pay2 (BitVec.ofNat 32 (i 0).val) x1 w))
            ∗ owns (c : Thread nD τ) a6 fullShare (k2_pay2 (BitVec.ofNat 32 (i 0).val) x1 w)) -∗ K ⟨⟩))
      ⊢ wp frame (wpE (defs₀ (F := F)) Variants.none c none) E (cc2_quant_w1 i a1 h1 a2 h2 a3 h3 a4 h4 a5 h5 a6 h6) K := by
  simp only [cc2_quant_w1_eq_skeleton]; unfold cc2_quant_w1_skel
  simp only [k2_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
  obtain rfl := h1.eq_unread hf0; obtain rfl := h2.eq_unread hf1; obtain rfl := h6.eq_unread hfs0
  sl_exec (disch := sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; (try delta run_last.sl.r_1); (try delta run_last.sl.r); rw [View.read_writes_full]; repeat rw [View.readAt_full]
    simp only [Memref.IsWhole.read_unread]
  isplitl [H3]
  · iexists _; isplitr; swap; · iexact H3
    ipureintro; (try delta run_last.sl.r_1); (try delta run_last.sl.r); rw [View.read_writes_full]; repeat rw [View.readAt_full]
    simp only [Memref.IsWhole.read_unread]
  isplitl [H4]
  · iexists _; isplitr; swap; · iexact H4
    ipureintro; (try delta run_last.sl.v63); (try delta run_last.sl.HS0_1); rw [View.read_writes_full, View.readCov_full]; repeat rw [View.readAt_full]
    simp only [Memref.IsWhole.read_unread]
  iexists _; isplitr; swap; · iexact HS0
  ipureintro; (try delta run_last.sl.v63); (try delta run_last.sl.HS0_1); rw [View.read_writes_full]; repeat rw [View.readAt_full]
  simp only [Memref.IsWhole.read_unread]

/-! ## The proof data -/

variable (V : Dev nD → Valuation τ sig (Elt F))

/-- Window `w`'s block at point `t`, read off its array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The running maximum after point `n`: the block's own at the first point, then the larger of that and the one before. -/
def acc (c : Dev nD) : (n : ℕ) → n < cfg2.N → Vec F S8x8192 .f32
  | 0, hn => k2_pay2 (BitVec.ofNat 32 (grid2.coords ⟨0, hn⟩ 0).val) (blk V c 1 ⟨0, hn⟩) (fun _ => Scalar.ofBits .f32 0#32)
  | n + 1, hn => k2_pay2 (BitVec.ofNat 32 (grid2.coords ⟨n + 1, hn⟩ 0).val) (blk V c 1 ⟨n + 1, hn⟩) (acc c n (Nat.lt_of_succ_lt hn))

/-- The new running maximum from any old one that the invariant admits. -/
theorem acc_step (c : Dev nD) (t : Fin cfg2.N) (d : Vec F S8x8192 .f32) (hd : ∀ h : t.val - 1 < cfg2.N, t.val ≠ 0 → d = acc V c (t.val - 1) h) :
    k2_pay2 (BitVec.ofNat 32 (grid2.coords t 0).val) (blk V c 1 t) d = acc V c t.val t.isLt := by
  obtain ⟨n, hn⟩ := t
  cases n with
  | zero =>
    have e : (grid2.coords ⟨0, hn⟩ 0).val = 0 / 1 % 4 := Pipeline.Grid.coords_val (G := grid2) ⟨0, hn⟩ 0 (by decide) rfl
    unfold acc; rw [e]; rfl
  | succ n => rw [hd (Nat.lt_of_succ_lt hn) (Nat.succ_ne_zero n)]; rfl

abbrev scr : Memref sig .tc .vmem S8x8192 .f32 := Memref.whole cc2_scratch0

/-- Before point `n` the scratch holds the running maximum after point `n - 1` (anything before the first). -/
def Phi (c : Dev nD) (n : ℕ) : sProp (MM F) :=
  iprop((∃ d, ⌜∀ h : n - 1 < cfg2.N, n ≠ 0 → d = acc V c (n - 1) h⌝ ∗ owns (c : Thread nD τ) scr fullShare d)
    ∗ Pipeline.scopedRestBut (Ix := Unit) (Name := ℕ) (U := UR sig nD τ) (Lvl := ℕ) (Val := Elt F) spec2 c [cc2_scratch0] ∗ ∃ r, prngReg c r)

/-- What each window holds after each point. -/
def dat (c : Dev nD) : Dat τ (Elt F) Unit ℕ (UR sig nD τ) ℕ cfg2 c where
  A w := V c (Proc.devRef .tc (Pipeline.arrRef spec2 w))
  after w t := match w with
    | ⟨0, _⟩ => blk V c 0 t
    | ⟨1, _⟩ => blk V c 1 t
    | ⟨2, _⟩ => k2_pay1 (k2_pay6 (blk V c 0 t)) (blk V c 1 t)
    | ⟨3, _⟩ => k2_pay5 (blk V c 0 t)
    | ⟨4, _⟩ => k2_pay3 (acc V c t.val t.isLt)
  Φ t := Phi V c t.val
  q _ := fullShare
  owed _ := 0

theorem A_eq (c : Dev nD) (w : Fin cfg2.W) : (dat V c).A w = V c (Proc.devRef .tc (Pipeline.arrRef spec2 w)) := by dsimp only [dat]
theorem Phi_castSucc (c : Dev nD) (t : Fin cfg2.N) : (dat V c).Φ t.castSucc = Phi V c t.val := by
  dsimp only [dat]; exact Pipeline.Dat.Φ_castSucc (fun n _ => Phi V c n) t
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = k2_pay1 (k2_pay6 (blk V c 0 t)) (blk V c 1 t) := by dsimp only [dat]
theorem after_3 (c : Dev nD) (t : Fin cfg2.N) : (dat V c).after 3 t = k2_pay5 (blk V c 0 t) := by dsimp only [dat]
theorem after_4 (c : Dev nD) (t : Fin cfg2.N) : (dat V c).after 4 t = k2_pay3 (acc V c t.val t.isLt) := by dsimp only [dat]

/-- An input window's staging buffer holds the window's block at every point. -/
theorem before_0 (c : Dev nD) (t : Fin cfg2.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg2.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)

/-! ## The body at a point -/

/-- The last point's condition, by the point's position. -/
theorem cond_last : ∀ t : Fin cfg2.N, (k2_cond1 (grid2.coords t) = 1#1) ↔ t.val % 4 = 3 :=
  (fun t => by
    have ht : t.val < 4 := Nat.lt_of_lt_of_eq t.isLt N_2
    have e0 : (grid2.coords t 0).val = t.val / 1 % 4 := Pipeline.Grid.coords_val t 0 (by decide) rfl
    simp only [k2_cond1, e0]; word_cmp : ∀ t : Fin grid2.N, (k2_cond1 (grid2.coords t) = 1#1) ↔ t.val % 4 = 3)

def pre (c : Dev nD) (t : Fin cfg2.N) : sProp (MM F) :=
  iprop((dat V c).Φ t.castSucc ∗ (dat V c).owesAt () t.castSucc
    ∗ (∃ d, owns (c : Thread nD τ) (st2_0 t) fullShare ((dat V c).before 0 t d)) ∗ (∃ d, owns (c : Thread nD τ) (st2_1 t) fullShare ((dat V c).before 1 t d))
    ∗ (∃ d, owns (c : Thread nD τ) (st2_2 t) fullShare ((dat V c).before 2 t d)) ∗ (∃ d, owns (c : Thread nD τ) (st2_3 t) fullShare ((dat V c).before 3 t d))
    ∗ (∃ d, owns (c : Thread nD τ) (st2_4 t) fullShare ((dat V c).before 4 t d)))
def post (c : Dev nD) (t : Fin cfg2.N) : sProp (MM F) :=
  iprop((dat V c).Φ t.succ ∗ (dat V c).owesAt () t.succ ∗ (dat V c).leavesExact 0 t ∗ (dat V c).leavesExact 1 t ∗ (dat V c).leavesExact 2 t
    ∗ (dat V c).leavesExact 3 t ∗ (dat V c).leavesExact 4 t)

/-- The body at any point takes `pre` to `post`. -/
theorem sound (c : Dev nD) (t : Fin cfg2.N) :
    pre V c t ⊢ wp frame (wpE (defs₀ (F := F)) Variants.none c none) Set.univ (bodyAt2 t) (fun _ => post V c t) := by
  unfold pre post bodyAt2
  simp only [before_0, before_1]
  rw [show (dat V c).owesAt () t.succ = (dat V c).owesAt () t.castSucc from rfl, show (dat V c).Φ t.succ = Phi V c (t.val + 1) from rfl, Phi_castSucc]
  unfold Phi
  rw [show (dat V c).leavesExact 0 t = owns (c : Thread nD τ) (st2_0 t) fullShare ((dat V c).after 0 t) from rfl,
    show (dat V c).leavesExact 1 t = owns (c : Thread nD τ) (st2_1 t) fullShare ((dat V c).after 1 t) from rfl,
    show (dat V c).leavesExact 2 t = owns (c : Thread nD τ) (st2_2 t) fullShare ((dat V c).after 2 t) from rfl, after_0, after_1, after_2]
  by_cases h1 : t.val % 4 = 3
  · have hc := (cond_last t).mpr h1
    have hi3 : cfg2.idle 3 (cfg2.grid.coords t) = false := by show (!(k2_cond1 (grid2.coords t) == 1#1)) = false; rw [hc]; rfl
    have hi4 : cfg2.idle 4 (cfg2.grid.coords t) = false := by show (!(k2_cond1 (grid2.coords t) == 1#1)) = false; rw [hc]; rfl
    rw [show (dat V c).leavesExact 3 t = owns (c : Thread nD τ) (st2_3 t) fullShare ((dat V c).after 3 t) from by unfold Dat.leavesExact; rw [hi3],
      show (dat V c).leavesExact 4 t = owns (c : Thread nD τ) (st2_4 t) fullShare ((dat V c).after 4 t) from by unfold Dat.leavesExact; rw [hi4], after_3, after_4]
    iintro ⟨⟨⟨%w, %hw, HS⟩, Hr⟩, Ho, ⟨%d0, H0⟩, ⟨%d1, H1⟩, ⟨%d2, H2⟩, ⟨%d3, H3⟩, ⟨%d4, H4⟩⟩
    rw [← acc_step V c t w hw]
    iapply (run_last c (grid2.coords t) _ _ _ _ _ _ _ _ _ _ _ (Memref.isWhole_whole _) hc (blk V c 0 t) (blk V c 1 t) w Set.univ _)
    isplitl [H0]; · iexact H0
    isplitl [H1]; · iexact H1
    isplitl [H2]; · iexists _; iexact H2
    isplitl [H3]; · iexists _; iexact H3
    isplitl [H4]; · iexists _; iexact H4
    isplitl [HS]; · iexact HS
    iintro ⟨H0, H1, H2, H3, H4, HS⟩
    isplitl [HS Hr]
    · isplitl [HS]
      · iexists _; isplitr; swap; · iexact HS
        ipureintro; intro _ _; exact acc_step V c t w hw
      iexact Hr
    isplitl [Ho]; · iexact Ho
    isplitl [H0]; · iexact H0
    isplitl [H1]; · iexact H1
    isplitl [H2]; · iexact H2
    isplitl [H3]; · iexact H3
    iexact H4
  · have hc : ¬ k2_cond1 (grid2.coords t) = 1#1 := fun h => h1 ((cond_last t).mp h)
    have hb : (k2_cond1 (grid2.coords t) == 1#1) = false := beq_eq_false_iff_ne.mpr hc
    have hi3 : cfg2.idle 3 (cfg2.grid.coords t) = true := by show (!(k2_cond1 (grid2.coords t) == 1#1)) = true; rw [hb]; rfl
    have hi4 : cfg2.idle 4 (cfg2.grid.coords t) = true := by show (!(k2_cond1 (grid2.coords t) == 1#1)) = true; rw [hb]; rfl
    have hf3 : (cfg2.win 3).flush t = false := Bool.eq_false_iff.mpr fun h => h1 ((flush2_3 t).mp h)
    have hf4 : (cfg2.win 4).flush t = false := Bool.eq_false_iff.mpr fun h => h1 ((flush2_4 t).mp h)
    rw [(dat V c).leavesExact_idle 3 t hi3 hf3, (dat V c).leavesExact_idle 4 t hi4 hf4]
    iintro ⟨⟨⟨%w, %hw, HS⟩, Hr⟩, Ho, ⟨%d0, H0⟩, ⟨%d1, H1⟩, ⟨%d2, H2⟩, H3, H4⟩
    iapply (run_mid c (grid2.coords t) _ _ _ _ _ _ _ _ _ _ _ (Memref.isWhole_whole _) hc (blk V c 0 t) (blk V c 1 t) w Set.univ _)
    isplitl [H0]; · iexact H0
    isplitl [H1]; · iexact H1
    isplitl [H2]; · iexists _; iexact H2
    isplitl [HS]; · iexact HS
    iintro ⟨H0, H1, H2, HS⟩
    isplitl [HS Hr]
    · isplitl [HS]
      · iexists _; isplitr; swap; · iexact HS
        ipureintro; intro _ _; exact acc_step V c t w hw
      iexact Hr
    isplitl [Ho]; · iexact Ho
    isplitl [H0]; · iexact H0
    isplitl [H1]; · iexact H1
    isplitl [H2]; · iexact H2
    isplitl [H3]; · iexact H3
    iexact H4

theorem row (t : Fin cfg2.N) : (defs₀ (F := F)) .tc cfg2.body (cfg2.bodyArgs t (cfg2.slots t)) = bodyAt2 t := by
  unfold defs₀; rw [Defs.onTc_tc]

/-- The body meets the pipeline's obligation at every point. -/
theorem obligation (c : Dev nD) : BodyObligation (dat V c) (defs₀ (F := F)) Variants.none () Set.univ := fun t => by
  rw [bigSep_W2, bigSep_W2, row]
  exact triple_restated (sound V c t) rfl .rfl fun _ => .rfl

/-- The scratch, the other scoped buffers and the random-number register make the invariant before the first point. -/
theorem hin (c : Dev nD) : iprop(Pipeline.scopedRest (Ix := Unit) (Name := ℕ) (U := UR sig nD τ) (Lvl := ℕ) (Val := Elt F) spec2 c ∗ ∃ r, prngReg c r) ⊢ (dat V c).Φ 0 := by
  rw [show (dat V c).Φ 0 = Phi V c 0 from rfl, scopedRest2_split]; unfold Phi
  simp only [owns_whole]
  iintro ⟨⟨⟨%f, HS⟩, Hb⟩, Hg⟩
  isplitl [HS]
  · iexists f; isplitr; · ipureintro; intro _ h; exact absurd rfl h
    iexact HS
  isplitl [Hb]; · iexact Hb
  iexact Hg

/-- The invariant after the last point gives them back. -/
theorem hout (c : Dev nD) : (dat V c).Φ (Fin.last cfg2.N) ⊢ iprop(Pipeline.scopedRest (Ix := Unit) (Name := ℕ) (U := UR sig nD τ) (Lvl := ℕ) (Val := Elt F) spec2 c ∗ ∃ r, prngReg c r) := by
  rw [show (dat V c).Φ (Fin.last cfg2.N) = Phi V c cfg2.N from rfl, scopedRest2_split]; unfold Phi
  simp only [owns_whole]
  iintro ⟨⟨%f, -, HS⟩, Hb, Hg⟩
  isplitl [HS Hb]
  · isplitl [HS]; · iexists f; iexact HS
    iexact Hb
  iexact Hg

end Cert.KernelIdeal.QuantW1

end
-- ==== Proof.QuantW2.lean ====
/-
  The quantising call of the second weight matrix (the fourth of the seven calls), at any float instance.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.QuantW2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's run. -/
abbrev MM (F : FTy → Type) : Type := MT nD τ sig Unit (Elt F) ℕ (UR sig nD τ) ℕ

/-- At a point that is not the last the body stores the codes and the running maximum. -/
theorem run_mid (c : Dev nD) (i : grid3.Coords) (a1 : Memref sig .tc .vmem S1x16 .f32) (h1 : a1.IsWhole) (a2 : Memref sig .tc .vmem S512x2048 .f32) (h2 : a2.IsWhole)
    (a3 : Memref sig .tc .vmem S512x2048 .fp8e4m3) (h3 : a3.IsWhole) (a4 : Memref sig .tc .vmem S1x1 .f32) (h4 : a4.IsWhole) (a5 : Memref sig .tc .vmem S1x1 .f32) (h5 : a5.IsWhole)
    (a6 : Memref sig .tc .vmem S8x2048 .f32) (h6 : a6.IsWhole) (hc : ¬ k3_cond1 i = 1#1)
    (x0 : Vec F S1x16 .f32) (x1 : Vec F S512x2048 .f32) (w : Vec F S8x2048 .f32) (E : Set ℕ) (K : PUnit → sProp (MM F)) :
    iprop(owns (c : Thread nD τ) a1 fullShare x0 ∗ owns (c : Thread nD τ) a2 fullShare x1 ∗ (∃ d, owns (c : Thread nD τ) a3 fullShare d) ∗ owns (c : Thread nD τ) a6 fullShare w
        ∗ (iprop(owns (c : Thread nD τ) a1 fullShare x0 ∗ owns (c : Thread nD τ) a2 fullShare x1 ∗ owns (c : Thread nD τ) a3 fullShare (k3_pay1 (k3_pay6 x0) x1)
            ∗ owns (c : Thread nD τ) a6 fullShare (k3_pay2 (BitVec.ofNat 32 (i 0).val) x1 w)) -∗ K ⟨⟩))
      ⊢ wp frame (wpE (defs₀ (F := F)) Variants.none c none) E (cc3_quant_w2 i a1 h1 a2 h2 a3 h3 a4 h4 a5 h5 a6 h6) K := by
  simp only [cc3_quant_w2_eq_skeleton]; unfold cc3_quant_w2_skel
  simp only [k3_part1_eq_skeleton]
  unfold owns
  iintro ⟨⟨%f0, %hf0, H0⟩, ⟨%f1, %hf1, H1⟩, ⟨%d2, %f2, -, H2⟩, ⟨%fs0, %hfs0, HS0⟩, Hk⟩
  obtain rfl := h1.eq_unread hf0; obtain rfl := h2.eq_unread hf1; obtain rfl := h6.eq_unread hfs0
  sl_exec (disch := sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; delta run_mid.sl.r_1; rw [View.read_writes_full]; repeat rw [View.readAt_full]
    simp only [Memref.IsWhole.read_unread]
  iexists _; isplitr; swap; · iexact HS0
  ipureintro; rw [View.read_writes_full]; repeat rw [View.readAt_full]
  simp only [Memref.IsWhole.read_unread]

/-- At the last point the body stores, besides, the scale and the maximum of the running maxima. -/
theorem run_last (c : Dev nD) (i : grid3.Coords) (a1 : Memref sig .tc .vmem S1x16 .f32) (h1 : a1.IsWhole) (a2 : Memref sig .tc .vmem S512x2048 .f32) (h2 : a2.IsWhole)
    (a3 : Memref sig .tc .vmem S512x2048 .fp8e4m3) (h3 : a3.IsWhole) (a4 : Memref sig .tc .vmem S1x1 .f32) (h4 : a4.IsWhole) (a5 : Memref sig .tc .vmem S1x1 .f32) (h5 : a5.IsWhole)
    (a6 : Memref sig .tc .vmem S8x2048 .f32) (h6 : a6.IsWhole) (hc : k3_cond1 i = 1#1)
    (x0 : Vec F S1x16 .f32) (x1 : Vec F S512x2048 .f32) (w : Vec F S8x2048 .f32) (E : Set ℕ) (K : PUnit → sProp (MM F)) :
    iprop(owns (c : Thread nD τ) a1 fullShare x0 ∗ owns (c : Thread nD τ) a2 fullShare x1 ∗ (∃ d, owns (c : Thread nD τ) a3 fullShare d)
        ∗ (∃ d, owns (c : Thread nD τ) a4 fullShare d) ∗ (∃ d, owns (c : Thread nD τ) a5 fullShare d) ∗ owns (c : Thread nD τ) a6 fullShare w
        ∗ (iprop(owns (c : Thread nD τ) a1 fullShare x0 ∗ owns (c : Thread nD τ) a2 fullShare x1 ∗ owns (c : Thread nD τ) a3 fullShare (k3_pay1 (k3_pay6 x0) x1)
            ∗ owns (c : Thread nD τ) a4 fullShare (k3_pay5 x0) ∗ owns (c : Thread nD τ) a5 fullShare (k3_pay3 (k3_pay2 (BitVec.ofNat 32 (i 0).val) x1 w))
            ∗ owns (c : Thread nD τ) a6 fullShare (k3_pay2 (BitVec.ofNat 32 (i 0).val) x1 w)) -∗ K ⟨⟩))
      ⊢ wp frame (wpE (defs₀ (F := F)) Variants.none c none) E (cc3_quant_w2 i a1 h1 a2 h2 a3 h3 a4 h4 a5 h5 a6 h6) K := by
  simp only [cc3_quant_w2_eq_skeleton]; unfold cc3_quant_w2_skel
  simp only [k3_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
  obtain rfl := h1.eq_unread hf0; obtain rfl := h2.eq_unread hf1; obtain rfl := h6.eq_unread hfs0
  sl_exec (disch := sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro; (try delta run_last.sl.r_1); (try delta run_last.sl.r); rw [View.read_writes_full]; repeat rw [View.readAt_full]
    simp only [Memref.IsWhole.read_unread]
  isplitl [H3]
  · iexists _; isplitr; swap; · iexact H3
    ipureintro; (try delta run_last.sl.r_1); (try delta run_last.sl.r); rw [View.read_writes_full]; repeat rw [View.readAt_full]
    simp only [Memref.IsWhole.read_unread]
  isplitl [H4]
  · iexists _; isplitr; swap; · iexact H4
    ipureintro; (try delta run_last.sl.v63); (try delta run_last.sl.HS0_1); rw [View.read_writes_full, View.readCov_full]; repeat rw [View.readAt_full]
    simp only [Memref.IsWhole.read_unread]
  iexists _; isplitr; swap; · iexact HS0
  ipureintro; (try delta run_last.sl.v63); (try delta run_last.sl.HS0_1); rw [View.read_writes_full]; repeat rw [View.readAt_full]
  simp only [Memref.IsWhole.read_unread]

/-! ## The proof data -/

variable (V : Dev nD → Valuation τ sig (Elt F))

/-- Window `w`'s block at point `t`, read off its array as the call finds it. -/
def blk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The running maximum after point `n`: the block's own at the first point, then the larger of that and the one before. -/
def acc (c : Dev nD) : (n : ℕ) → n < cfg3.N → Vec F S8x2048 .f32
  | 0, hn => k3_pay2 (BitVec.ofNat 32 (grid3.coords ⟨0, hn⟩ 0).val) (blk V c 1 ⟨0, hn⟩) (fun _ => Scalar.ofBits .f32 0#32)
  | n + 1, hn => k3_pay2 (BitVec.ofNat 32 (grid3.coords ⟨n + 1, hn⟩ 0).val) (blk V c 1 ⟨n + 1, hn⟩) (acc c n (Nat.lt_of_succ_lt hn))

/-- The new running maximum from any old one that the invariant admits. -/
theorem acc_step (c : Dev nD) (t : Fin cfg3.N) (d : Vec F S8x2048 .f32) (hd : ∀ h : t.val - 1 < cfg3.N, t.val ≠ 0 → d = acc V c (t.val - 1) h) :
    k3_pay2 (BitVec.ofNat 32 (grid3.coords t 0).val) (blk V c 1 t) d = acc V c t.val t.isLt := by
  obtain ⟨n, hn⟩ := t
  cases n with
  | zero =>
    have e : (grid3.coords ⟨0, hn⟩ 0).val = 0 / 1 % 16 := Pipeline.Grid.coords_val (G := grid3) ⟨0, hn⟩ 0 (by decide) rfl
    unfold acc; rw [e]; rfl
  | succ n => rw [hd (Nat.lt_of_succ_lt hn) (Nat.succ_ne_zero n)]; rfl

abbrev scr : Memref sig .tc .vmem S8x2048 .f32 := Memref.whole cc3_scratch0

/-- Before point `n` the scratch holds the running maximum after point `n - 1` (anything before the first). -/
def Phi (c : Dev nD) (n : ℕ) : sProp (MM F) :=
  iprop((∃ d, ⌜∀ h : n - 1 < cfg3.N, n ≠ 0 → d = acc V c (n - 1) h⌝ ∗ owns (c : Thread nD τ) scr fullShare d)
    ∗ Pipeline.scopedRestBut (Ix := Unit) (Name := ℕ) (U := UR sig nD τ) (Lvl := ℕ) (Val := Elt F) spec3 c [cc3_scratch0] ∗ ∃ r, prngReg c r)

/-- What each window holds after each point. -/
def dat (c : Dev nD) : Dat τ (Elt F) Unit ℕ (UR sig nD τ) ℕ cfg3 c where
  A w := V c (Proc.devRef .tc (Pipeline.arrRef spec3 w))
  after w t := match w with
    | ⟨0, _⟩ => blk V c 0 t
    | ⟨1, _⟩ => blk V c 1 t
    | ⟨2, _⟩ => k3_pay1 (k3_pay6 (blk V c 0 t)) (blk V c 1 t)
    | ⟨3, _⟩ => k3_pay5 (blk V c 0 t)
    | ⟨4, _⟩ => k3_pay3 (acc V c t.val t.isLt)
  Φ t := Phi V c t.val
  q _ := fullShare
  owed _ := 0

theorem A_eq (c : Dev nD) (w : Fin cfg3.W) : (dat V c).A w = V c (Proc.devRef .tc (Pipeline.arrRef spec3 w)) := by dsimp only [dat]
theorem Phi_castSucc (c : Dev nD) (t : Fin cfg3.N) : (dat V c).Φ t.castSucc = Phi V c t.val := by
  dsimp only [dat]; exact Pipeline.Dat.Φ_castSucc (fun n _ => Phi V c n) t
theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = k3_pay1 (k3_pay6 (blk V c 0 t)) (blk V c 1 t) := by dsimp only [dat]
theorem after_3 (c : Dev nD) (t : Fin cfg3.N) : (dat V c).after 3 t = k3_pay5 (blk V c 0 t) := by dsimp only [dat]
theorem after_4 (c : Dev nD) (t : Fin cfg3.N) : (dat V c).after 4 t = k3_pay3 (acc V c t.val t.isLt) := by dsimp only [dat]

/-- An input window's staging buffer holds the window's block at every point. -/
theorem before_0 (c : Dev nD) (t : Fin cfg3.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg3.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)

/-! ## The body at a point -/

/-- The last point's condition, by the point's position. -/
theorem cond_last : ∀ t : Fin cfg3.N, (k3_cond1 (grid3.coords t) = 1#1) ↔ t.val % 16 = 15 :=
  (fun t => by
    have ht : t.val < 16 := Nat.lt_of_lt_of_eq t.isLt N_3
    have e0 : (grid3.coords t 0).val = t.val / 1 % 16 := Pipeline.Grid.coords_val t 0 (by decide) rfl
    simp only [k3_cond1, e0]; word_cmp : ∀ t : Fin grid3.N, (k3_cond1 (grid3.coords t) = 1#1) ↔ t.val % 16 = 15)

def pre (c : Dev nD) (t : Fin cfg3.N) : sProp (MM F) :=
  iprop((dat V c).Φ t.castSucc ∗ (dat V c).owesAt () t.castSucc
    ∗ (∃ d, owns (c : Thread nD τ) (st3_0 t) fullShare ((dat V c).before 0 t d)) ∗ (∃ d, owns (c : Thread nD τ) (st3_1 t) fullShare ((dat V c).before 1 t d))
    ∗ (∃ d, owns (c : Thread nD τ) (st3_2 t) fullShare ((dat V c).before 2 t d)) ∗ (∃ d, owns (c : Thread nD τ) (st3_3 t) fullShare ((dat V c).before 3 t d))
    ∗ (∃ d, owns (c : Thread nD τ) (st3_4 t) fullShare ((dat V c).before 4 t d)))
def post (c : Dev nD) (t : Fin cfg3.N) : sProp (MM F) :=
  iprop((dat V c).Φ t.succ ∗ (dat V c).owesAt () t.succ ∗ (dat V c).leavesExact 0 t ∗ (dat V c).leavesExact 1 t ∗ (dat V c).leavesExact 2 t
    ∗ (dat V c).leavesExact 3 t ∗ (dat V c).leavesExact 4 t)

/-- The body at any point takes `pre` to `post`. -/
theorem sound (c : Dev nD) (t : Fin cfg3.N) :
    pre V c t ⊢ wp frame (wpE (defs₀ (F := F)) Variants.none c none) Set.univ (bodyAt3 t) (fun _ => post V c t) := by
  unfold pre post bodyAt3
  simp only [before_0, before_1]
  rw [show (dat V c).owesAt () t.succ = (dat V c).owesAt () t.castSucc from rfl, show (dat V c).Φ t.succ = Phi V c (t.val + 1) from rfl, Phi_castSucc]
  unfold Phi
  rw [show (dat V c).leavesExact 0 t = owns (c : Thread nD τ) (st3_0 t) fullShare ((dat V c).after 0 t) from rfl,
    show (dat V c).leavesExact 1 t = owns (c : Thread nD τ) (st3_1 t) fullShare ((dat V c).after 1 t) from rfl,
    show (dat V c).leavesExact 2 t = owns (c : Thread nD τ) (st3_2 t) fullShare ((dat V c).after 2 t) from rfl, after_0, after_1, after_2]
  by_cases h1 : t.val % 16 = 15
  · have hc := (cond_last t).mpr h1
    have hi3 : cfg3.idle 3 (cfg3.grid.coords t) = false := by show (!(k3_cond1 (grid3.coords t) == 1#1)) = false; rw [hc]; rfl
    have hi4 : cfg3.idle 4 (cfg3.grid.coords t) = false := by show (!(k3_cond1 (grid3.coords t) == 1#1)) = false; rw [hc]; rfl
    rw [show (dat V c).leavesExact 3 t = owns (c : Thread nD τ) (st3_3 t) fullShare ((dat V c).after 3 t) from by unfold Dat.leavesExact; rw [hi3],
      show (dat V c).leavesExact 4 t = owns (c : Thread nD τ) (st3_4 t) fullShare ((dat V c).after 4 t) from by unfold Dat.leavesExact; rw [hi4], after_3, after_4]
    iintro ⟨⟨⟨%w, %hw, HS⟩, Hr⟩, Ho, ⟨%d0, H0⟩, ⟨%d1, H1⟩, ⟨%d2, H2⟩, ⟨%d3, H3⟩, ⟨%d4, H4⟩⟩
    rw [← acc_step V c t w hw]
    iapply (run_last c (grid3.coords t) _ _ _ _ _ _ _ _ _ _ _ (Memref.isWhole_whole _) hc (blk V c 0 t) (blk V c 1 t) w Set.univ _)
    isplitl [H0]; · iexact H0
    isplitl [H1]; · iexact H1
    isplitl [H2]; · iexists _; iexact H2
    isplitl [H3]; · iexists _; iexact H3
    isplitl [H4]; · iexists _; iexact H4
    isplitl [HS]; · iexact HS
    iintro ⟨H0, H1, H2, H3, H4, HS⟩
    isplitl [HS Hr]
    · isplitl [HS]
      · iexists _; isplitr; swap; · iexact HS
        ipureintro; intro _ _; exact acc_step V c t w hw
      iexact Hr
    isplitl [Ho]; · iexact Ho
    isplitl [H0]; · iexact H0
    isplitl [H1]; · iexact H1
    isplitl [H2]; · iexact H2
    isplitl [H3]; · iexact H3
    iexact H4
  · have hc : ¬ k3_cond1 (grid3.coords t) = 1#1 := fun h => h1 ((cond_last t).mp h)
    have hb : (k3_cond1 (grid3.coords t) == 1#1) = false := beq_eq_false_iff_ne.mpr hc
    have hi3 : cfg3.idle 3 (cfg3.grid.coords t) = true := by show (!(k3_cond1 (grid3.coords t) == 1#1)) = true; rw [hb]; rfl
    have hi4 : cfg3.idle 4 (cfg3.grid.coords t) = true := by show (!(k3_cond1 (grid3.coords t) == 1#1)) = true; rw [hb]; rfl
    have hf3 : (cfg3.win 3).flush t = false := Bool.eq_false_iff.mpr fun h => h1 ((flush3_3 t).mp h)
    have hf4 : (cfg3.win 4).flush t = false := Bool.eq_false_iff.mpr fun h => h1 ((flush3_4 t).mp h)
    rw [(dat V c).leavesExact_idle 3 t hi3 hf3, (dat V c).leavesExact_idle 4 t hi4 hf4]
    iintro ⟨⟨⟨%w, %hw, HS⟩, Hr⟩, Ho, ⟨%d0, H0⟩, ⟨%d1, H1⟩, ⟨%d2, H2⟩, H3, H4⟩
    iapply (run_mid c (grid3.coords t) _ _ _ _ _ _ _ _ _ _ _ (Memref.isWhole_whole _) hc (blk V c 0 t) (blk V c 1 t) w Set.univ _)
    isplitl [H0]; · iexact H0
    isplitl [H1]; · iexact H1
    isplitl [H2]; · iexists _; iexact H2
    isplitl [HS]; · iexact HS
    iintro ⟨H0, H1, H2, HS⟩
    isplitl [HS Hr]
    · isplitl [HS]
      · iexists _; isplitr; swap; · iexact HS
        ipureintro; intro _ _; exact acc_step V c t w hw
      iexact Hr
    isplitl [Ho]; · iexact Ho
    isplitl [H0]; · iexact H0
    isplitl [H1]; · iexact H1
    isplitl [H2]; · iexact H2
    isplitl [H3]; · iexact H3
    iexact H4

theorem row (t : Fin cfg3.N) : (defs₀ (F := F)) .tc cfg3.body (cfg3.bodyArgs t (cfg3.slots t)) = bodyAt3 t := by
  unfold defs₀; rw [Defs.onTc_tc]

/-- The body meets the pipeline's obligation at every point. -/
theorem obligation (c : Dev nD) : BodyObligation (dat V c) (defs₀ (F := F)) Variants.none () Set.univ := fun t => by
  rw [bigSep_W3, bigSep_W3, row]
  exact triple_restated (sound V c t) rfl .rfl fun _ => .rfl

/-- The scratch, the other scoped buffers and the random-number register make the invariant before the first point. -/
theorem hin (c : Dev nD) : iprop(Pipeline.scopedRest (Ix := Unit) (Name := ℕ) (U := UR sig nD τ) (Lvl := ℕ) (Val := Elt F) spec3 c ∗ ∃ r, prngReg c r) ⊢ (dat V c).Φ 0 := by
  rw [show (dat V c).Φ 0 = Phi V c 0 from rfl, scopedRest3_split]; unfold Phi
  simp only [owns_whole]
  iintro ⟨⟨⟨%f, HS⟩, Hb⟩, Hg⟩
  isplitl [HS]
  · iexists f; isplitr; · ipureintro; intro _ h; exact absurd rfl h
    iexact HS
  isplitl [Hb]; · iexact Hb
  iexact Hg

/-- The invariant after the last point gives them back. -/
theorem hout (c : Dev nD) : (dat V c).Φ (Fin.last cfg3.N) ⊢ iprop(Pipeline.scopedRest (Ix := Unit) (Name := ℕ) (U := UR sig nD τ) (Lvl := ℕ) (Val := Elt F) spec3 c ∗ ∃ r, prngReg c r) := by
  rw [show (dat V c).Φ (Fin.last cfg3.N) = Phi V c cfg3.N from rfl, scopedRest3_split]; unfold Phi
  simp only [owns_whole]
  iintro ⟨⟨%f, -, HS⟩, Hb, Hg⟩
  isplitl [HS Hb]
  · isplitl [HS]; · iexists f; iexact HS
    iexact Hb
  iexact Hg

end Cert.KernelIdeal.QuantW2

end
-- ==== Proof.MlpIns.lean ====
/-
  The fused forward and backward pass of the two-layer network (the fifth of the seven calls), at any float instance:
  a grid of 32 row blocks by 8 blocks of the hidden dimension. What one point reads and computes.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic
public import Idealize.ShloMosaic.Lib.VecWindow
public import Idealize.ShloMosaic.Lib.WordCmp

@[expose] public section

set_option maxRecDepth 16384
set_option maxHeartbeats 8000000

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's run. -/
abbrev MM (F : FTy → Type) : Type := MT nD τ sig Unit (Elt F) ℕ (UR sig nD τ) ℕ

/-- What a point reads: the four scales, the two histories of maxima, and the blocks of the codes of `x`, `dy`, `w1` and `w2`. -/
structure Ins (F : FTy → Type) where
  xs : Vec F S1x1 .f32
  w1s : Vec F S1x1 .f32
  w2s : Vec F S1x1 .f32
  dys : Vec F S1x1 .f32
  hh : Vec F S1x16 .f32
  hg : Vec F S1x16 .f32
  x : Vec F S512x2048 .fp8e4m3
  dy : Vec F S512x2048 .fp8e5m2
  w1 : Vec F S2048x1024 .fp8e4m3
  w2 : Vec F S1024x2048 .fp8e4m3

/-- The codes of the hidden activations. -/
def Ins.h (u : Ins F) : Vec F S512x1024 .fp8e4m3 := k4_pay22 (k4_pay12 (k4_pay10 u.hh) 127#32) u.w1 u.x u.xs u.w1s
/-- The codes of the gradient before the activation function. -/
def Ins.g (u : Ins F) : Vec F S512x1024 .fp8e5m2 :=
  k4_pay27 (k4_pay16 (k4_pay15 u.hg) 23#32) (k4_pay18 u.w2) (k4_pay19 u.w1 u.x u.xs u.w1s) (k4_pay20 u.w1 u.x u.xs u.w1s) u.dy u.dys u.w2s
/-- One when the point is the first of the grid. -/
abbrev firstBit (i : grid4.Coords) : BitVec 1 := Scalar.andi (Scalar.cmpi .eq (BitVec.ofNat 32 (i 0).val) 0#32) (Scalar.cmpi .eq (BitVec.ofNat 32 (i 1).val) 0#32)
/-- The running maximum of the hidden activations, from the one before. -/
def Ins.hm (u : Ins F) (b : BitVec 1) (w : Vec F S8x1024 .f32) : Vec F S8x1024 .f32 := k4_pay25 b (k4_pay23 u.w1 u.x u.xs u.w1s) (k4_pay24 u.w1 u.x u.xs u.w1s w)
/-- The running maximum of the gradient, from the one before. -/
def Ins.gm (u : Ins F) (b : BitVec 1) (w : Vec F S8x1024 .f32) : Vec F S8x1024 .f32 :=
  k4_pay1 (k4_pay28 b (k4_pay18 u.w2) (k4_pay19 u.w1 u.x u.xs u.w1s) (k4_pay20 u.w1 u.x u.xs u.w1s) u.dy u.dys u.w2s w)
/-- The sum for the output `y`, with this point's product added. -/
def Ins.y (u : Ins F) (w : Vec F S512x2048 .f32) : Vec F S512x2048 .f32 := k4_pay4 (k4_pay18 u.w2) u.h w
/-- The sum for the output `dx`, with this point's product added. -/
def Ins.dx (u : Ins F) (w : Vec F S512x2048 .f32) : Vec F S512x2048 .f32 := k4_pay5 (k4_pay17 u.w1) u.g w
/-- The output `y` from the whole sum: the sum times the two scales. -/
def Ins.yEnd (u : Ins F) (w : Vec F S512x2048 .f32) : Vec F S512x2048 .f32 := k4_pay6 (k4_pay11 u.hh) (u.y w) u.w2s
/-- The output `dx` from the whole sum: the sum times the two scales. -/
def Ins.dxEnd (u : Ins F) (w : Vec F S512x2048 .f32) : Vec F S512x2048 .f32 := k4_pay7 (k4_pay14 u.hg) (u.dx w) u.w1s

/-- The point is the first of its row block. -/
abbrev condFirst (i : grid4.Coords) : Prop := (Scalar.cmpi .ne (Scalar.extui (Scalar.cmpi .eq (BitVec.ofNat 32 (i 1).val) 0#32)) 0#32) = 1#1
/-- The point is the last of its row block. -/
abbrev condLast (i : grid4.Coords) : Prop := (Scalar.cmpi .ne (Scalar.extui (Scalar.cmpi .eq (BitVec.ofNat 32 (i 1).val) 7#32)) 0#32) = 1#1

end Cert.KernelIdeal.Mlp

end
-- ==== Proof.MlpFirst.lean ====
/-
  The fused forward and backward pass of the two-layer network (the fifth of the seven calls), at any float instance:
  the body at the first point of a row block.
-/
module

public import proofs.«01_k».proof.Proof.MlpIns

@[expose] public section

set_option maxRecDepth 16384
set_option maxHeartbeats 8000000

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- At the first point of a row block the sums for `y` and `dx` start from zero. -/
theorem run_first (c : Dev nD) (i : grid4.Coords) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x16 .f32) (h6 : a6.IsWhole) (a7 : Memref sig .tc .vmem S1x16 .f32) (h7 : a7.IsWhole) (a8 : Memref sig .tc .vmem S512x2048 .fp8e4m3) (h8 : a8.IsWhole) (a9 : Memref sig .tc .vmem S512x2048 .fp8e5m2) (h9 : a9.IsWhole) (a10 : Memref sig .tc .vmem S2048x1024 .fp8e4m3) (h10 : a10.IsWhole) (a11 : Memref sig .tc .vmem S1024x2048 .fp8e4m3) (h11 : a11.IsWhole) (a12 : Memref sig .tc .vmem S512x1024 .fp8e4m3) (h12 : a12.IsWhole) (a13 : Memref sig .tc .vmem S512x1024 .fp8e5m2) (h13 : a13.IsWhole) (a14 : Memref sig .tc .vmem S512x2048 .f32) (h14 : a14.IsWhole) (a15 : Memref sig .tc .vmem S512x2048 .f32) (h15 : a15.IsWhole) (a16 : Memref sig .tc .vmem S1x1 .f32) (h16 : a16.IsWhole) (a17 : Memref sig .tc .vmem S1x1 .f32) (h17 : a17.IsWhole) (a18 : Memref sig .tc .vmem S1x1 .f32) (h18 : a18.IsWhole) (a19 : Memref sig .tc .vmem S1x1 .f32) (h19 : a19.IsWhole) (a20 : Memref sig .tc .vmem S8x1024 .f32) (h20 : a20.IsWhole) (a21 : Memref sig .tc .vmem S8x1024 .f32) (h21 : a21.IsWhole)
    (hc0 : condFirst i) (hc1 : ¬ condLast i) (hc2 : ¬ k4_cond3 i = 1#1)
    (u : Ins F) (w0 w1 : Vec F S8x1024 .f32) (E : Set ℕ) (K : PUnit → sProp (MM F)) :
    iprop(owns (c : Thread nD τ) a2 fullShare u.xs ∗ owns (c : Thread nD τ) a3 fullShare u.w1s ∗ owns (c : Thread nD τ) a4 fullShare u.w2s ∗ owns (c : Thread nD τ) a5 fullShare u.dys ∗ owns (c : Thread nD τ) a6 fullShare u.hh ∗ owns (c : Thread nD τ) a7 fullShare u.hg ∗ owns (c : Thread nD τ) a8 fullShare u.x ∗ owns (c : Thread nD τ) a9 fullShare u.dy ∗ owns (c : Thread nD τ) a10 fullShare u.w1 ∗ owns (c : Thread nD τ) a11 fullShare u.w2 ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) a20 fullShare w0 ∗ owns (c : Thread nD τ) a21 fullShare w1
        ∗ (iprop(owns (c : Thread nD τ) a2 fullShare u.xs ∗ owns (c : Thread nD τ) a3 fullShare u.w1s ∗ owns (c : Thread nD τ) a4 fullShare u.w2s ∗ owns (c : Thread nD τ) a5 fullShare u.dys ∗ owns (c : Thread nD τ) a6 fullShare u.hh ∗ owns (c : Thread nD τ) a7 fullShare u.hg ∗ owns (c : Thread nD τ) a8 fullShare u.x ∗ owns (c : Thread nD τ) a9 fullShare u.dy ∗ owns (c : Thread nD τ) a10 fullShare u.w1 ∗ owns (c : Thread nD τ) a11 fullShare u.w2 ∗ owns (c : Thread nD τ) a12 fullShare u.h ∗ owns (c : Thread nD τ) a13 fullShare u.g ∗ owns (c : Thread nD τ) a14 fullShare (u.y k4_pay2) ∗ owns (c : Thread nD τ) a15 fullShare (u.dx k4_pay3) ∗ owns (c : Thread nD τ) a20 fullShare (u.hm (firstBit i) w0) ∗ owns (c : Thread nD τ) a21 fullShare (u.gm (firstBit i) w1)) -∗ K ⟨⟩))
      ⊢ wp frame (wpE (defs₀ (F := F)) Variants.none c none) E (cc4_mlp i a2 h2 a3 h3 a4 h4 a5 h5 a6 h6 a7 h7 a8 h8 a9 h9 a10 h10 a11 h11 a12 h12 a13 h13 a14 h14 a15 h15 a16 h16 a17 h17 a18 h18 a19 h19 a20 h20 a21 h21) K := by
  simp only [cc4_mlp_eq_skeleton]; unfold cc4_mlp_skel
  simp only [k4_part1_eq_skeleton, k4_part2_eq_skeleton, k4_part3_eq_skeleton, k4_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f20, %hf20, H20⟩, ⟨%f21, %hf21, H21⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h20.eq_unread hf20; obtain rfl := h21.eq_unread hf21
  sl_exec (disch := first | sl_exact hc0 | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; delta run_first.sl.H14_1 run_first.sl.H15_1 run_first.sl.r run_first.sl.r_1 run_first.sl.r_10 run_first.sl.r_11 run_first.sl.r_12 run_first.sl.r_13 run_first.sl.r_14 run_first.sl.r_15 run_first.sl.r_2 run_first.sl.r_3 run_first.sl.r_4 run_first.sl.r_5 run_first.sl.r_6 run_first.sl.r_7 run_first.sl.r_8 run_first.sl.r_9 run_first.sl.v0 run_first.sl.v1 run_first.sl.v162 run_first.sl.v167 run_first.sl.v2 run_first.sl.v3
    rw [View.read_writes_full]; (repeat rw [View.readCov_full]); (repeat rw [View.readAt_full])
    simp only [Memref.IsWhole.read_unread]; rfl
  isplitl [H13]
  · iexists _; isplitr; swap; · iexact H13
    ipureintro; delta run_first.sl.H14_1 run_first.sl.H15_1 run_first.sl.r run_first.sl.r_1 run_first.sl.r_10 run_first.sl.r_11 run_first.sl.r_12 run_first.sl.r_13 run_first.sl.r_14 run_first.sl.r_15 run_first.sl.r_2 run_first.sl.r_3 run_first.sl.r_4 run_first.sl.r_5 run_first.sl.r_6 run_first.sl.r_7 run_first.sl.r_8 run_first.sl.r_9 run_first.sl.v0 run_first.sl.v1 run_first.sl.v162 run_first.sl.v167 run_first.sl.v2 run_first.sl.v3
    rw [View.read_writes_full]; (repeat rw [View.readCov_full]); (repeat rw [View.readAt_full])
    simp only [Memref.IsWhole.read_unread]; rfl
  isplitl [H14]
  · iexists _; isplitr; swap; · iexact H14
    ipureintro; delta run_first.sl.H14_1 run_first.sl.H15_1 run_first.sl.r run_first.sl.r_1 run_first.sl.r_10 run_first.sl.r_11 run_first.sl.r_12 run_first.sl.r_13 run_first.sl.r_14 run_first.sl.r_15 run_first.sl.r_2 run_first.sl.r_3 run_first.sl.r_4 run_first.sl.r_5 run_first.sl.r_6 run_first.sl.r_7 run_first.sl.r_8 run_first.sl.r_9 run_first.sl.v0 run_first.sl.v1 run_first.sl.v162 run_first.sl.v167 run_first.sl.v2 run_first.sl.v3
    rw [View.read_writes_full]; (repeat rw [View.readCov_full]); (repeat rw [View.readAt_full])
    simp only [Memref.IsWhole.read_unread]; rfl
  isplitl [H15]
  · iexists _; isplitr; swap; · iexact H15
    ipureintro; delta run_first.sl.H14_1 run_first.sl.H15_1 run_first.sl.r run_first.sl.r_1 run_first.sl.r_10 run_first.sl.r_11 run_first.sl.r_12 run_first.sl.r_13 run_first.sl.r_14 run_first.sl.r_15 run_first.sl.r_2 run_first.sl.r_3 run_first.sl.r_4 run_first.sl.r_5 run_first.sl.r_6 run_first.sl.r_7 run_first.sl.r_8 run_first.sl.r_9 run_first.sl.v0 run_first.sl.v1 run_first.sl.v162 run_first.sl.v167 run_first.sl.v2 run_first.sl.v3
    rw [View.read_writes_full]; (repeat rw [View.readCov_full]); (repeat rw [View.readAt_full])
    simp only [Memref.IsWhole.read_unread]; rfl
  isplitl [H20]
  · iexists _; isplitr; swap; · iexact H20
    ipureintro; delta run_first.sl.H14_1 run_first.sl.H15_1 run_first.sl.r run_first.sl.r_1 run_first.sl.r_10 run_first.sl.r_11 run_first.sl.r_12 run_first.sl.r_13 run_first.sl.r_14 run_first.sl.r_15 run_first.sl.r_2 run_first.sl.r_3 run_first.sl.r_4 run_first.sl.r_5 run_first.sl.r_6 run_first.sl.r_7 run_first.sl.r_8 run_first.sl.r_9 run_first.sl.v0 run_first.sl.v1 run_first.sl.v162 run_first.sl.v167 run_first.sl.v2 run_first.sl.v3
    rw [View.read_writes_full]; (repeat rw [View.readCov_full]); (repeat rw [View.readAt_full])
    simp only [Memref.IsWhole.read_unread]; rfl
  iexists _; isplitr; swap; · iexact H21
  ipureintro; delta run_first.sl.H14_1 run_first.sl.H15_1 run_first.sl.r run_first.sl.r_1 run_first.sl.r_10 run_first.sl.r_11 run_first.sl.r_12 run_first.sl.r_13 run_first.sl.r_14 run_first.sl.r_15 run_first.sl.r_2 run_first.sl.r_3 run_first.sl.r_4 run_first.sl.r_5 run_first.sl.r_6 run_first.sl.r_7 run_first.sl.r_8 run_first.sl.r_9 run_first.sl.v0 run_first.sl.v1 run_first.sl.v162 run_first.sl.v167 run_first.sl.v2 run_first.sl.v3
  rw [View.read_writes_full]; (repeat rw [View.readCov_full]); (repeat rw [View.readAt_full])
  simp only [Memref.IsWhole.read_unread]; rfl

end Cert.KernelIdeal.Mlp

end
-- ==== Proof.MlpMid.lean ====
/-
  The fused forward and backward pass of the two-layer network (the fifth of the seven calls), at any float instance:
  the body at a point between.
-/
module

public import proofs.«01_k».proof.Proof.MlpIns

@[expose] public section

set_option maxRecDepth 16384
set_option maxHeartbeats 8000000

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- At a point between, the products are added to the sums. -/
theorem run_mid (c : Dev nD) (i : grid4.Coords) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x16 .f32) (h6 : a6.IsWhole) (a7 : Memref sig .tc .vmem S1x16 .f32) (h7 : a7.IsWhole) (a8 : Memref sig .tc .vmem S512x2048 .fp8e4m3) (h8 : a8.IsWhole) (a9 : Memref sig .tc .vmem S512x2048 .fp8e5m2) (h9 : a9.IsWhole) (a10 : Memref sig .tc .vmem S2048x1024 .fp8e4m3) (h10 : a10.IsWhole) (a11 : Memref sig .tc .vmem S1024x2048 .fp8e4m3) (h11 : a11.IsWhole) (a12 : Memref sig .tc .vmem S512x1024 .fp8e4m3) (h12 : a12.IsWhole) (a13 : Memref sig .tc .vmem S512x1024 .fp8e5m2) (h13 : a13.IsWhole) (a14 : Memref sig .tc .vmem S512x2048 .f32) (h14 : a14.IsWhole) (a15 : Memref sig .tc .vmem S512x2048 .f32) (h15 : a15.IsWhole) (a16 : Memref sig .tc .vmem S1x1 .f32) (h16 : a16.IsWhole) (a17 : Memref sig .tc .vmem S1x1 .f32) (h17 : a17.IsWhole) (a18 : Memref sig .tc .vmem S1x1 .f32) (h18 : a18.IsWhole) (a19 : Memref sig .tc .vmem S1x1 .f32) (h19 : a19.IsWhole) (a20 : Memref sig .tc .vmem S8x1024 .f32) (h20 : a20.IsWhole) (a21 : Memref sig .tc .vmem S8x1024 .f32) (h21 : a21.IsWhole)
    (hc0 : ¬ condFirst i) (hc1 : ¬ condLast i) (hc2 : ¬ k4_cond3 i = 1#1)
    (u : Ins F) (w0 w1 : Vec F S8x1024 .f32) (w2 w3 : Vec F S512x2048 .f32) (E : Set ℕ) (K : PUnit → sProp (MM F)) :
    iprop(owns (c : Thread nD τ) a2 fullShare u.xs ∗ owns (c : Thread nD τ) a3 fullShare u.w1s ∗ owns (c : Thread nD τ) a4 fullShare u.w2s ∗ owns (c : Thread nD τ) a5 fullShare u.dys ∗ owns (c : Thread nD τ) a6 fullShare u.hh ∗ owns (c : Thread nD τ) a7 fullShare u.hg ∗ owns (c : Thread nD τ) a8 fullShare u.x ∗ owns (c : Thread nD τ) a9 fullShare u.dy ∗ owns (c : Thread nD τ) a10 fullShare u.w1 ∗ owns (c : Thread nD τ) a11 fullShare u.w2 ∗ (∃ d, owns (c : Thread nD τ) a12 fullShare d) ∗ (∃ d, owns (c : Thread nD τ) a13 fullShare d) ∗ owns (c : Thread nD τ) a14 fullShare w2 ∗ owns (c : Thread nD τ) a15 fullShare w3 ∗ owns (c : Thread nD τ) a20 fullShare w0 ∗ owns (c : Thread nD τ) a21 fullShare w1
        ∗ (iprop(owns (c : Thread nD τ) a2 fullShare u.xs ∗ owns (c : Thread nD τ) a3 fullShare u.w1s ∗ owns (c : Thread nD τ) a4 fullShare u.w2s ∗ owns (c : Thread nD τ) a5 fullShare u.dys ∗ owns (c : Thread nD τ) a6 fullShare u.hh ∗ owns (c : Thread nD τ) a7 fullShare u.hg ∗ owns (c : Thread nD τ) a8 fullShare u.x ∗ owns (c : Thread nD τ) a9 fullShare u.dy ∗ owns (c : Thread nD τ) a10 fullShare u.w1 ∗ owns (c : Thread nD τ) a11 fullShare u.w2 ∗ owns (c : Thread nD τ) a12 fullShare u.h ∗ owns (c : Thread nD τ) a13 fullShare u.g ∗ owns (c : Thread nD τ) a14 fullShare (u.y w2) ∗ owns (c : Thread nD τ) a15 fullShare (u.dx w3) ∗ owns (c : Thread nD τ) a20 fullShare (u.hm (firstBit i) w0) ∗ owns (c : Thread nD τ) a21 fullShare (u.gm (firstBit i) w1)) -∗ K ⟨⟩))
      ⊢ wp frame (wpE (defs₀ (F := F)) Variants.none c none) E (cc4_mlp i a2 h2 a3 h3 a4 h4 a5 h5 a6 h6 a7 h7 a8 h8 a9 h9 a10 h10 a11 h11 a12 h12 a13 h13 a14 h14 a15 h15 a16 h16 a17 h17 a18 h18 a19 h19 a20 h20 a21 h21) K := by
  simp only [cc4_mlp_eq_skeleton]; unfold cc4_mlp_skel
  simp only [k4_part1_eq_skeleton, k4_part2_eq_skeleton, k4_part3_eq_skeleton, k4_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f20, %hf20, H20⟩, ⟨%f21, %hf21, H21⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h14.eq_unread hf14; obtain rfl := h15.eq_unread hf15; obtain rfl := h20.eq_unread hf20; obtain rfl := h21.eq_unread hf21
  sl_exec (disch := first | sl_exact hc0 | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; delta run_mid.sl.r run_mid.sl.r_1 run_mid.sl.r_10 run_mid.sl.r_11 run_mid.sl.r_12 run_mid.sl.r_13 run_mid.sl.r_14 run_mid.sl.r_15 run_mid.sl.r_2 run_mid.sl.r_3 run_mid.sl.r_4 run_mid.sl.r_5 run_mid.sl.r_6 run_mid.sl.r_7 run_mid.sl.r_8 run_mid.sl.r_9 run_mid.sl.v0 run_mid.sl.v1 run_mid.sl.v2 run_mid.sl.v3
    rw [View.read_writes_full]; (repeat rw [View.readCov_full]); (repeat rw [View.readAt_full])
    simp only [Memref.IsWhole.read_unread]; rfl
  isplitl [H13]
  · iexists _; isplitr; swap; · iexact H13
    ipureintro; delta run_mid.sl.r run_mid.sl.r_1 run_mid.sl.r_10 run_mid.sl.r_11 run_mid.sl.r_12 run_mid.sl.r_13 run_mid.sl.r_14 run_mid.sl.r_15 run_mid.sl.r_2 run_mid.sl.r_3 run_mid.sl.r_4 run_mid.sl.r_5 run_mid.sl.r_6 run_mid.sl.r_7 run_mid.sl.r_8 run_mid.sl.r_9 run_mid.sl.v0 run_mid.sl.v1 run_mid.sl.v2 run_mid.sl.v3
    rw [View.read_writes_full]; (repeat rw [View.readCov_full]); (repeat rw [View.readAt_full])
    simp only [Memref.IsWhole.read_unread]; rfl
  isplitl [H14]
  · iexists _; isplitr; swap; · iexact H14
    ipureintro; delta run_mid.sl.r run_mid.sl.r_1 run_mid.sl.r_10 run_mid.sl.r_11 run_mid.sl.r_12 run_mid.sl.r_13 run_mid.sl.r_14 run_mid.sl.r_15 run_mid.sl.r_2 run_mid.sl.r_3 run_mid.sl.r_4 run_mid.sl.r_5 run_mid.sl.r_6 run_mid.sl.r_7 run_mid.sl.r_8 run_mid.sl.r_9 run_mid.sl.v0 run_mid.sl.v1 run_mid.sl.v2 run_mid.sl.v3
    rw [View.read_writes_full]; (repeat rw [View.readCov_full]); (repeat rw [View.readAt_full])
    simp only [Memref.IsWhole.read_unread]; rfl
  isplitl [H15]
  · iexists _; isplitr; swap; · iexact H15
    ipureintro; delta run_mid.sl.r run_mid.sl.r_1 run_mid.sl.r_10 run_mid.sl.r_11 run_mid.sl.r_12 run_mid.sl.r_13 run_mid.sl.r_14 run_mid.sl.r_15 run_mid.sl.r_2 run_mid.sl.r_3 run_mid.sl.r_4 run_mid.sl.r_5 run_mid.sl.r_6 run_mid.sl.r_7 run_mid.sl.r_8 run_mid.sl.r_9 run_mid.sl.v0 run_mid.sl.v1 run_mid.sl.v2 run_mid.sl.v3
    rw [View.read_writes_full]; (repeat rw [View.readCov_full]); (repeat rw [View.readAt_full])
    simp only [Memref.IsWhole.read_unread]; rfl
  isplitl [H20]
  · iexists _; isplitr; swap; · iexact H20
    ipureintro; delta run_mid.sl.r run_mid.sl.r_1 run_mid.sl.r_10 run_mid.sl.r_11 run_mid.sl.r_12 run_mid.sl.r_13 run_mid.sl.r_14 run_mid.sl.r_15 run_mid.sl.r_2 run_mid.sl.r_3 run_mid.sl.r_4 run_mid.sl.r_5 run_mid.sl.r_6 run_mid.sl.r_7 run_mid.sl.r_8 run_mid.sl.r_9 run_mid.sl.v0 run_mid.sl.v1 run_mid.sl.v2 run_mid.sl.v3
    rw [View.read_writes_full]; (repeat rw [View.readCov_full]); (repeat rw [View.readAt_full])
    simp only [Memref.IsWhole.read_unread]; rfl
  iexists _; isplitr; swap; · iexact H21
  ipureintro; delta run_mid.sl.r run_mid.sl.r_1 run_mid.sl.r_10 run_mid.sl.r_11 run_mid.sl.r_12 run_mid.sl.r_13 run_mid.sl.r_14 run_mid.sl.r_15 run_mid.sl.r_2 run_mid.sl.r_3 run_mid.sl.r_4 run_mid.sl.r_5 run_mid.sl.r_6 run_mid.sl.r_7 run_mid.sl.r_8 run_mid.sl.r_9 run_mid.sl.v0 run_mid.sl.v1 run_mid.sl.v2 run_mid.sl.v3
  rw [View.read_writes_full]; (repeat rw [View.readCov_full]); (repeat rw [View.readAt_full])
  simp only [Memref.IsWhole.read_unread]; rfl

end Cert.KernelIdeal.Mlp

end
-- ==== Proof.MlpLast.lean ====
/-
  The fused forward and backward pass of the two-layer network (the fifth of the seven calls), at any float instance:
  the body at the last point of a row block.
-/
module

public import proofs.«01_k».proof.Proof.MlpIns

@[expose] public section

set_option maxRecDepth 16384
set_option maxHeartbeats 8000000

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- At the last point of a row block the sums are completed and scaled. -/
theorem run_last (c : Dev nD) (i : grid4.Coords) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x16 .f32) (h6 : a6.IsWhole) (a7 : Memref sig .tc .vmem S1x16 .f32) (h7 : a7.IsWhole) (a8 : Memref sig .tc .vmem S512x2048 .fp8e4m3) (h8 : a8.IsWhole) (a9 : Memref sig .tc .vmem S512x2048 .fp8e5m2) (h9 : a9.IsWhole) (a10 : Memref sig .tc .vmem S2048x1024 .fp8e4m3) (h10 : a10.IsWhole) (a11 : Memref sig .tc .vmem S1024x2048 .fp8e4m3) (h11 : a11.IsWhole) (a12 : Memref sig .tc .vmem S512x1024 .fp8e4m3) (h12 : a12.IsWhole) (a13 : Memref sig .tc .vmem S512x1024 .fp8e5m2) (h13 : a13.IsWhole) (a14 : Memref sig .tc .vmem S512x2048 .f32) (h14 : a14.IsWhole) (a15 : Memref sig .tc .vmem S512x2048 .f32) (h15 : a15.IsWhole) (a16 : Memref sig .tc .vmem S1x1 .f32) (h16 : a16.IsWhole) (a17 : Memref sig .tc .vmem S1x1 .f32) (h17 : a17.IsWhole) (a18 : Memref sig .tc .vmem S1x1 .f32) (h18 : a18.IsWhole) (a19 : Memref sig .tc .vmem S1x1 .f32) (h19 : a19.IsWhole) (a20 : Memref sig .tc .vmem S8x1024 .f32) (h20 : a20.IsWhole) (a21 : Memref sig .tc .vmem S8x1024 .f32) (h21 : a21.IsWhole)
    (hc0 : ¬ condFirst i) (hc1 : condLast i) (hc2 : ¬ k4_cond3 i = 1#1)
    (u : Ins F) (w0 w1 : Vec F S8x1024 .f32) (w2 w3 : Vec F S512x2048 .f32) (E : Set ℕ) (K : PUnit → sProp (MM F)) :
    iprop(owns (c : Thread nD τ) a2 fullShare u.xs ∗ owns (c : Thread nD τ) a3 fullShare u.w1s ∗ owns (c : Thread nD τ) a4 fullShare u.w2s ∗ owns (c : Thread nD τ) a5 fullShare u.dys ∗ owns (c : Thread nD τ) a6 fullShare u.hh ∗ owns (c : Thread nD τ) a7 fullShare u.hg ∗ owns (c : Thread nD τ) a8 fullShare u.x ∗ owns (c : Thread nD τ) a9 fullShare u.dy ∗ owns (c : Thread nD τ) a10 fullShare u.w1 ∗ owns (c : Thread nD τ) a11 fullShare u.w2 ∗ (∃ d, owns (c : Thread nD τ) a12 fullShare d) ∗ (∃ d, owns (c : Thread nD τ) a13 fullShare d) ∗ owns (c : Thread nD τ) a14 fullShare w2 ∗ owns (c : Thread nD τ) a15 fullShare w3 ∗ owns (c : Thread nD τ) a20 fullShare w0 ∗ owns (c : Thread nD τ) a21 fullShare w1
        ∗ (iprop(owns (c : Thread nD τ) a2 fullShare u.xs ∗ owns (c : Thread nD τ) a3 fullShare u.w1s ∗ owns (c : Thread nD τ) a4 fullShare u.w2s ∗ owns (c : Thread nD τ) a5 fullShare u.dys ∗ owns (c : Thread nD τ) a6 fullShare u.hh ∗ owns (c : Thread nD τ) a7 fullShare u.hg ∗ owns (c : Thread nD τ) a8 fullShare u.x ∗ owns (c : Thread nD τ) a9 fullShare u.dy ∗ owns (c : Thread nD τ) a10 fullShare u.w1 ∗ owns (c : Thread nD τ) a11 fullShare u.w2 ∗ owns (c : Thread nD τ) a12 fullShare u.h ∗ owns (c : Thread nD τ) a13 fullShare u.g ∗ owns (c : Thread nD τ) a14 fullShare (u.yEnd w2) ∗ owns (c : Thread nD τ) a15 fullShare (u.dxEnd w3) ∗ owns (c : Thread nD τ) a20 fullShare (u.hm (firstBit i) w0) ∗ owns (c : Thread nD τ) a21 fullShare (u.gm (firstBit i) w1)) -∗ K ⟨⟩))
      ⊢ wp frame (wpE (defs₀ (F := F)) Variants.none c none) E (cc4_mlp i a2 h2 a3 h3 a4 h4 a5 h5 a6 h6 a7 h7 a8 h8 a9 h9 a10 h10 a11 h11 a12 h12 a13 h13 a14 h14 a15 h15 a16 h16 a17 h17 a18 h18 a19 h19 a20 h20 a21 h21) K := by
  simp only [cc4_mlp_eq_skeleton]; unfold cc4_mlp_skel
  simp only [k4_part1_eq_skeleton, k4_part2_eq_skeleton, k4_part3_eq_skeleton, k4_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f20, %hf20, H20⟩, ⟨%f21, %hf21, H21⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h14.eq_unread hf14; obtain rfl := h15.eq_unread hf15; obtain rfl := h20.eq_unread hf20; obtain rfl := h21.eq_unread hf21
  sl_exec (disch := first | sl_exact hc0 | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; delta run_last.sl.H14_1 run_last.sl.H15_1 run_last.sl.r run_last.sl.r_1 run_last.sl.r_10 run_last.sl.r_11 run_last.sl.r_12 run_last.sl.r_13 run_last.sl.r_14 run_last.sl.r_15 run_last.sl.r_2 run_last.sl.r_3 run_last.sl.r_4 run_last.sl.r_5 run_last.sl.r_6 run_last.sl.r_7 run_last.sl.r_8 run_last.sl.r_9 run_last.sl.v0 run_last.sl.v1 run_last.sl.v178 run_last.sl.v186 run_last.sl.v2 run_last.sl.v3
    rw [View.read_writes_full]; (repeat rw [View.readCov_full]); (repeat rw [View.readAt_full])
    simp only [Memref.IsWhole.read_unread]; rfl
  isplitl [H13]
  · iexists _; isplitr; swap; · iexact H13
    ipureintro; delta run_last.sl.H14_1 run_last.sl.H15_1 run_last.sl.r run_last.sl.r_1 run_last.sl.r_10 run_last.sl.r_11 run_last.sl.r_12 run_last.sl.r_13 run_last.sl.r_14 run_last.sl.r_15 run_last.sl.r_2 run_last.sl.r_3 run_last.sl.r_4 run_last.sl.r_5 run_last.sl.r_6 run_last.sl.r_7 run_last.sl.r_8 run_last.sl.r_9 run_last.sl.v0 run_last.sl.v1 run_last.sl.v178 run_last.sl.v186 run_last.sl.v2 run_last.sl.v3
    rw [View.read_writes_full]; (repeat rw [View.readCov_full]); (repeat rw [View.readAt_full])
    simp only [Memref.IsWhole.read_unread]; rfl
  isplitl [H14]
  · iexists _; isplitr; swap; · iexact H14
    ipureintro; delta run_last.sl.H14_1 run_last.sl.H15_1 run_last.sl.r run_last.sl.r_1 run_last.sl.r_10 run_last.sl.r_11 run_last.sl.r_12 run_last.sl.r_13 run_last.sl.r_14 run_last.sl.r_15 run_last.sl.r_2 run_last.sl.r_3 run_last.sl.r_4 run_last.sl.r_5 run_last.sl.r_6 run_last.sl.r_7 run_last.sl.r_8 run_last.sl.r_9 run_last.sl.v0 run_last.sl.v1 run_last.sl.v178 run_last.sl.v186 run_last.sl.v2 run_last.sl.v3
    rw [View.read_writes_full]; (repeat rw [View.readCov_full]); (repeat rw [View.readAt_full])
    simp only [Memref.IsWhole.read_unread]; rfl
  isplitl [H15]
  · iexists _; isplitr; swap; · iexact H15
    ipureintro; delta run_last.sl.H14_1 run_last.sl.H15_1 run_last.sl.r run_last.sl.r_1 run_last.sl.r_10 run_last.sl.r_11 run_last.sl.r_12 run_last.sl.r_13 run_last.sl.r_14 run_last.sl.r_15 run_last.sl.r_2 run_last.sl.r_3 run_last.sl.r_4 run_last.sl.r_5 run_last.sl.r_6 run_last.sl.r_7 run_last.sl.r_8 run_last.sl.r_9 run_last.sl.v0 run_last.sl.v1 run_last.sl.v178 run_last.sl.v186 run_last.sl.v2 run_last.sl.v3
    rw [View.read_writes_full]; (repeat rw [View.readCov_full]); (repeat rw [View.readAt_full])
    simp only [Memref.IsWhole.read_unread]; rfl
  isplitl [H20]
  · iexists _; isplitr; swap; · iexact H20
    ipureintro; delta run_last.sl.H14_1 run_last.sl.H15_1 run_last.sl.r run_last.sl.r_1 run_last.sl.r_10 run_last.sl.r_11 run_last.sl.r_12 run_last.sl.r_13 run_last.sl.r_14 run_last.sl.r_15 run_last.sl.r_2 run_last.sl.r_3 run_last.sl.r_4 run_last.sl.r_5 run_last.sl.r_6 run_last.sl.r_7 run_last.sl.r_8 run_last.sl.r_9 run_last.sl.v0 run_last.sl.v1 run_last.sl.v178 run_last.sl.v186 run_last.sl.v2 run_last.sl.v3
    rw [View.read_writes_full]; (repeat rw [View.readCov_full]); (repeat rw [View.readAt_full])
    simp only [Memref.IsWhole.read_unread]; rfl
  iexists _; isplitr; swap; · iexact H21
  ipureintro; delta run_last.sl.H14_1 run_last.sl.H15_1 run_last.sl.r run_last.sl.r_1 run_last.sl.r_10 run_last.sl.r_11 run_last.sl.r_12 run_last.sl.r_13 run_last.sl.r_14 run_last.sl.r_15 run_last.sl.r_2 run_last.sl.r_3 run_last.sl.r_4 run_last.sl.r_5 run_last.sl.r_6 run_last.sl.r_7 run_last.sl.r_8 run_last.sl.r_9 run_last.sl.v0 run_last.sl.v1 run_last.sl.v178 run_last.sl.v186 run_last.sl.v2 run_last.sl.v3
  rw [View.read_writes_full]; (repeat rw [View.readCov_full]); (repeat rw [View.readAt_full])
  simp only [Memref.IsWhole.read_unread]; rfl

end Cert.KernelIdeal.Mlp

end
-- ==== Proof.MlpFinal.lean ====
/-
  The fused forward and backward pass of the two-layer network (the fifth of the seven calls), at any float instance:
  the body at the last point of the grid.
-/
module

public import proofs.«01_k».proof.Proof.MlpIns

@[expose] public section

set_option maxRecDepth 16384
set_option maxHeartbeats 8000000

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- At the last point of the grid the body stores, besides, the two scales and the two maxima. -/
theorem run_final (c : Dev nD) (i : grid4.Coords) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x16 .f32) (h6 : a6.IsWhole) (a7 : Memref sig .tc .vmem S1x16 .f32) (h7 : a7.IsWhole) (a8 : Memref sig .tc .vmem S512x2048 .fp8e4m3) (h8 : a8.IsWhole) (a9 : Memref sig .tc .vmem S512x2048 .fp8e5m2) (h9 : a9.IsWhole) (a10 : Memref sig .tc .vmem S2048x1024 .fp8e4m3) (h10 : a10.IsWhole) (a11 : Memref sig .tc .vmem S1024x2048 .fp8e4m3) (h11 : a11.IsWhole) (a12 : Memref sig .tc .vmem S512x1024 .fp8e4m3) (h12 : a12.IsWhole) (a13 : Memref sig .tc .vmem S512x1024 .fp8e5m2) (h13 : a13.IsWhole) (a14 : Memref sig .tc .vmem S512x2048 .f32) (h14 : a14.IsWhole) (a15 : Memref sig .tc .vmem S512x2048 .f32) (h15 : a15.IsWhole) (a16 : Memref sig .tc .vmem S1x1 .f32) (h16 : a16.IsWhole) (a17 : Memref sig .tc .vmem S1x1 .f32) (h17 : a17.IsWhole) (a18 : Memref sig .tc .vmem S1x1 .f32) (h18 : a18.IsWhole) (a19 : Memref sig .tc .vmem S1x1 .f32) (h19 : a19.IsWhole) (a20 : Memref sig .tc .vmem S8x1024 .f32) (h20 : a20.IsWhole) (a21 : Memref sig .tc .vmem S8x1024 .f32) (h21 : a21.IsWhole)
    (hc0 : ¬ condFirst i) (hc1 : condLast i) (hc2 : k4_cond3 i = 1#1)
    (u : Ins F) (w0 w1 : Vec F S8x1024 .f32) (w2 w3 : Vec F S512x2048 .f32) (E : Set ℕ) (K : PUnit → sProp (MM F)) :
    iprop(owns (c : Thread nD τ) a2 fullShare u.xs ∗ owns (c : Thread nD τ) a3 fullShare u.w1s ∗ owns (c : Thread nD τ) a4 fullShare u.w2s ∗ owns (c : Thread nD τ) a5 fullShare u.dys ∗ owns (c : Thread nD τ) a6 fullShare u.hh ∗ owns (c : Thread nD τ) a7 fullShare u.hg ∗ owns (c : Thread nD τ) a8 fullShare u.x ∗ owns (c : Thread nD τ) a9 fullShare u.dy ∗ owns (c : Thread nD τ) a10 fullShare u.w1 ∗ owns (c : Thread nD τ) a11 fullShare u.w2 ∗ (∃ d, owns (c : Thread nD τ) a12 fullShare d) ∗ (∃ d, owns (c : Thread nD τ) a13 fullShare d) ∗ owns (c : Thread nD τ) a14 fullShare w2 ∗ owns (c : Thread nD τ) a15 fullShare w3 ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ owns (c : Thread nD τ) a20 fullShare w0 ∗ owns (c : Thread nD τ) a21 fullShare w1
        ∗ (iprop(owns (c : Thread nD τ) a2 fullShare u.xs ∗ owns (c : Thread nD τ) a3 fullShare u.w1s ∗ owns (c : Thread nD τ) a4 fullShare u.w2s ∗ owns (c : Thread nD τ) a5 fullShare u.dys ∗ owns (c : Thread nD τ) a6 fullShare u.hh ∗ owns (c : Thread nD τ) a7 fullShare u.hg ∗ owns (c : Thread nD τ) a8 fullShare u.x ∗ owns (c : Thread nD τ) a9 fullShare u.dy ∗ owns (c : Thread nD τ) a10 fullShare u.w1 ∗ owns (c : Thread nD τ) a11 fullShare u.w2 ∗ owns (c : Thread nD τ) a12 fullShare u.h ∗ owns (c : Thread nD τ) a13 fullShare u.g ∗ owns (c : Thread nD τ) a14 fullShare (u.yEnd w2) ∗ owns (c : Thread nD τ) a15 fullShare (u.dxEnd w3) ∗ owns (c : Thread nD τ) a16 fullShare (k4_pay11 u.hh) ∗ owns (c : Thread nD τ) a17 fullShare (k4_pay14 u.hg) ∗ owns (c : Thread nD τ) a18 fullShare (k4_pay8 (u.hm (firstBit i) w0)) ∗ owns (c : Thread nD τ) a19 fullShare (k4_pay9 (u.gm (firstBit i) w1)) ∗ owns (c : Thread nD τ) a20 fullShare (u.hm (firstBit i) w0) ∗ owns (c : Thread nD τ) a21 fullShare (u.gm (firstBit i) w1)) -∗ K ⟨⟩))
      ⊢ wp frame (wpE (defs₀ (F := F)) Variants.none c none) E (cc4_mlp i a2 h2 a3 h3 a4 h4 a5 h5 a6 h6 a7 h7 a8 h8 a9 h9 a10 h10 a11 h11 a12 h12 a13 h13 a14 h14 a15 h15 a16 h16 a17 h17 a18 h18 a19 h19 a20 h20 a21 h21) K := by
  simp only [cc4_mlp_eq_skeleton]; unfold cc4_mlp_skel
  simp only [k4_part1_eq_skeleton, k4_part2_eq_skeleton, k4_part3_eq_skeleton, k4_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h14.eq_unread hf14; obtain rfl := h15.eq_unread hf15; obtain rfl := h20.eq_unread hf20; obtain rfl := h21.eq_unread hf21
  sl_exec (disch := first | sl_exact hc0 | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  isplitl [H13]
  · iexists _; isplitr; swap; · iexact H13
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  isplitl [H14]
  · iexists _; isplitr; swap; · iexact H14
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  isplitl [H15]
  · iexists _; isplitr; swap; · iexact H15
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  isplitl [H16]
  · iexists _; isplitr; swap; · iexact H16
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  isplitl [H17]
  · iexists _; isplitr; swap; · iexact H17
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  isplitl [H18]
  · iexists _; isplitr; swap; · iexact H18
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  isplitl [H19]
  · iexists _; isplitr; swap; · iexact H19
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  isplitl [H20]
  · iexists _; isplitr; swap; · iexact H20
    ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
    rw [View.read_writes_full]; (repeat rw [View.readCov_full]); (repeat rw [View.readAt_full])
    simp only [Memref.IsWhole.read_unread] <;> rfl
  iexists _; isplitr; swap; · iexact H21
  ipureintro; delta run_final.sl.H14_1 run_final.sl.H15_1 run_final.sl.H20_1 run_final.sl.H21_1 run_final.sl.r run_final.sl.r_1 run_final.sl.r_10 run_final.sl.r_11 run_final.sl.r_12 run_final.sl.r_13 run_final.sl.r_14 run_final.sl.r_15 run_final.sl.r_2 run_final.sl.r_3 run_final.sl.r_4 run_final.sl.r_5 run_final.sl.r_6 run_final.sl.r_7 run_final.sl.r_8 run_final.sl.r_9 run_final.sl.v0 run_final.sl.v1 run_final.sl.v178 run_final.sl.v180 run_final.sl.v186 run_final.sl.v186_1 run_final.sl.v2 run_final.sl.v3
  rw [View.read_writes_full]; (repeat rw [View.readCov_full]); (repeat rw [View.readAt_full])
  simp only [Memref.IsWhole.read_unread] <;> rfl

end Cert.KernelIdeal.Mlp

end
-- ==== Proof.Mlp.lean ====
/-
  The fused forward and backward pass of the two-layer network (the fifth of the seven calls), at any float instance:
  a grid of 32 row blocks by 8 blocks of the hidden dimension. The proof data of the call
  and the obligation its body meets.
-/
module

public import proofs.«01_k».proof.Proof.MlpFirst
public import proofs.«01_k».proof.Proof.MlpMid
public import proofs.«01_k».proof.Proof.MlpLast
public import proofs.«01_k».proof.Proof.MlpFinal

@[expose] public section

set_option maxRecDepth 16384
set_option maxHeartbeats 8000000

noncomputable section

namespace Cert.KernelIdeal.Mlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Dev nD → Valuation τ sig (Elt F))

/-- Window `w`'s block at point `t`, read off its array as the call finds it. -/
def blk (c : Dev nD) (w : Fin cfg4.W) (t : Fin cfg4.N) : ((cfg4.win w).xblock (cfg4.grid.coords t)).Idx → Elt F (cfg4.win w).elt :=
  ((cfg4.win w).blk t).view.read (Elt F) (V c (Proc.devRef .tc (Pipeline.arrRef spec4 w)))

/-- What point `t` reads. -/
def ins (c : Dev nD) (t : Fin cfg4.N) : Ins F :=
  ⟨blk V c 0 t, blk V c 1 t, blk V c 2 t, blk V c 3 t, blk V c 4 t, blk V c 5 t, blk V c 6 t, blk V c 7 t, blk V c 8 t, blk V c 9 t⟩

/-- The running maximum of the hidden activations after point `n`. -/
def hacc (c : Dev nD) : (n : ℕ) → n < cfg4.N → Vec F S8x1024 .f32
  | 0, hn => (ins V c ⟨0, hn⟩).hm (firstBit (grid4.coords ⟨0, hn⟩)) (fun _ => Scalar.ofBits .f32 0#32)
  | n + 1, hn => (ins V c ⟨n + 1, hn⟩).hm (firstBit (grid4.coords ⟨n + 1, hn⟩)) (hacc c n (Nat.lt_of_succ_lt hn))

/-- The new running maximum from any old one that the invariant admits. -/
theorem hacc_step (c : Dev nD) (t : Fin cfg4.N) (d : Vec F S8x1024 .f32) (hd : ∀ h : t.val - 1 < cfg4.N, t.val ≠ 0 → d = hacc V c (t.val - 1) h) :
    (ins V c t).hm (firstBit (grid4.coords t)) d = hacc V c t.val t.isLt := by
  obtain ⟨n, hn⟩ := t
  cases n with
  | zero =>
    have e0 : (grid4.coords ⟨0, hn⟩ 0).val = 0 / 8 % 32 := Pipeline.Grid.coords_val (G := grid4) ⟨0, hn⟩ 0 (by decide) rfl
    have e1 : (grid4.coords ⟨0, hn⟩ 1).val = 0 / 1 % 8 := Pipeline.Grid.coords_val (G := grid4) ⟨0, hn⟩ 1 (by decide) rfl
    unfold hacc firstBit; rw [e0, e1]; rfl
  | succ n => rw [hd (Nat.lt_of_succ_lt hn) (Nat.succ_ne_zero n)]; rfl

/-- The running maximum of the gradient after point `n`. -/
def gacc (c : Dev nD) : (n : ℕ) → n < cfg4.N → Vec F S8x1024 .f32
  | 0, hn => (ins V c ⟨0, hn⟩).gm (firstBit (grid4.coords ⟨0, hn⟩)) (fun _ => Scalar.ofBits .f32 0#32)
  | n + 1, hn => (ins V c ⟨n + 1, hn⟩).gm (firstBit (grid4.coords ⟨n + 1, hn⟩)) (gacc c n (Nat.lt_of_succ_lt hn))

/-- The new running maximum from any old one that the invariant admits. -/
theorem gacc_step (c : Dev nD) (t : Fin cfg4.N) (d : Vec F S8x1024 .f32) (hd : ∀ h : t.val - 1 < cfg4.N, t.val ≠ 0 → d = gacc V c (t.val - 1) h) :
    (ins V c t).gm (firstBit (grid4.coords t)) d = gacc V c t.val t.isLt := by
  obtain ⟨n, hn⟩ := t
  cases n with
  | zero =>
    have e0 : (grid4.coords ⟨0, hn⟩ 0).val = 0 / 8 % 32 := Pipeline.Grid.coords_val (G := grid4) ⟨0, hn⟩ 0 (by decide) rfl
    have e1 : (grid4.coords ⟨0, hn⟩ 1).val = 0 / 1 % 8 := Pipeline.Grid.coords_val (G := grid4) ⟨0, hn⟩ 1 (by decide) rfl
    unfold gacc firstBit; rw [e0, e1]; rfl
  | succ n => rw [hd (Nat.lt_of_succ_lt hn) (Nat.succ_ne_zero n)]; rfl

/-- What the output block of `y` holds after point `n`. -/
def yacc (c : Dev nD) : (n : ℕ) → n < cfg4.N → Vec F S512x2048 .f32
  | 0, hn => (ins V c ⟨0, hn⟩).y k4_pay2
  | n + 1, hn =>
    if (n + 1) % 8 = 0 then (ins V c ⟨n + 1, hn⟩).y k4_pay2
    else if (n + 1) % 8 = 7 then (ins V c ⟨n + 1, hn⟩).yEnd (yacc c n (Nat.lt_of_succ_lt hn))
    else (ins V c ⟨n + 1, hn⟩).y (yacc c n (Nat.lt_of_succ_lt hn))

theorem yacc_first (c : Dev nD) (t : Fin cfg4.N) (h0 : t.val % 8 = 0) : yacc V c t.val t.isLt = (ins V c t).y k4_pay2 := by
  obtain ⟨n, hn⟩ := t
  cases n with
  | zero => rfl
  | succ n => exact if_pos h0
theorem yacc_last (c : Dev nD) (t : Fin cfg4.N) (h1 : t.val % 8 = 7) :
    yacc V c t.val t.isLt = (ins V c t).yEnd (yacc V c (t.val - 1) (Nat.lt_of_le_of_lt (Nat.sub_le _ _) t.isLt)) := by
  obtain ⟨n, hn⟩ := t
  cases n with
  | zero => exact absurd h1 (show ¬ (0 % 8 = 7) by decide)
  | succ n => exact (if_neg (by dsimp only at h1; omega)).trans (if_pos h1)
theorem yacc_mid (c : Dev nD) (t : Fin cfg4.N) (h0 : ¬ t.val % 8 = 0) (h1 : ¬ t.val % 8 = 7) :
    yacc V c t.val t.isLt = (ins V c t).y (yacc V c (t.val - 1) (Nat.lt_of_le_of_lt (Nat.sub_le _ _) t.isLt)) := by
  obtain ⟨n, hn⟩ := t
  cases n with
  | zero => exact absurd rfl h0
  | succ n => exact (if_neg h0).trans (if_neg h1)

/-- What the output block of `dx` holds after point `n`. -/
def dxacc (c : Dev nD) : (n : ℕ) → n < cfg4.N → Vec F S512x2048 .f32
  | 0, hn => (ins V c ⟨0, hn⟩).dx k4_pay3
  | n + 1, hn =>
    if (n + 1) % 8 = 0 then (ins V c ⟨n + 1, hn⟩).dx k4_pay3
    else if (n + 1) % 8 = 7 then (ins V c ⟨n + 1, hn⟩).dxEnd (dxacc c n (Nat.lt_of_succ_lt hn))
    else (ins V c ⟨n + 1, hn⟩).dx (dxacc c n (Nat.lt_of_succ_lt hn))

theorem dxacc_first (c : Dev nD) (t : Fin cfg4.N) (h0 : t.val % 8 = 0) : dxacc V c t.val t.isLt = (ins V c t).dx k4_pay3 := by
  obtain ⟨n, hn⟩ := t
  cases n with
  | zero => rfl
  | succ n => exact if_pos h0
theorem dxacc_last (c : Dev nD) (t : Fin cfg4.N) (h1 : t.val % 8 = 7) :
    dxacc V c t.val t.isLt = (ins V c t).dxEnd (dxacc V c (t.val - 1) (Nat.lt_of_le_of_lt (Nat.sub_le _ _) t.isLt)) := by
  obtain ⟨n, hn⟩ := t
  cases n with
  | zero => exact absurd h1 (show ¬ (0 % 8 = 7) by decide)
  | succ n => exact (if_neg (by dsimp only at h1; omega)).trans (if_pos h1)
theorem dxacc_mid (c : Dev nD) (t : Fin cfg4.N) (h0 : ¬ t.val % 8 = 0) (h1 : ¬ t.val % 8 = 7) :
    dxacc V c t.val t.isLt = (ins V c t).dx (dxacc V c (t.val - 1) (Nat.lt_of_le_of_lt (Nat.sub_le _ _) t.isLt)) := by
  obtain ⟨n, hn⟩ := t
  cases n with
  | zero => exact absurd rfl h0
  | succ n => exact (if_neg h0).trans (if_neg h1)

abbrev scr0 : Memref sig .tc .vmem S8x1024 .f32 := Memref.whole cc4_scratch0
abbrev scr1 : Memref sig .tc .vmem S8x1024 .f32 := Memref.whole cc4_scratch1

/-- Before point `n` the two scratches hold the running maxima after point `n - 1` (anything before the first). -/
def Phi (c : Dev nD) (n : ℕ) : sProp (MM F) :=
  iprop((∃ d, ⌜∀ h : n - 1 < cfg4.N, n ≠ 0 → d = hacc V c (n - 1) h⌝ ∗ owns (c : Thread nD τ) scr0 fullShare d)
    ∗ (∃ d, ⌜∀ h : n - 1 < cfg4.N, n ≠ 0 → d = gacc V c (n - 1) h⌝ ∗ owns (c : Thread nD τ) scr1 fullShare d)
    ∗ Pipeline.scopedRestBut (Ix := Unit) (Name := ℕ) (U := UR sig nD τ) (Lvl := ℕ) (Val := Elt F) spec4 c [cc4_scratch0, cc4_scratch1] ∗ ∃ r, prngReg c r)

/-- What each window holds after each point. -/
def dat (c : Dev nD) : Dat τ (Elt F) Unit ℕ (UR sig nD τ) ℕ cfg4 c where
  A w := V c (Proc.devRef .tc (Pipeline.arrRef spec4 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => (ins V c t).h
    | ⟨11, _⟩ => (ins V c t).g
    | ⟨12, _⟩ => yacc V c t.val t.isLt
    | ⟨13, _⟩ => dxacc V c t.val t.isLt
    | ⟨14, _⟩ => k4_pay11 (ins V c t).hh
    | ⟨15, _⟩ => k4_pay14 (ins V c t).hg
    | ⟨16, _⟩ => k4_pay8 (hacc V c t.val t.isLt)
    | ⟨17, _⟩ => k4_pay9 (gacc V c t.val t.isLt)
    | ⟨_ + 18, h⟩ => absurd h (Nat.not_lt.2 (Nat.le_add_left _ _))
  Φ t := Phi V c t.val
  q _ := fullShare
  owed _ := 0

theorem A_eq (c : Dev nD) (w : Fin cfg4.W) : (dat V c).A w = V c (Proc.devRef .tc (Pipeline.arrRef spec4 w)) := by dsimp only [dat]
theorem Phi_castSucc (c : Dev nD) (t : Fin cfg4.N) : (dat V c).Φ t.castSucc = Phi V c t.val := by
  dsimp only [dat]; exact Pipeline.Dat.Φ_castSucc (fun n _ => Phi V c n) t
theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = blk V c 3 t := by dsimp only [dat]
theorem after_4 (c : Dev nD) (t : Fin cfg4.N) : (dat V c).after 4 t = blk V c 4 t := by dsimp only [dat]
theorem after_5 (c : Dev nD) (t : Fin cfg4.N) : (dat V c).after 5 t = blk V c 5 t := by dsimp only [dat]
theorem after_6 (c : Dev nD) (t : Fin cfg4.N) : (dat V c).after 6 t = blk V c 6 t := by dsimp only [dat]
theorem after_7 (c : Dev nD) (t : Fin cfg4.N) : (dat V c).after 7 t = blk V c 7 t := by dsimp only [dat]
theorem after_8 (c : Dev nD) (t : Fin cfg4.N) : (dat V c).after 8 t = blk V c 8 t := by dsimp only [dat]
theorem after_9 (c : Dev nD) (t : Fin cfg4.N) : (dat V c).after 9 t = blk V c 9 t := by dsimp only [dat]
theorem after_10 (c : Dev nD) (t : Fin cfg4.N) : (dat V c).after 10 t = (ins V c t).h := by dsimp only [dat]
theorem after_11 (c : Dev nD) (t : Fin cfg4.N) : (dat V c).after 11 t = (ins V c t).g := by dsimp only [dat]
theorem after_12 (c : Dev nD) (t : Fin cfg4.N) : (dat V c).after 12 t = yacc V c t.val t.isLt := by dsimp only [dat]
theorem after_13 (c : Dev nD) (t : Fin cfg4.N) : (dat V c).after 13 t = dxacc V c t.val t.isLt := by dsimp only [dat]
theorem after_14 (c : Dev nD) (t : Fin cfg4.N) : (dat V c).after 14 t = k4_pay11 (ins V c t).hh := by dsimp only [dat]
theorem after_15 (c : Dev nD) (t : Fin cfg4.N) : (dat V c).after 15 t = k4_pay14 (ins V c t).hg := by dsimp only [dat]
theorem after_16 (c : Dev nD) (t : Fin cfg4.N) : (dat V c).after 16 t = k4_pay8 (hacc V c t.val t.isLt) := by dsimp only [dat]
theorem after_17 (c : Dev nD) (t : Fin cfg4.N) : (dat V c).after 17 t = k4_pay9 (gacc V c t.val t.isLt) := by dsimp only [dat]

/-! An input window's staging buffer holds the window's block at every point. -/
theorem before_0 (c : Dev nD) (t : Fin cfg4.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg4.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)
theorem before_2 (c : Dev nD) (t : Fin cfg4.N) (d) : (dat V c).before 2 t d = blk V c 2 t :=
  ((dat V c).before_in_eq_fetched 2 rfl (fun _ => rfl) (fun _ _ _ => rfl) (fun t => by rw [after_2]; unfold Dat.blockOf blk; rw [A_eq]) t d).trans
    (by unfold Dat.fetched Dat.blockOf blk; rw [A_eq]; rfl)
theorem before_3 (c : Dev nD) (t : Fin cfg4.N) (d) : (dat V c).before 3 t d = blk V c 3 t :=
  ((dat V c).before_in_eq_fetched 3 rfl (fun _ => rfl) (fun _ _ _ => rfl) (fun t => by rw [after_3]; unfold Dat.blockOf blk; rw [A_eq]) t d).trans
    (by unfold Dat.fetched Dat.blockOf blk; rw [A_eq]; rfl)
theorem before_4 (c : Dev nD) (t : Fin cfg4.N) (d) : (dat V c).before 4 t d = blk V c 4 t :=
  ((dat V c).before_in_eq_fetched 4 rfl (fun _ => rfl) (fun _ _ _ => rfl) (fun t => by rw [after_4]; unfold Dat.blockOf blk; rw [A_eq]) t d).trans
    (by unfold Dat.fetched Dat.blockOf blk; rw [A_eq]; rfl)
theorem before_5 (c : Dev nD) (t : Fin cfg4.N) (d) : (dat V c).before 5 t d = blk V c 5 t :=
  ((dat V c).before_in_eq_fetched 5 rfl (fun _ => rfl) (fun _ _ _ => rfl) (fun t => by rw [after_5]; unfold Dat.blockOf blk; rw [A_eq]) t d).trans
    (by unfold Dat.fetched Dat.blockOf blk; rw [A_eq]; rfl)
theorem before_6 (c : Dev nD) (t : Fin cfg4.N) (d) : (dat V c).before 6 t d = blk V c 6 t :=
  ((dat V c).before_in_eq_fetched 6 rfl (fun _ => rfl) (fun _ _ _ => rfl) (fun t => by rw [after_6]; unfold Dat.blockOf blk; rw [A_eq]) t d).trans
    (by unfold Dat.fetched Dat.blockOf blk; rw [A_eq]; rfl)
theorem before_7 (c : Dev nD) (t : Fin cfg4.N) (d) : (dat V c).before 7 t d = blk V c 7 t :=
  ((dat V c).before_in_eq_fetched 7 rfl (fun _ => rfl) (fun _ _ _ => rfl) (fun t => by rw [after_7]; unfold Dat.blockOf blk; rw [A_eq]) t d).trans
    (by unfold Dat.fetched Dat.blockOf blk; rw [A_eq]; rfl)
theorem before_8 (c : Dev nD) (t : Fin cfg4.N) (d) : (dat V c).before 8 t d = blk V c 8 t :=
  ((dat V c).before_in_eq_fetched 8 rfl (fun _ => rfl) (fun _ _ _ => rfl) (fun t => by rw [after_8]; unfold Dat.blockOf blk; rw [A_eq]) t d).trans
    (by unfold Dat.fetched Dat.blockOf blk; rw [A_eq]; rfl)
theorem before_9 (c : Dev nD) (t : Fin cfg4.N) (d) : (dat V c).before 9 t d = blk V c 9 t :=
  ((dat V c).before_in_eq_fetched 9 rfl (fun _ => rfl) (fun _ _ _ => rfl) (fun t => by rw [after_9]; unfold Dat.blockOf blk; rw [A_eq]) t d).trans
    (by unfold Dat.fetched Dat.blockOf blk; rw [A_eq]; rfl)
/-- Past the first point of a row block the output's staging buffer holds what the point before left. -/
theorem before_12 (c : Dev nD) (t : Fin cfg4.N) (h0 : ¬ t.val % 8 = 0) (d) :
    (dat V c).before 12 t d = yacc V c (t.val - 1) (Nat.lt_of_le_of_lt (Nat.sub_le _ _) t.isLt) := by
  rw [(dat V c).before_out_kept 12 rfl t (by omega) (Bool.eq_false_iff.mpr fun h => by have := (flush4_12 _).mp h; dsimp only at this; omega)
    (fun _ => rfl) (fun _ _ => rfl), after_12]
/-- Past the first point of a row block the output's staging buffer holds what the point before left. -/
theorem before_13 (c : Dev nD) (t : Fin cfg4.N) (h0 : ¬ t.val % 8 = 0) (d) :
    (dat V c).before 13 t d = dxacc V c (t.val - 1) (Nat.lt_of_le_of_lt (Nat.sub_le _ _) t.isLt) := by
  rw [(dat V c).before_out_kept 13 rfl t (by omega) (Bool.eq_false_iff.mpr fun h => by have := (flush4_13 _).mp h; dsimp only at this; omega)
    (fun _ => rfl) (fun _ _ => rfl), after_13]

/-! ## The body at a point -/

theorem cond_first : ∀ t : Fin cfg4.N, condFirst (grid4.coords t) ↔ t.val % 8 = 0 :=
  (fun t => by
    have ht : t.val < 256 := Nat.lt_of_lt_of_eq t.isLt N_4
    have e0 : (grid4.coords t 0).val = t.val / 8 % 32 := Pipeline.Grid.coords_val t 0 (by decide) rfl
    have e1 : (grid4.coords t 1).val = t.val / 1 % 8 := Pipeline.Grid.coords_val t 1 (by decide) rfl
    simp only [condFirst, e0, e1]; word_cmp : ∀ t : Fin grid4.N, condFirst (grid4.coords t) ↔ t.val % 8 = 0)
theorem cond_last : ∀ t : Fin cfg4.N, condLast (grid4.coords t) ↔ t.val % 8 = 7 :=
  (fun t => by
    have ht : t.val < 256 := Nat.lt_of_lt_of_eq t.isLt N_4
    have e0 : (grid4.coords t 0).val = t.val / 8 % 32 := Pipeline.Grid.coords_val t 0 (by decide) rfl
    have e1 : (grid4.coords t 1).val = t.val / 1 % 8 := Pipeline.Grid.coords_val t 1 (by decide) rfl
    simp only [condLast, e0, e1]; word_cmp : ∀ t : Fin grid4.N, condLast (grid4.coords t) ↔ t.val % 8 = 7)
theorem cond_final : ∀ t : Fin cfg4.N, (k4_cond3 (grid4.coords t) = 1#1) ↔ t.val % 256 = 255 :=
  (fun t => by
    have ht : t.val < 256 := Nat.lt_of_lt_of_eq t.isLt N_4
    have e0 : (grid4.coords t 0).val = t.val / 8 % 32 := Pipeline.Grid.coords_val t 0 (by decide) rfl
    have e1 : (grid4.coords t 1).val = t.val / 1 % 8 := Pipeline.Grid.coords_val t 1 (by decide) rfl
    simp only [k4_cond3, e0, e1]; word_cmp : ∀ t : Fin grid4.N, (k4_cond3 (grid4.coords t) = 1#1) ↔ t.val % 256 = 255)

def pre (c : Dev nD) (t : Fin cfg4.N) : sProp (MM F) :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d))
    ∗ (∃ d, owns (c : Thread nD τ) (st4_7 t) fullShare ((dat V c).before 7 t d))
    ∗ (∃ d, owns (c : Thread nD τ) (st4_8 t) fullShare ((dat V c).before 8 t d))
    ∗ (∃ d, owns (c : Thread nD τ) (st4_9 t) fullShare ((dat V c).before 9 t d))
    ∗ (∃ d, owns (c : Thread nD τ) (st4_10 t) fullShare ((dat V c).before 10 t d))
    ∗ (∃ d, owns (c : Thread nD τ) (st4_11 t) fullShare ((dat V c).before 11 t d))
    ∗ (∃ d, owns (c : Thread nD τ) (st4_12 t) fullShare ((dat V c).before 12 t d))
    ∗ (∃ d, owns (c : Thread nD τ) (st4_13 t) fullShare ((dat V c).before 13 t d))
    ∗ (∃ d, owns (c : Thread nD τ) (st4_14 t) fullShare ((dat V c).before 14 t d))
    ∗ (∃ d, owns (c : Thread nD τ) (st4_15 t) fullShare ((dat V c).before 15 t d))
    ∗ (∃ d, owns (c : Thread nD τ) (st4_16 t) fullShare ((dat V c).before 16 t d))
    ∗ (∃ d, owns (c : Thread nD τ) (st4_17 t) fullShare ((dat V c).before 17 t d)))
def post (c : Dev nD) (t : Fin cfg4.N) : sProp (MM F) :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t
    ∗ (dat V c).leavesExact 16 t
    ∗ (dat V c).leavesExact 17 t)

/-- The last four outputs are idle except at the last point. -/
theorem idle_last (c : Dev nD) (t : Fin cfg4.N) (h : t.val % 256 = 255) :
    (dat V c).leavesExact 14 t = owns (c : Thread nD τ) (st4_14 t) fullShare ((dat V c).after 14 t) ∧ (dat V c).leavesExact 15 t = owns (c : Thread nD τ) (st4_15 t) fullShare ((dat V c).after 15 t) ∧ (dat V c).leavesExact 16 t = owns (c : Thread nD τ) (st4_16 t) fullShare ((dat V c).after 16 t) ∧ (dat V c).leavesExact 17 t = owns (c : Thread nD τ) (st4_17 t) fullShare ((dat V c).after 17 t) := by
  have hc := (cond_final t).mpr h
  have hi14 : cfg4.idle 14 (cfg4.grid.coords t) = false := by show (!(k4_cond3 (grid4.coords t) == 1#1)) = false; rw [hc]; rfl
  have hi15 : cfg4.idle 15 (cfg4.grid.coords t) = false := by show (!(k4_cond3 (grid4.coords t) == 1#1)) = false; rw [hc]; rfl
  have hi16 : cfg4.idle 16 (cfg4.grid.coords t) = false := by show (!(k4_cond3 (grid4.coords t) == 1#1)) = false; rw [hc]; rfl
  have hi17 : cfg4.idle 17 (cfg4.grid.coords t) = false := by show (!(k4_cond3 (grid4.coords t) == 1#1)) = false; rw [hc]; rfl
  exact ⟨by unfold Dat.leavesExact; rw [hi14], by unfold Dat.leavesExact; rw [hi15], by unfold Dat.leavesExact; rw [hi16], by unfold Dat.leavesExact; rw [hi17]⟩
theorem idle_else (c : Dev nD) (t : Fin cfg4.N) (h : ¬ t.val % 256 = 255) :
    (dat V c).leavesExact 14 t = iprop(∃ d, owns (c : Thread nD τ) (st4_14 t) fullShare ((dat V c).before 14 t d)) ∧ (dat V c).leavesExact 15 t = iprop(∃ d, owns (c : Thread nD τ) (st4_15 t) fullShare ((dat V c).before 15 t d)) ∧ (dat V c).leavesExact 16 t = iprop(∃ d, owns (c : Thread nD τ) (st4_16 t) fullShare ((dat V c).before 16 t d)) ∧ (dat V c).leavesExact 17 t = iprop(∃ d, owns (c : Thread nD τ) (st4_17 t) fullShare ((dat V c).before 17 t d)) := by
  have hc : ¬ k4_cond3 (grid4.coords t) = 1#1 := fun h' => h ((cond_final t).mp h')
  have hb : (k4_cond3 (grid4.coords t) == 1#1) = false := beq_eq_false_iff_ne.mpr hc
  have hi14 : cfg4.idle 14 (cfg4.grid.coords t) = true := by show (!(k4_cond3 (grid4.coords t) == 1#1)) = true; rw [hb]; rfl
  have hf14 : (cfg4.win 14).flush t = false := Bool.eq_false_iff.mpr fun h' => h ((flush4_14 t).mp h')
  have hi15 : cfg4.idle 15 (cfg4.grid.coords t) = true := by show (!(k4_cond3 (grid4.coords t) == 1#1)) = true; rw [hb]; rfl
  have hf15 : (cfg4.win 15).flush t = false := Bool.eq_false_iff.mpr fun h' => h ((flush4_15 t).mp h')
  have hi16 : cfg4.idle 16 (cfg4.grid.coords t) = true := by show (!(k4_cond3 (grid4.coords t) == 1#1)) = true; rw [hb]; rfl
  have hf16 : (cfg4.win 16).flush t = false := Bool.eq_false_iff.mpr fun h' => h ((flush4_16 t).mp h')
  have hi17 : cfg4.idle 17 (cfg4.grid.coords t) = true := by show (!(k4_cond3 (grid4.coords t) == 1#1)) = true; rw [hb]; rfl
  have hf17 : (cfg4.win 17).flush t = false := Bool.eq_false_iff.mpr fun h' => h ((flush4_17 t).mp h')
  exact ⟨(dat V c).leavesExact_idle 14 t hi14 hf14, (dat V c).leavesExact_idle 15 t hi15 hf15, (dat V c).leavesExact_idle 16 t hi16 hf16, (dat V c).leavesExact_idle 17 t hi17 hf17⟩

/-- The body at any point takes `pre` to `post`. -/
theorem sound (c : Dev nD) (t : Fin cfg4.N) :
    pre V c t ⊢ wp frame (wpE (defs₀ (F := F)) Variants.none c none) Set.univ (bodyAt4 t) (fun _ => post V c t) := by
  unfold pre post bodyAt4
  simp only [before_0, before_1, before_2, before_3, before_4, before_5, before_6, before_7, before_8, before_9]
  rw [show (dat V c).owesAt () t.succ = (dat V c).owesAt () t.castSucc from rfl, show (dat V c).Φ t.succ = Phi V c (t.val + 1) from rfl, Phi_castSucc]
  unfold Phi
  rw [show (dat V c).leavesExact 0 t = owns (c : Thread nD τ) (st4_0 t) fullShare ((dat V c).after 0 t) from rfl,
    show (dat V c).leavesExact 1 t = owns (c : Thread nD τ) (st4_1 t) fullShare ((dat V c).after 1 t) from rfl,
    show (dat V c).leavesExact 2 t = owns (c : Thread nD τ) (st4_2 t) fullShare ((dat V c).after 2 t) from rfl,
    show (dat V c).leavesExact 3 t = owns (c : Thread nD τ) (st4_3 t) fullShare ((dat V c).after 3 t) from rfl,
    show (dat V c).leavesExact 4 t = owns (c : Thread nD τ) (st4_4 t) fullShare ((dat V c).after 4 t) from rfl,
    show (dat V c).leavesExact 5 t = owns (c : Thread nD τ) (st4_5 t) fullShare ((dat V c).after 5 t) from rfl,
    show (dat V c).leavesExact 6 t = owns (c : Thread nD τ) (st4_6 t) fullShare ((dat V c).after 6 t) from rfl,
    show (dat V c).leavesExact 7 t = owns (c : Thread nD τ) (st4_7 t) fullShare ((dat V c).after 7 t) from rfl,
    show (dat V c).leavesExact 8 t = owns (c : Thread nD τ) (st4_8 t) fullShare ((dat V c).after 8 t) from rfl,
    show (dat V c).leavesExact 9 t = owns (c : Thread nD τ) (st4_9 t) fullShare ((dat V c).after 9 t) from rfl,
    show (dat V c).leavesExact 10 t = owns (c : Thread nD τ) (st4_10 t) fullShare ((dat V c).after 10 t) from rfl,
    show (dat V c).leavesExact 11 t = owns (c : Thread nD τ) (st4_11 t) fullShare ((dat V c).after 11 t) from rfl,
    show (dat V c).leavesExact 12 t = owns (c : Thread nD τ) (st4_12 t) fullShare ((dat V c).after 12 t) from rfl,
    show (dat V c).leavesExact 13 t = owns (c : Thread nD τ) (st4_13 t) fullShare ((dat V c).after 13 t) from rfl,
    after_0, after_1, after_2, after_3, after_4, after_5, after_6, after_7, after_8, after_9, after_10, after_11, after_12, after_13]
  by_cases h0 : t.val % 8 = 0
  · have hf : ¬ t.val % 256 = 255 := by omega
    obtain ⟨e14, e15, e16, e17⟩ := idle_else V c t hf
    rw [e14, e15, e16, e17]
    rw [yacc_first V c t h0, dxacc_first V c t h0]
    iintro ⟨⟨⟨%w0, %hw0, HS0⟩, ⟨%w1, %hw1, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17⟩
    iapply (run_first c (grid4.coords t) _ _ _ _ _ _ _ _ _ _ _ _ _ _ _ _ _ _ _ _ _ _ _ _ _ _ _ _ _ _ _ _ _ _ _ _ _ (Memref.isWhole_whole _) _ (Memref.isWhole_whole _) ((cond_first t).mpr h0) (fun h => by have := (cond_last t).mp h; omega) (fun h => hf ((cond_final t).mp h)) (ins V c t) w0 w1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, H9, H10, H11, H12, H13, HS0, HS1⟩
    isplitl [HS0 HS1 Hr]
    · isplitl [HS0]
      · iexists _; isplitr; swap; · iexact HS0
        ipureintro; intro _ _; exact hacc_step V c t w0 hw0
      isplitl [HS1]
      · iexists _; isplitr; swap; · iexact HS1
        ipureintro; intro _ _; exact gacc_step V c t w1 hw1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · simp only [before_12 V c t h0, before_13 V c t h0]
    have hc0 : ¬ condFirst (grid4.coords t) := fun h => h0 ((cond_first t).mp h)
    by_cases h1 : t.val % 8 = 7
    · by_cases hf : t.val % 256 = 255
      · obtain ⟨e14, e15, e16, e17⟩ := idle_last V c t hf
        rw [e14, e15, e16, e17, after_14, after_15, after_16, after_17]
        rw [yacc_last V c t h1, dxacc_last V c t h1]
        iintro ⟨⟨⟨%w0, %hw0, HS0⟩, ⟨%w1, %hw1, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        rw [← hacc_step V c t w0 hw0, ← gacc_step V c t w1 hw1]
        iapply (run_final c (grid4.coords t) _ _ _ _ _ _ _ _ _ _ _ _ _ _ _ _ _ _ _ _ _ _ _ _ _ _ _ _ _ _ _ _ _ _ _ _ _ (Memref.isWhole_whole _) _ (Memref.isWhole_whole _) hc0 ((cond_last t).mpr h1) ((cond_final t).mpr hf) (ins V c t) w0 w1 (yacc V c (t.val - 1) _) (dxacc V c (t.val - 1) _) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexact H12
        isplitl [H13]; · iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        iintro ⟨H0, H1, H2, H3, H4, H5, H6, H7, H8, H9, H10, H11, H12, H13, H14, H15, H16, H17, HS0, HS1⟩
        isplitl [HS0 HS1 Hr]
        · isplitl [HS0]
          · iexists _; isplitr; swap; · iexact HS0
            ipureintro; intro _ _; exact hacc_step V c t w0 hw0
          isplitl [HS1]
          · iexists _; isplitr; swap; · iexact HS1
            ipureintro; intro _ _; exact gacc_step V c t w1 hw1
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      · obtain ⟨e14, e15, e16, e17⟩ := idle_else V c t hf
        rw [e14, e15, e16, e17]
        rw [yacc_last V c t h1, dxacc_last V c t h1]
        iintro ⟨⟨⟨%w0, %hw0, HS0⟩, ⟨%w1, %hw1, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17⟩
        iapply (run_last c (grid4.coords t) _ _ _ _ _ _ _ _ _ _ _ _ _ _ _ _ _ _ _ _ _ _ _ _ _ _ _ _ _ _ _ _ _ _ _ _ _ (Memref.isWhole_whole _) _ (Memref.isWhole_whole _) hc0 ((cond_last t).mpr h1) (fun h => hf ((cond_final t).mp h)) (ins V c t) w0 w1 (yacc V c (t.val - 1) _) (dxacc V c (t.val - 1) _) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexact H12
        isplitl [H13]; · iexact H13
        isplitl [HS0]; · iexact HS0
        isplitl [HS1]; · iexact HS1
        iintro ⟨H0, H1, H2, H3, H4, H5, H6, H7, H8, H9, H10, H11, H12, H13, HS0, HS1⟩
        isplitl [HS0 HS1 Hr]
        · isplitl [HS0]
          · iexists _; isplitr; swap; · iexact HS0
            ipureintro; intro _ _; exact hacc_step V c t w0 hw0
          isplitl [HS1]
          · iexists _; isplitr; swap; · iexact HS1
            ipureintro; intro _ _; exact gacc_step V c t w1 hw1
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
    · have hf : ¬ t.val % 256 = 255 := by omega
      obtain ⟨e14, e15, e16, e17⟩ := idle_else V c t hf
      rw [e14, e15, e16, e17]
      rw [yacc_mid V c t h0 h1, dxacc_mid V c t h0 h1]
      iintro ⟨⟨⟨%w0, %hw0, HS0⟩, ⟨%w1, %hw1, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17⟩
      iapply (run_mid c (grid4.coords t) _ _ _ _ _ _ _ _ _ _ _ _ _ _ _ _ _ _ _ _ _ _ _ _ _ _ _ _ _ _ _ _ _ _ _ _ _ (Memref.isWhole_whole _) _ (Memref.isWhole_whole _) hc0 (fun h => h1 ((cond_last t).mp h)) (fun h => hf ((cond_final t).mp h)) (ins V c t) w0 w1 (yacc V c (t.val - 1) _) (dxacc V c (t.val - 1) _) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexact H12
      isplitl [H13]; · iexact H13
      isplitl [HS0]; · iexact HS0
      isplitl [HS1]; · iexact HS1
      iintro ⟨H0, H1, H2, H3, H4, H5, H6, H7, H8, H9, H10, H11, H12, H13, HS0, HS1⟩
      isplitl [HS0 HS1 Hr]
      · isplitl [HS0]
        · iexists _; isplitr; swap; · iexact HS0
          ipureintro; intro _ _; exact hacc_step V c t w0 hw0
        isplitl [HS1]
        · iexists _; isplitr; swap; · iexact HS1
          ipureintro; intro _ _; exact gacc_step V c t w1 hw1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17

theorem row (t : Fin cfg4.N) : (defs₀ (F := F)) .tc cfg4.body (cfg4.bodyArgs t (cfg4.slots t)) = bodyAt4 t := by
  unfold defs₀; rw [Defs.onTc_tc]

/-- The body meets the pipeline's obligation at every point. -/
theorem obligation (c : Dev nD) : BodyObligation (dat V c) (defs₀ (F := F)) Variants.none () Set.univ := fun t => by
  rw [bigSep_W4, bigSep_W4, row]
  exact triple_restated (sound V c t) rfl .rfl fun _ => .rfl

/-- The two scratches, the other scoped buffers and the random-number register make the invariant before the first point. -/
theorem hin (c : Dev nD) : iprop(Pipeline.scopedRest (Ix := Unit) (Name := ℕ) (U := UR sig nD τ) (Lvl := ℕ) (Val := Elt F) spec4 c ∗ ∃ r, prngReg c r) ⊢ (dat V c).Φ 0 := by
  rw [show (dat V c).Φ 0 = Phi V c 0 from rfl, scopedRest4_split]; unfold Phi
  simp only [owns_whole]
  iintro ⟨⟨⟨⟨%f0, HS0⟩, ⟨%f1, HS1⟩⟩, Hb⟩, Hg⟩
  isplitl [HS0]
  · iexists f0; isplitr; · ipureintro; intro _ h; exact absurd rfl h
    iexact HS0
  isplitl [HS1]
  · iexists f1; isplitr; · ipureintro; intro _ h; exact absurd rfl h
    iexact HS1
  isplitl [Hb]; · iexact Hb
  iexact Hg

/-- The invariant after the last point gives them back. -/
theorem hout (c : Dev nD) : (dat V c).Φ (Fin.last cfg4.N) ⊢ iprop(Pipeline.scopedRest (Ix := Unit) (Name := ℕ) (U := UR sig nD τ) (Lvl := ℕ) (Val := Elt F) spec4 c ∗ ∃ r, prngReg c r) := by
  rw [show (dat V c).Φ (Fin.last cfg4.N) = Phi V c cfg4.N from rfl, scopedRest4_split]; unfold Phi
  simp only [owns_whole]
  iintro ⟨⟨%f0, -, HS0⟩, ⟨%f1, -, HS1⟩, Hb, Hg⟩
  isplitl [HS0 HS1 Hb]
  · isplitl [HS0 HS1]
    · isplitl [HS0]; · iexists f0; iexact HS0
      iexists f1; iexact HS1
    iexact Hb
  iexact Hg

end Cert.KernelIdeal.Mlp

end
-- ==== Proof.Wgrad1.lean ====
/-
  The call that accumulates the first weight gradient (the sixth of the seven calls), at any float instance.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Wgrad1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's run. -/
abbrev MM (F : FTy → Type) : Type := MT nD τ sig Unit (Elt F) ℕ (UR sig nD τ) ℕ

/-- The point is the first of its output block. -/
abbrev condFirst (i : grid5.Coords) : Prop := (Scalar.cmpi .ne (Scalar.extui (Scalar.cmpi .eq (BitVec.ofNat 32 (i 2).val) 0#32)) 0#32) = 1#1
/-- The point is the last of its output block. -/
abbrev condLast (i : grid5.Coords) : Prop := (Scalar.cmpi .ne (Scalar.extui (Scalar.cmpi .eq (BitVec.ofNat 32 (i 2).val) 15#32)) 0#32) = 1#1

/-- At the first point of an output block the body starts the sum from zero. -/
theorem run_first (c : Dev nD) (i : grid5.Coords) (a1 : Memref sig .tc .vmem S1x1 .f32) (h1 : a1.IsWhole) (a2 : Memref sig .tc .vmem S1x1 .f32) (h2 : a2.IsWhole)
    (a3 : Memref sig .tc .vmem S1024x2048 .fp8e4m3) (h3 : a3.IsWhole) (a4 : Memref sig .tc .vmem S1024x2048 .fp8e5m2) (h4 : a4.IsWhole) (a5 : Memref sig .tc .vmem S2048x2048 .f32) (h5 : a5.IsWhole)
    (hc0 : condFirst i) (hc1 : ¬ condLast i)
    (x0 x1 : Vec F S1x1 .f32) (x2 : Vec F S1024x2048 .fp8e4m3) (x3 : Vec F S1024x2048 .fp8e5m2) (E : Set ℕ) (K : PUnit → sProp (MM F)) :
    iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare (k5_pay2 k5_pay1 x2 x3)) -∗ K ⟨⟩))
      ⊢ wp frame (wpE (defs₀ (F := F)) Variants.none c none) E (cc5_wgrad1 i a1 h1 a2 h2 a3 h3 a4 h4 a5 h5) K := by
  simp only [cc5_wgrad1_eq_skeleton]; unfold cc5_wgrad1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h1.eq_unread hf0; obtain rfl := h2.eq_unread hf1; obtain rfl := h3.eq_unread hf2; obtain rfl := h4.eq_unread hf3
  sl_exec (disch := first | sl_exact hc0 | sl_exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  iexists _; isplitr; swap; · iexact H4
  ipureintro
  (try delta run_first.sl.v15); (try delta run_first.sl.v3); (try delta run_first.sl.H4_2); (try delta run_first.sl.H4_1)
  rw [View.read_writes_full]; repeat rw [View.readCov_full]
  repeat rw [View.readAt_full]
  simp only [Memref.IsWhole.read_unread]

/-- At a point between, the body adds the product of its two blocks. -/
theorem run_mid (c : Dev nD) (i : grid5.Coords) (a1 : Memref sig .tc .vmem S1x1 .f32) (h1 : a1.IsWhole) (a2 : Memref sig .tc .vmem S1x1 .f32) (h2 : a2.IsWhole)
    (a3 : Memref sig .tc .vmem S1024x2048 .fp8e4m3) (h3 : a3.IsWhole) (a4 : Memref sig .tc .vmem S1024x2048 .fp8e5m2) (h4 : a4.IsWhole) (a5 : Memref sig .tc .vmem S2048x2048 .f32) (h5 : a5.IsWhole)
    (hc0 : ¬ condFirst i) (hc1 : ¬ condLast i)
    (x0 x1 : Vec F S1x1 .f32) (x2 : Vec F S1024x2048 .fp8e4m3) (x3 : Vec F S1024x2048 .fp8e5m2) (w : Vec F S2048x2048 .f32) (E : Set ℕ) (K : PUnit → sProp (MM F)) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare w
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare (k5_pay2 w x2 x3)) -∗ K ⟨⟩))
      ⊢ wp frame (wpE (defs₀ (F := F)) Variants.none c none) E (cc5_wgrad1 i a1 h1 a2 h2 a3 h3 a4 h4 a5 h5) K := by
  simp only [cc5_wgrad1_eq_skeleton]; unfold cc5_wgrad1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2; obtain rfl := h4.eq_unread hf3; obtain rfl := h5.eq_unread hf4
  sl_exec (disch := first | sl_exact hc0 | sl_exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  iexists _; isplitr; swap; · iexact H4
  ipureintro
  (try delta run_mid.sl.v15); (try delta run_mid.sl.v3); (try delta run_mid.sl.H4_2); (try delta run_mid.sl.H4_1)
  rw [View.read_writes_full]; repeat rw [View.readCov_full]
  repeat rw [View.readAt_full]
  simp only [Memref.IsWhole.read_unread]

/-- At the last point of an output block the body adds the product and multiplies by the two scales. -/
theorem run_last (c : Dev nD) (i : grid5.Coords) (a1 : Memref sig .tc .vmem S1x1 .f32) (h1 : a1.IsWhole) (a2 : Memref sig .tc .vmem S1x1 .f32) (h2 : a2.IsWhole)
    (a3 : Memref sig .tc .vmem S1024x2048 .fp8e4m3) (h3 : a3.IsWhole) (a4 : Memref sig .tc .vmem S1024x2048 .fp8e5m2) (h4 : a4.IsWhole) (a5 : Memref sig .tc .vmem S2048x2048 .f32) (h5 : a5.IsWhole)
    (hc0 : ¬ condFirst i) (hc1 : condLast i)
    (x0 x1 : Vec F S1x1 .f32) (x2 : Vec F S1024x2048 .fp8e4m3) (x3 : Vec F S1024x2048 .fp8e5m2) (w : Vec F S2048x2048 .f32) (E : Set ℕ) (K : PUnit → sProp (MM F)) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare w
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare (k5_pay3 (k5_pay2 w x2 x3) x0 x1)) -∗ K ⟨⟩))
      ⊢ wp frame (wpE (defs₀ (F := F)) Variants.none c none) E (cc5_wgrad1 i a1 h1 a2 h2 a3 h3 a4 h4 a5 h5) K := by
  simp only [cc5_wgrad1_eq_skeleton]; unfold cc5_wgrad1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2; obtain rfl := h4.eq_unread hf3; obtain rfl := h5.eq_unread hf4
  sl_exec (disch := first | sl_exact hc0 | sl_exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  iexists _; isplitr; swap; · iexact H4
  ipureintro
  (try delta run_last.sl.v15); (try delta run_last.sl.v3); (try delta run_last.sl.H4_2); (try delta run_last.sl.H4_1)
  rw [View.read_writes_full]; repeat rw [View.readCov_full]
  repeat rw [View.readAt_full]
  simp only [Memref.IsWhole.read_unread]

/-! ## The proof data -/

variable (V : Dev nD → Valuation τ sig (Elt F))

/-- Window `w`'s block at point `t`, read off its array as the call finds it. -/
def blk (c : Dev nD) (w : Fin cfg5.W) (t : Fin cfg5.N) : ((cfg5.win w).xblock (cfg5.grid.coords t)).Idx → Elt F (cfg5.win w).elt :=
  ((cfg5.win w).blk t).view.read (Elt F) (V c (Proc.devRef .tc (Pipeline.arrRef spec5 w)))

/-- What the output block holds after point `n`. -/
def acc (c : Dev nD) : (n : ℕ) → n < cfg5.N → Vec F S2048x2048 .f32
  | 0, hn => k5_pay2 k5_pay1 (blk V c 2 ⟨0, hn⟩) (blk V c 3 ⟨0, hn⟩)
  | n + 1, hn =>
    if (n + 1) % 16 = 0 then k5_pay2 k5_pay1 (blk V c 2 ⟨n + 1, hn⟩) (blk V c 3 ⟨n + 1, hn⟩)
    else if (n + 1) % 16 = 15 then k5_pay3 (k5_pay2 (acc c n (Nat.lt_of_succ_lt hn)) (blk V c 2 ⟨n + 1, hn⟩) (blk V c 3 ⟨n + 1, hn⟩)) (blk V c 0 ⟨n + 1, hn⟩) (blk V c 1 ⟨n + 1, hn⟩)
    else k5_pay2 (acc c n (Nat.lt_of_succ_lt hn)) (blk V c 2 ⟨n + 1, hn⟩) (blk V c 3 ⟨n + 1, hn⟩)

theorem acc_first (c : Dev nD) (t : Fin cfg5.N) (h0 : t.val % 16 = 0) : acc V c t.val t.isLt = k5_pay2 k5_pay1 (blk V c 2 t) (blk V c 3 t) := by
  obtain ⟨n, hn⟩ := t
  cases n with
  | zero => rfl
  | succ n => exact if_pos h0
theorem acc_last (c : Dev nD) (t : Fin cfg5.N) (h1 : t.val % 16 = 15) :
    acc V c t.val t.isLt = k5_pay3 (k5_pay2 (acc V c (t.val - 1) (Nat.lt_of_le_of_lt (Nat.sub_le _ _) t.isLt)) (blk V c 2 t) (blk V c 3 t)) (blk V c 0 t) (blk V c 1 t) := by
  obtain ⟨n, hn⟩ := t
  cases n with
  | zero => exact absurd h1 (show ¬ (0 % 16 = 15) by decide)
  | succ n => exact (if_neg (by dsimp only at h1; omega)).trans (if_pos h1)
theorem acc_mid (c : Dev nD) (t : Fin cfg5.N) (h0 : ¬ t.val % 16 = 0) (h1 : ¬ t.val % 16 = 15) :
    acc V c t.val t.isLt = k5_pay2 (acc V c (t.val - 1) (Nat.lt_of_le_of_lt (Nat.sub_le _ _) t.isLt)) (blk V c 2 t) (blk V c 3 t) := by
  obtain ⟨n, hn⟩ := t
  cases n with
  | zero => exact absurd rfl h0
  | succ n => exact (if_neg h0).trans (if_neg h1)

/-- What each window holds after each point. -/
def dat (c : Dev nD) : Dat τ (Elt F) Unit ℕ (UR sig nD τ) ℕ cfg5 c where
  A w := V c (Proc.devRef .tc (Pipeline.arrRef spec5 w))
  after w t := match w with
    | ⟨0, _⟩ => blk V c 0 t
    | ⟨1, _⟩ => blk V c 1 t
    | ⟨2, _⟩ => blk V c 2 t
    | ⟨3, _⟩ => blk V c 3 t
    | ⟨4, _⟩ => acc V c t.val t.isLt
  Φ _ := Pipeline.ΦA spec5 c
  q _ := fullShare
  owed _ := 0

theorem A_eq (c : Dev nD) (w : Fin cfg5.W) : (dat V c).A w = V c (Proc.devRef .tc (Pipeline.arrRef spec5 w)) := by dsimp only [dat]
theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = blk V c 3 t := by dsimp only [dat]
theorem after_4 (c : Dev nD) (t : Fin cfg5.N) : (dat V c).after 4 t = acc V c t.val t.isLt := by dsimp only [dat]

theorem before_0 (c : Dev nD) (t : Fin cfg5.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg5.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)
theorem before_2 (c : Dev nD) (t : Fin cfg5.N) (d) : (dat V c).before 2 t d = blk V c 2 t :=
  ((dat V c).before_in_eq_fetched 2 rfl (fun _ => rfl) (fun _ _ _ => rfl) (fun t => by rw [after_2]; unfold Dat.blockOf blk; rw [A_eq]) t d).trans
    (by unfold Dat.fetched Dat.blockOf blk; rw [A_eq]; rfl)
theorem before_3 (c : Dev nD) (t : Fin cfg5.N) (d) : (dat V c).before 3 t d = blk V c 3 t :=
  ((dat V c).before_in_eq_fetched 3 rfl (fun _ => rfl) (fun _ _ _ => rfl) (fun t => by rw [after_3]; unfold Dat.blockOf blk; rw [A_eq]) t d).trans
    (by unfold Dat.fetched Dat.blockOf blk; rw [A_eq]; rfl)
/-- Past the first point of an output block the output's staging buffer holds what the point before left. -/
theorem before_4 (c : Dev nD) (t : Fin cfg5.N) (h0 : ¬ t.val % 16 = 0) (d) :
    (dat V c).before 4 t d = acc V c (t.val - 1) (Nat.lt_of_le_of_lt (Nat.sub_le _ _) t.isLt) := by
  rw [(dat V c).before_out_kept 4 rfl t (by omega) (Bool.eq_false_iff.mpr fun h => by have := (flush5_4 _).mp h; dsimp only at this; omega)
    (fun _ => rfl) (fun _ _ => rfl), after_4]

/-! ## The body at a point -/

theorem cond_first : ∀ t : Fin cfg5.N, condFirst (grid5.coords t) ↔ t.val % 16 = 0 :=
  (fun t => by
    have ht : t.val < 64 := Nat.lt_of_lt_of_eq t.isLt N_5
    have e0 : (grid5.coords t 2).val = t.val / 1 % 16 := Pipeline.Grid.coords_val t 2 (by decide) rfl
    simp only [condFirst, e0]; word_cmp : ∀ t : Fin grid5.N, condFirst (grid5.coords t) ↔ t.val % 16 = 0)
theorem cond_last : ∀ t : Fin cfg5.N, condLast (grid5.coords t) ↔ t.val % 16 = 15 :=
  (fun t => by
    have ht : t.val < 64 := Nat.lt_of_lt_of_eq t.isLt N_5
    have e0 : (grid5.coords t 2).val = t.val / 1 % 16 := Pipeline.Grid.coords_val t 2 (by decide) rfl
    simp only [condLast, e0]; word_cmp : ∀ t : Fin grid5.N, condLast (grid5.coords t) ↔ t.val % 16 = 15)

def pre (c : Dev nD) (t : Fin cfg5.N) : sProp (MM F) :=
  iprop((dat V c).Φ t.castSucc ∗ (dat V c).owesAt () t.castSucc
    ∗ (∃ d, owns (c : Thread nD τ) (st5_0 t) fullShare ((dat V c).before 0 t d)) ∗ (∃ d, owns (c : Thread nD τ) (st5_1 t) fullShare ((dat V c).before 1 t d))
    ∗ (∃ d, owns (c : Thread nD τ) (st5_2 t) fullShare ((dat V c).before 2 t d)) ∗ (∃ d, owns (c : Thread nD τ) (st5_3 t) fullShare ((dat V c).before 3 t d))
    ∗ (∃ d, owns (c : Thread nD τ) (st5_4 t) fullShare ((dat V c).before 4 t d)))
def post (c : Dev nD) (t : Fin cfg5.N) : sProp (MM F) :=
  iprop((dat V c).Φ t.succ ∗ (dat V c).owesAt () t.succ ∗ (dat V c).leavesExact 0 t ∗ (dat V c).leavesExact 1 t ∗ (dat V c).leavesExact 2 t
    ∗ (dat V c).leavesExact 3 t ∗ (dat V c).leavesExact 4 t)

/-- The body at any point takes `pre` to `post`. -/
theorem sound (c : Dev nD) (t : Fin cfg5.N) :
    pre V c t ⊢ wp frame (wpE (defs₀ (F := F)) Variants.none c none) Set.univ (bodyAt5 t) (fun _ => post V c t) := by
  unfold pre post bodyAt5
  simp only [before_0, before_1, before_2, before_3]
  rw [show (dat V c).owesAt () t.succ = (dat V c).owesAt () t.castSucc from rfl, show (dat V c).Φ t.succ = (dat V c).Φ t.castSucc from rfl]
  rw [show (dat V c).leavesExact 0 t = owns (c : Thread nD τ) (st5_0 t) fullShare ((dat V c).after 0 t) from rfl,
    show (dat V c).leavesExact 1 t = owns (c : Thread nD τ) (st5_1 t) fullShare ((dat V c).after 1 t) from rfl,
    show (dat V c).leavesExact 2 t = owns (c : Thread nD τ) (st5_2 t) fullShare ((dat V c).after 2 t) from rfl,
    show (dat V c).leavesExact 3 t = owns (c : Thread nD τ) (st5_3 t) fullShare ((dat V c).after 3 t) from rfl,
    show (dat V c).leavesExact 4 t = owns (c : Thread nD τ) (st5_4 t) fullShare ((dat V c).after 4 t) from rfl, after_0, after_1, after_2, after_3, after_4]
  by_cases h0 : t.val % 16 = 0
  · rw [acc_first V c t h0]
    iintro ⟨Hr, Ho, ⟨%d0, H0⟩, ⟨%d1, H1⟩, ⟨%d2, H2⟩, ⟨%d3, H3⟩, ⟨%d4, H4⟩⟩
    iapply (run_first c (grid5.coords t) _ _ _ _ _ _ _ _ _ _ ((cond_first t).mpr h0) (fun h => by have := (cond_last t).mp h; omega) (blk V c 0 t) (blk V c 1 t) (blk V c 2 t) (blk V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [Hr]; · iexact Hr
    isplitl [Ho]; · iexact Ho
    isplitl [H0]; · iexact H0
    isplitl [H1]; · iexact H1
    isplitl [H2]; · iexact H2
    isplitl [H3]; · iexact H3
    iexact H4
  · simp only [before_4 V c t h0]
    have hc0 : ¬ condFirst (grid5.coords t) := fun h => h0 ((cond_first t).mp h)
    by_cases h1 : t.val % 16 = 15
    · rw [acc_last V c t h1]
      iintro ⟨Hr, Ho, ⟨%d0, H0⟩, ⟨%d1, H1⟩, ⟨%d2, H2⟩, ⟨%d3, H3⟩, ⟨%d4, H4⟩⟩
      iapply (run_last c (grid5.coords t) _ _ _ _ _ _ _ _ _ _ hc0 ((cond_last t).mpr h1) (blk V c 0 t) (blk V c 1 t) (blk V c 2 t) (blk V c 3 t) (acc V c (t.val - 1) _) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [Hr]; · iexact Hr
      isplitl [Ho]; · iexact Ho
      isplitl [H0]; · iexact H0
      isplitl [H1]; · iexact H1
      isplitl [H2]; · iexact H2
      isplitl [H3]; · iexact H3
      iexact H4
    · rw [acc_mid V c t h0 h1]
      iintro ⟨Hr, Ho, ⟨%d0, H0⟩, ⟨%d1, H1⟩, ⟨%d2, H2⟩, ⟨%d3, H3⟩, ⟨%d4, H4⟩⟩
      iapply (run_mid c (grid5.coords t) _ _ _ _ _ _ _ _ _ _ hc0 (fun h => h1 ((cond_last t).mp h)) (blk V c 0 t) (blk V c 1 t) (blk V c 2 t) (blk V c 3 t) (acc V c (t.val - 1) _) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [Hr]; · iexact Hr
      isplitl [Ho]; · iexact Ho
      isplitl [H0]; · iexact H0
      isplitl [H1]; · iexact H1
      isplitl [H2]; · iexact H2
      isplitl [H3]; · iexact H3
      iexact H4

theorem row (t : Fin cfg5.N) : (defs₀ (F := F)) .tc cfg5.body (cfg5.bodyArgs t (cfg5.slots t)) = bodyAt5 t := by
  unfold defs₀; rw [Defs.onTc_tc]

/-- The body meets the pipeline's obligation at every point. -/
theorem obligation (c : Dev nD) : BodyObligation (dat V c) (defs₀ (F := F)) Variants.none () Set.univ := fun t => by
  rw [bigSep_W5, bigSep_W5, row]
  exact triple_restated (sound V c t) rfl .rfl fun _ => .rfl

theorem hin (c : Dev nD) : iprop(Pipeline.scopedRest (Ix := Unit) (Name := ℕ) (U := UR sig nD τ) (Lvl := ℕ) (Val := Elt F) spec5 c ∗ ∃ r, prngReg c r) ⊢ (dat V c).Φ 0 := .rfl
theorem hout (c : Dev nD) : (dat V c).Φ (Fin.last cfg5.N) ⊢ iprop(Pipeline.scopedRest (Ix := Unit) (Name := ℕ) (U := UR sig nD τ) (Lvl := ℕ) (Val := Elt F) spec5 c ∗ ∃ r, prngReg c r) := .rfl

end Cert.KernelIdeal.Wgrad1

end
-- ==== Proof.Wgrad2.lean ====
/-
  The call that accumulates the second weight gradient (the seventh of the seven calls), at any float instance.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Wgrad2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's run. -/
abbrev MM (F : FTy → Type) : Type := MT nD τ sig Unit (Elt F) ℕ (UR sig nD τ) ℕ

/-- The point is the first of its output block. -/
abbrev condFirst (i : grid6.Coords) : Prop := (Scalar.cmpi .ne (Scalar.extui (Scalar.cmpi .eq (BitVec.ofNat 32 (i 2).val) 0#32)) 0#32) = 1#1
/-- The point is the last of its output block. -/
abbrev condLast (i : grid6.Coords) : Prop := (Scalar.cmpi .ne (Scalar.extui (Scalar.cmpi .eq (BitVec.ofNat 32 (i 2).val) 15#32)) 0#32) = 1#1

/-- At the first point of an output block the body starts the sum from zero. -/
theorem run_first (c : Dev nD) (i : grid6.Coords) (a1 : Memref sig .tc .vmem S1x1 .f32) (h1 : a1.IsWhole) (a2 : Memref sig .tc .vmem S1x1 .f32) (h2 : a2.IsWhole)
    (a3 : Memref sig .tc .vmem S1024x2048 .fp8e4m3) (h3 : a3.IsWhole) (a4 : Memref sig .tc .vmem S1024x2048 .fp8e5m2) (h4 : a4.IsWhole) (a5 : Memref sig .tc .vmem S2048x2048 .f32) (h5 : a5.IsWhole)
    (hc0 : condFirst i) (hc1 : ¬ condLast i)
    (x0 x1 : Vec F S1x1 .f32) (x2 : Vec F S1024x2048 .fp8e4m3) (x3 : Vec F S1024x2048 .fp8e5m2) (E : Set ℕ) (K : PUnit → sProp (MM F)) :
    iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare (k6_pay2 k6_pay1 x2 x3)) -∗ K ⟨⟩))
      ⊢ wp frame (wpE (defs₀ (F := F)) Variants.none c none) E (cc6_wgrad2 i a1 h1 a2 h2 a3 h3 a4 h4 a5 h5) K := by
  simp only [cc6_wgrad2_eq_skeleton]; unfold cc6_wgrad2_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h1.eq_unread hf0; obtain rfl := h2.eq_unread hf1; obtain rfl := h3.eq_unread hf2; obtain rfl := h4.eq_unread hf3
  sl_exec (disch := first | sl_exact hc0 | sl_exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  iexists _; isplitr; swap; · iexact H4
  ipureintro
  (try delta run_first.sl.v15); (try delta run_first.sl.v3); (try delta run_first.sl.H4_2); (try delta run_first.sl.H4_1)
  rw [View.read_writes_full]; repeat rw [View.readCov_full]
  repeat rw [View.readAt_full]
  simp only [Memref.IsWhole.read_unread]

/-- At a point between, the body adds the product of its two blocks. -/
theorem run_mid (c : Dev nD) (i : grid6.Coords) (a1 : Memref sig .tc .vmem S1x1 .f32) (h1 : a1.IsWhole) (a2 : Memref sig .tc .vmem S1x1 .f32) (h2 : a2.IsWhole)
    (a3 : Memref sig .tc .vmem S1024x2048 .fp8e4m3) (h3 : a3.IsWhole) (a4 : Memref sig .tc .vmem S1024x2048 .fp8e5m2) (h4 : a4.IsWhole) (a5 : Memref sig .tc .vmem S2048x2048 .f32) (h5 : a5.IsWhole)
    (hc0 : ¬ condFirst i) (hc1 : ¬ condLast i)
    (x0 x1 : Vec F S1x1 .f32) (x2 : Vec F S1024x2048 .fp8e4m3) (x3 : Vec F S1024x2048 .fp8e5m2) (w : Vec F S2048x2048 .f32) (E : Set ℕ) (K : PUnit → sProp (MM F)) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare w
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare (k6_pay2 w x2 x3)) -∗ K ⟨⟩))
      ⊢ wp frame (wpE (defs₀ (F := F)) Variants.none c none) E (cc6_wgrad2 i a1 h1 a2 h2 a3 h3 a4 h4 a5 h5) K := by
  simp only [cc6_wgrad2_eq_skeleton]; unfold cc6_wgrad2_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2; obtain rfl := h4.eq_unread hf3; obtain rfl := h5.eq_unread hf4
  sl_exec (disch := first | sl_exact hc0 | sl_exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  iexists _; isplitr; swap; · iexact H4
  ipureintro
  (try delta run_mid.sl.v15); (try delta run_mid.sl.v3); (try delta run_mid.sl.H4_2); (try delta run_mid.sl.H4_1)
  rw [View.read_writes_full]; repeat rw [View.readCov_full]
  repeat rw [View.readAt_full]
  simp only [Memref.IsWhole.read_unread]

/-- At the last point of an output block the body adds the product and multiplies by the two scales. -/
theorem run_last (c : Dev nD) (i : grid6.Coords) (a1 : Memref sig .tc .vmem S1x1 .f32) (h1 : a1.IsWhole) (a2 : Memref sig .tc .vmem S1x1 .f32) (h2 : a2.IsWhole)
    (a3 : Memref sig .tc .vmem S1024x2048 .fp8e4m3) (h3 : a3.IsWhole) (a4 : Memref sig .tc .vmem S1024x2048 .fp8e5m2) (h4 : a4.IsWhole) (a5 : Memref sig .tc .vmem S2048x2048 .f32) (h5 : a5.IsWhole)
    (hc0 : ¬ condFirst i) (hc1 : condLast i)
    (x0 x1 : Vec F S1x1 .f32) (x2 : Vec F S1024x2048 .fp8e4m3) (x3 : Vec F S1024x2048 .fp8e5m2) (w : Vec F S2048x2048 .f32) (E : Set ℕ) (K : PUnit → sProp (MM F)) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare w
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare (k6_pay3 (k6_pay2 w x2 x3) x0 x1)) -∗ K ⟨⟩))
      ⊢ wp frame (wpE (defs₀ (F := F)) Variants.none c none) E (cc6_wgrad2 i a1 h1 a2 h2 a3 h3 a4 h4 a5 h5) K := by
  simp only [cc6_wgrad2_eq_skeleton]; unfold cc6_wgrad2_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2; obtain rfl := h4.eq_unread hf3; obtain rfl := h5.eq_unread hf4
  sl_exec (disch := first | sl_exact hc0 | sl_exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  iexists _; isplitr; swap; · iexact H4
  ipureintro
  (try delta run_last.sl.v15); (try delta run_last.sl.v3); (try delta run_last.sl.H4_2); (try delta run_last.sl.H4_1)
  rw [View.read_writes_full]; repeat rw [View.readCov_full]
  repeat rw [View.readAt_full]
  simp only [Memref.IsWhole.read_unread]

/-! ## The proof data -/

variable (V : Dev nD → Valuation τ sig (Elt F))

/-- Window `w`'s block at point `t`, read off its array as the call finds it. -/
def blk (c : Dev nD) (w : Fin cfg6.W) (t : Fin cfg6.N) : ((cfg6.win w).xblock (cfg6.grid.coords t)).Idx → Elt F (cfg6.win w).elt :=
  ((cfg6.win w).blk t).view.read (Elt F) (V c (Proc.devRef .tc (Pipeline.arrRef spec6 w)))

/-- What the output block holds after point `n`. -/
def acc (c : Dev nD) : (n : ℕ) → n < cfg6.N → Vec F S2048x2048 .f32
  | 0, hn => k6_pay2 k6_pay1 (blk V c 2 ⟨0, hn⟩) (blk V c 3 ⟨0, hn⟩)
  | n + 1, hn =>
    if (n + 1) % 16 = 0 then k6_pay2 k6_pay1 (blk V c 2 ⟨n + 1, hn⟩) (blk V c 3 ⟨n + 1, hn⟩)
    else if (n + 1) % 16 = 15 then k6_pay3 (k6_pay2 (acc c n (Nat.lt_of_succ_lt hn)) (blk V c 2 ⟨n + 1, hn⟩) (blk V c 3 ⟨n + 1, hn⟩)) (blk V c 0 ⟨n + 1, hn⟩) (blk V c 1 ⟨n + 1, hn⟩)
    else k6_pay2 (acc c n (Nat.lt_of_succ_lt hn)) (blk V c 2 ⟨n + 1, hn⟩) (blk V c 3 ⟨n + 1, hn⟩)

theorem acc_first (c : Dev nD) (t : Fin cfg6.N) (h0 : t.val % 16 = 0) : acc V c t.val t.isLt = k6_pay2 k6_pay1 (blk V c 2 t) (blk V c 3 t) := by
  obtain ⟨n, hn⟩ := t
  cases n with
  | zero => rfl
  | succ n => exact if_pos h0
theorem acc_last (c : Dev nD) (t : Fin cfg6.N) (h1 : t.val % 16 = 15) :
    acc V c t.val t.isLt = k6_pay3 (k6_pay2 (acc V c (t.val - 1) (Nat.lt_of_le_of_lt (Nat.sub_le _ _) t.isLt)) (blk V c 2 t) (blk V c 3 t)) (blk V c 0 t) (blk V c 1 t) := by
  obtain ⟨n, hn⟩ := t
  cases n with
  | zero => exact absurd h1 (show ¬ (0 % 16 = 15) by decide)
  | succ n => exact (if_neg (by dsimp only at h1; omega)).trans (if_pos h1)
theorem acc_mid (c : Dev nD) (t : Fin cfg6.N) (h0 : ¬ t.val % 16 = 0) (h1 : ¬ t.val % 16 = 15) :
    acc V c t.val t.isLt = k6_pay2 (acc V c (t.val - 1) (Nat.lt_of_le_of_lt (Nat.sub_le _ _) t.isLt)) (blk V c 2 t) (blk V c 3 t) := by
  obtain ⟨n, hn⟩ := t
  cases n with
  | zero => exact absurd rfl h0
  | succ n => exact (if_neg h0).trans (if_neg h1)

/-- What each window holds after each point. -/
def dat (c : Dev nD) : Dat τ (Elt F) Unit ℕ (UR sig nD τ) ℕ cfg6 c where
  A w := V c (Proc.devRef .tc (Pipeline.arrRef spec6 w))
  after w t := match w with
    | ⟨0, _⟩ => blk V c 0 t
    | ⟨1, _⟩ => blk V c 1 t
    | ⟨2, _⟩ => blk V c 2 t
    | ⟨3, _⟩ => blk V c 3 t
    | ⟨4, _⟩ => acc V c t.val t.isLt
  Φ _ := Pipeline.ΦA spec6 c
  q _ := fullShare
  owed _ := 0

theorem A_eq (c : Dev nD) (w : Fin cfg6.W) : (dat V c).A w = V c (Proc.devRef .tc (Pipeline.arrRef spec6 w)) := by dsimp only [dat]
theorem after_0 (c : Dev nD) (t : Fin cfg6.N) : (dat V c).after 0 t = blk V c 0 t := by dsimp only [dat]
theorem after_1 (c : Dev nD) (t : Fin cfg6.N) : (dat V c).after 1 t = blk V c 1 t := by dsimp only [dat]
theorem after_2 (c : Dev nD) (t : Fin cfg6.N) : (dat V c).after 2 t = blk V c 2 t := by dsimp only [dat]
theorem after_3 (c : Dev nD) (t : Fin cfg6.N) : (dat V c).after 3 t = blk V c 3 t := by dsimp only [dat]
theorem after_4 (c : Dev nD) (t : Fin cfg6.N) : (dat V c).after 4 t = acc V c t.val t.isLt := by dsimp only [dat]

theorem before_0 (c : Dev nD) (t : Fin cfg6.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg6.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)
theorem before_2 (c : Dev nD) (t : Fin cfg6.N) (d) : (dat V c).before 2 t d = blk V c 2 t :=
  ((dat V c).before_in_eq_fetched 2 rfl (fun _ => rfl) (fun _ _ _ => rfl) (fun t => by rw [after_2]; unfold Dat.blockOf blk; rw [A_eq]) t d).trans
    (by unfold Dat.fetched Dat.blockOf blk; rw [A_eq]; rfl)
theorem before_3 (c : Dev nD) (t : Fin cfg6.N) (d) : (dat V c).before 3 t d = blk V c 3 t :=
  ((dat V c).before_in_eq_fetched 3 rfl (fun _ => rfl) (fun _ _ _ => rfl) (fun t => by rw [after_3]; unfold Dat.blockOf blk; rw [A_eq]) t d).trans
    (by unfold Dat.fetched Dat.blockOf blk; rw [A_eq]; rfl)
/-- Past the first point of an output block the output's staging buffer holds what the point before left. -/
theorem before_4 (c : Dev nD) (t : Fin cfg6.N) (h0 : ¬ t.val % 16 = 0) (d) :
    (dat V c).before 4 t d = acc V c (t.val - 1) (Nat.lt_of_le_of_lt (Nat.sub_le _ _) t.isLt) := by
  rw [(dat V c).before_out_kept 4 rfl t (by omega) (Bool.eq_false_iff.mpr fun h => by have := (flush6_4 _).mp h; dsimp only at this; omega)
    (fun _ => rfl) (fun _ _ => rfl), after_4]

/-! ## The body at a point -/

theorem cond_first : ∀ t : Fin cfg6.N, condFirst (grid6.coords t) ↔ t.val % 16 = 0 :=
  (fun t => by
    have ht : t.val < 64 := Nat.lt_of_lt_of_eq t.isLt N_6
    have e0 : (grid6.coords t 2).val = t.val / 1 % 16 := Pipeline.Grid.coords_val t 2 (by decide) rfl
    simp only [condFirst, e0]; word_cmp : ∀ t : Fin grid6.N, condFirst (grid6.coords t) ↔ t.val % 16 = 0)
theorem cond_last : ∀ t : Fin cfg6.N, condLast (grid6.coords t) ↔ t.val % 16 = 15 :=
  (fun t => by
    have ht : t.val < 64 := Nat.lt_of_lt_of_eq t.isLt N_6
    have e0 : (grid6.coords t 2).val = t.val / 1 % 16 := Pipeline.Grid.coords_val t 2 (by decide) rfl
    simp only [condLast, e0]; word_cmp : ∀ t : Fin grid6.N, condLast (grid6.coords t) ↔ t.val % 16 = 15)

def pre (c : Dev nD) (t : Fin cfg6.N) : sProp (MM F) :=
  iprop((dat V c).Φ t.castSucc ∗ (dat V c).owesAt () t.castSucc
    ∗ (∃ d, owns (c : Thread nD τ) (st6_0 t) fullShare ((dat V c).before 0 t d)) ∗ (∃ d, owns (c : Thread nD τ) (st6_1 t) fullShare ((dat V c).before 1 t d))
    ∗ (∃ d, owns (c : Thread nD τ) (st6_2 t) fullShare ((dat V c).before 2 t d)) ∗ (∃ d, owns (c : Thread nD τ) (st6_3 t) fullShare ((dat V c).before 3 t d))
    ∗ (∃ d, owns (c : Thread nD τ) (st6_4 t) fullShare ((dat V c).before 4 t d)))
def post (c : Dev nD) (t : Fin cfg6.N) : sProp (MM F) :=
  iprop((dat V c).Φ t.succ ∗ (dat V c).owesAt () t.succ ∗ (dat V c).leavesExact 0 t ∗ (dat V c).leavesExact 1 t ∗ (dat V c).leavesExact 2 t
    ∗ (dat V c).leavesExact 3 t ∗ (dat V c).leavesExact 4 t)

/-- The body at any point takes `pre` to `post`. -/
theorem sound (c : Dev nD) (t : Fin cfg6.N) :
    pre V c t ⊢ wp frame (wpE (defs₀ (F := F)) Variants.none c none) Set.univ (bodyAt6 t) (fun _ => post V c t) := by
  unfold pre post bodyAt6
  simp only [before_0, before_1, before_2, before_3]
  rw [show (dat V c).owesAt () t.succ = (dat V c).owesAt () t.castSucc from rfl, show (dat V c).Φ t.succ = (dat V c).Φ t.castSucc from rfl]
  rw [show (dat V c).leavesExact 0 t = owns (c : Thread nD τ) (st6_0 t) fullShare ((dat V c).after 0 t) from rfl,
    show (dat V c).leavesExact 1 t = owns (c : Thread nD τ) (st6_1 t) fullShare ((dat V c).after 1 t) from rfl,
    show (dat V c).leavesExact 2 t = owns (c : Thread nD τ) (st6_2 t) fullShare ((dat V c).after 2 t) from rfl,
    show (dat V c).leavesExact 3 t = owns (c : Thread nD τ) (st6_3 t) fullShare ((dat V c).after 3 t) from rfl,
    show (dat V c).leavesExact 4 t = owns (c : Thread nD τ) (st6_4 t) fullShare ((dat V c).after 4 t) from rfl, after_0, after_1, after_2, after_3, after_4]
  by_cases h0 : t.val % 16 = 0
  · rw [acc_first V c t h0]
    iintro ⟨Hr, Ho, ⟨%d0, H0⟩, ⟨%d1, H1⟩, ⟨%d2, H2⟩, ⟨%d3, H3⟩, ⟨%d4, H4⟩⟩
    iapply (run_first c (grid6.coords t) _ _ _ _ _ _ _ _ _ _ ((cond_first t).mpr h0) (fun h => by have := (cond_last t).mp h; omega) (blk V c 0 t) (blk V c 1 t) (blk V c 2 t) (blk V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [Hr]; · iexact Hr
    isplitl [Ho]; · iexact Ho
    isplitl [H0]; · iexact H0
    isplitl [H1]; · iexact H1
    isplitl [H2]; · iexact H2
    isplitl [H3]; · iexact H3
    iexact H4
  · simp only [before_4 V c t h0]
    have hc0 : ¬ condFirst (grid6.coords t) := fun h => h0 ((cond_first t).mp h)
    by_cases h1 : t.val % 16 = 15
    · rw [acc_last V c t h1]
      iintro ⟨Hr, Ho, ⟨%d0, H0⟩, ⟨%d1, H1⟩, ⟨%d2, H2⟩, ⟨%d3, H3⟩, ⟨%d4, H4⟩⟩
      iapply (run_last c (grid6.coords t) _ _ _ _ _ _ _ _ _ _ hc0 ((cond_last t).mpr h1) (blk V c 0 t) (blk V c 1 t) (blk V c 2 t) (blk V c 3 t) (acc V c (t.val - 1) _) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [Hr]; · iexact Hr
      isplitl [Ho]; · iexact Ho
      isplitl [H0]; · iexact H0
      isplitl [H1]; · iexact H1
      isplitl [H2]; · iexact H2
      isplitl [H3]; · iexact H3
      iexact H4
    · rw [acc_mid V c t h0 h1]
      iintro ⟨Hr, Ho, ⟨%d0, H0⟩, ⟨%d1, H1⟩, ⟨%d2, H2⟩, ⟨%d3, H3⟩, ⟨%d4, H4⟩⟩
      iapply (run_mid c (grid6.coords t) _ _ _ _ _ _ _ _ _ _ hc0 (fun h => h1 ((cond_last t).mp h)) (blk V c 0 t) (blk V c 1 t) (blk V c 2 t) (blk V c 3 t) (acc V c (t.val - 1) _) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [Hr]; · iexact Hr
      isplitl [Ho]; · iexact Ho
      isplitl [H0]; · iexact H0
      isplitl [H1]; · iexact H1
      isplitl [H2]; · iexact H2
      isplitl [H3]; · iexact H3
      iexact H4

theorem row (t : Fin cfg6.N) : (defs₀ (F := F)) .tc cfg6.body (cfg6.bodyArgs t (cfg6.slots t)) = bodyAt6 t := by
  unfold defs₀; rw [Defs.onTc_tc]

/-- The body meets the pipeline's obligation at every point. -/
theorem obligation (c : Dev nD) : BodyObligation (dat V c) (defs₀ (F := F)) Variants.none () Set.univ := fun t => by
  rw [bigSep_W6, bigSep_W6, row]
  exact triple_restated (sound V c t) rfl .rfl fun _ => .rfl

theorem hin (c : Dev nD) : iprop(Pipeline.scopedRest (Ix := Unit) (Name := ℕ) (U := UR sig nD τ) (Lvl := ℕ) (Val := Elt F) spec6 c ∗ ∃ r, prngReg c r) ⊢ (dat V c).Φ 0 := .rfl
theorem hout (c : Dev nD) : (dat V c).Φ (Fin.last cfg6.N) ⊢ iprop(Pipeline.scopedRest (Ix := Unit) (Name := ℕ) (U := UR sig nD τ) (Lvl := ℕ) (Val := Elt F) spec6 c ∗ ∃ r, prngReg c r) := .rfl

end Cert.KernelIdeal.Wgrad2

end
-- ==== Proof.Run.lean ====
/-
  The whole program at any float instance: its host operations and its seven calls, one after the other. From any memory it
  runs to the end, and every buffer that outlives the run then holds what the chain `W13` says.
-/
module

public import proofs.«01_k».proof.Proof.QuantX
public import proofs.«01_k».proof.Proof.QuantDy
public import proofs.«01_k».proof.Proof.QuantW1
public import proofs.«01_k».proof.Proof.QuantW2
public import proofs.«01_k».proof.Proof.Mlp
public import proofs.«01_k».proof.Proof.Wgrad1
public import proofs.«01_k».proof.Proof.Wgrad2
public import proofs.«01_k».proof.Proof.Gen.KernelIdeal.Regions

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-- The resource algebra of the program's run. -/
abbrev MM (F : FTy → Type) : Type := MT nD τ sig Unit (Elt F) ℕ (UR sig nD τ) ℕ

variable (m : (ℓ : Loc nD τ sig) → Buf (Elt F) ℓ) (ρ : Dev nD → PrngReg)

/-! ## The buffers after each item of the program -/

def W0 (c : Dev nD) : Valuation τ sig (Elt F) := fun b => m (c, b)
def W1 (c : Dev nD) : Valuation τ sig (Elt F) := StableHlo.after hostOps0 (W0 m c)
def W2 (c : Dev nD) : Valuation τ sig (Elt F) := Pipeline.afterRegion (QuantX.dat (W1 m) c) (W1 m c)
def W3 (c : Dev nD) : Valuation τ sig (Elt F) := StableHlo.after hostOps1 (W2 m c)
def W4 (c : Dev nD) : Valuation τ sig (Elt F) := Pipeline.afterRegion (QuantDy.dat (W3 m) c) (W3 m c)
def W5 (c : Dev nD) : Valuation τ sig (Elt F) := StableHlo.after hostOps2 (W4 m c)
def W6 (c : Dev nD) : Valuation τ sig (Elt F) := Pipeline.afterRegion (QuantW1.dat (W5 m) c) (W5 m c)
def W7 (c : Dev nD) : Valuation τ sig (Elt F) := StableHlo.after hostOps3 (W6 m c)
def W8 (c : Dev nD) : Valuation τ sig (Elt F) := Pipeline.afterRegion (QuantW2.dat (W7 m) c) (W7 m c)
def W9 (c : Dev nD) : Valuation τ sig (Elt F) := StableHlo.after hostOps4 (W8 m c)
def W10 (c : Dev nD) : Valuation τ sig (Elt F) := Pipeline.afterRegion (Mlp.dat (W9 m) c) (W9 m c)
def W11 (c : Dev nD) : Valuation τ sig (Elt F) := Pipeline.afterRegion (Wgrad1.dat (W10 m) c) (W10 m c)
def W12 (c : Dev nD) : Valuation τ sig (Elt F) := Pipeline.afterRegion (Wgrad2.dat (W11 m) c) (W11 m c)
def W13 (c : Dev nD) : Valuation τ sig (Elt F) := StableHlo.after hostOps7 (W12 m c)

/-- The proof data of the seven calls. -/
def pdats : (p : Fin 7) → (c : Dev nD) → Dat τ (Elt F) Unit ℕ (UR sig nD τ) ℕ (cfgs p) c
  | 0 => QuantX.dat (W1 m)
  | 1 => QuantDy.dat (W3 m)
  | 2 => QuantW1.dat (W5 m)
  | 3 => QuantW2.dat (W7 m)
  | 4 => Mlp.dat (W9 m)
  | 5 => Wgrad1.dat (W10 m)
  | 6 => Wgrad2.dat (W11 m)

/-- One level, on the core's own semaphores. -/
abbrev Lv : GSem nD τ sig → Finset Unit := fun g => if g.1.2 = .tc then {()} else ∅
abbrev lv : GSem nD τ sig → Unit → ℕ := fun _ _ => 0
/-- What rides along between the items: nothing owed, and the random-number register. -/
abbrev E (c : Dev nD) : sProp (MM F) := iprop((∃ W, owes (c : Thread nD τ) (0 : CellTallies nD τ sig Unit) W) ∗ (∃ r, prngReg c r) ∗ emp)

theorem cut (p : Fin 7) : Pipeline.LevelCut (pcfgs (F := F)) adm () (Lv) (lv) p (fun _ => 0) (fun _ => 0) where
  hι := fun c w s => by simp [Lv]
  hιb := fun c w s => Nat.le_refl _
  hD := fun c g i h => absurd h (Nat.lt_irrefl _)

def H0 : HostSeg (Ix := Unit) (Name := ℕ) (U := UR sig nD τ) (Lvl := ℕ) (pcfgs (F := F)) defs₀ Variants.none Lv lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) E
def H1 : HostSeg (Ix := Unit) (Name := ℕ) (U := UR sig nD τ) (Lvl := ℕ) (pcfgs (F := F)) defs₀ Variants.none Lv lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) E
def H2 : HostSeg (Ix := Unit) (Name := ℕ) (U := UR sig nD τ) (Lvl := ℕ) (pcfgs (F := F)) defs₀ Variants.none Lv lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) E
def H3 : HostSeg (Ix := Unit) (Name := ℕ) (U := UR sig nD τ) (Lvl := ℕ) (pcfgs (F := F)) defs₀ Variants.none Lv lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) E
def H4 : HostSeg (Ix := Unit) (Name := ℕ) (U := UR sig nD τ) (Lvl := ℕ) (pcfgs (F := F)) defs₀ Variants.none Lv lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W8 m) E
def H7 : HostSeg (Ix := Unit) (Name := ℕ) (U := UR sig nD τ) (Lvl := ℕ) (pcfgs (F := F)) defs₀ Variants.none Lv lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (W12 m) E
set_option backward.isDefEq.respectTransparency.types false in
def R0 : RegionSeg (pcfgs (F := F)) adm (pdats m) () defs₀ Variants.none Lv lv 0 :=
  RegionSeg.ofHeldIn (pcfgs (F := F)) adm (pdats m) () defs₀ Variants.none Lv lv 0 (fun _ => 0) (Pipeline.ucRefs τ sig)
    (fun c => iprop(∃ r, prngReg c r)) (fun c => iprop(∃ r, prngReg c r)) launch0.toP rfl
    (fun c => (QuantX.obligation (W1 m) c).loose) (fun _ _ => rfl) (fun _ => rfl) (fun c => (QuantX.dat (W1 m) c).share_full fun _ => rfl)
    (QuantX.hin (W1 m)) (QuantX.hout (W1 m)) (fun _ => 0) (cut 0) (fun _ => iprop(emp)) (W1 m) (fun c w => rfl)
set_option backward.isDefEq.respectTransparency.types false in
theorem R0_pre (c : Dev nD) : iprop(StableHlo.held (c : Thread nD τ) (Pipeline.ucRefs τ sig) (W1 m c) ∗ E c) ⊢ (R0 m).pre c :=
  (RegionSeg.ofHeldIn_pre (pcs := pcfgs (F := F)) (a := adm) (pdats := pdats m) (ι := ()) (defs₀ := defs₀) (𝒱₀ := Variants.none) (L := Lv) (lv := lv) (p := 0) (D := fun _ => 0)
    (S := Pipeline.ucRefs τ sig) (X := fun c => iprop(∃ r, prngReg c r)) (Y := fun c => iprop(∃ r, prngReg c r)) (kit := launch0.toP) (hK := rfl)
    (hbody := fun c => (QuantX.obligation (W1 m) c).loose) (howed := fun _ _ => rfl) (hrec := fun _ => rfl) (hshare := fun c => (QuantX.dat (W1 m) c).share_full fun _ => rfl)
    (hin := QuantX.hin (W1 m)) (hout := QuantX.hout (W1 m)) (b := fun _ => 0) (hcut := cut 0) (R := fun _ => iprop(emp)) (W := W1 m) (hW := fun c w => rfl)
    (Pipeline.arrRefs_sub_ucRefs spec0 winFacts0.arr_unscoped) c :)
set_option backward.isDefEq.respectTransparency.types false in
theorem R0_post (c : Dev nD) : (R0 m).post c ⊢ iprop(StableHlo.held (c : Thread nD τ) (Pipeline.ucRefs τ sig) (W2 m c) ∗ E c) :=
  (RegionSeg.ofHeldIn_post (pcs := pcfgs (F := F)) (a := adm) (pdats := pdats m) (ι := ()) (defs₀ := defs₀) (𝒱₀ := Variants.none) (L := Lv) (lv := lv) (p := 0) (D := fun _ => 0)
    (S := Pipeline.ucRefs τ sig) (X := fun c => iprop(∃ r, prngReg c r)) (Y := fun c => iprop(∃ r, prngReg c r)) (kit := launch0.toP) (hK := rfl)
    (hbody := fun c => (QuantX.obligation (W1 m) c).loose) (howed := fun _ _ => rfl) (hrec := fun _ => rfl) (hshare := fun c => (QuantX.dat (W1 m) c).share_full fun _ => rfl)
    (hin := QuantX.hin (W1 m)) (hout := QuantX.hout (W1 m)) (b := fun _ => 0) (hcut := cut 0) (R := fun _ => iprop(emp)) (W := W1 m) (hW := fun c w => rfl)
    (Pipeline.arrRefs_sub_ucRefs spec0 winFacts0.arr_unscoped) c :)
set_option backward.isDefEq.respectTransparency.types false in
def R1 : RegionSeg (pcfgs (F := F)) adm (pdats m) () defs₀ Variants.none Lv lv 1 :=
  RegionSeg.ofHeldIn (pcfgs (F := F)) adm (pdats m) () defs₀ Variants.none Lv lv 1 (fun _ => 0) (Pipeline.ucRefs τ sig)
    (fun c => iprop(∃ r, prngReg c r)) (fun c => iprop(∃ r, prngReg c r)) launch1.toP rfl
    (fun c => (QuantDy.obligation (W3 m) c).loose) (fun _ _ => rfl) (fun _ => rfl) (fun c => (QuantDy.dat (W3 m) c).share_full fun _ => rfl)
    (QuantDy.hin (W3 m)) (QuantDy.hout (W3 m)) (fun _ => 0) (cut 1) (fun _ => iprop(emp)) (W3 m) (fun c w => rfl)
set_option backward.isDefEq.respectTransparency.types false in
theorem R1_pre (c : Dev nD) : iprop(StableHlo.held (c : Thread nD τ) (Pipeline.ucRefs τ sig) (W3 m c) ∗ E c) ⊢ (R1 m).pre c :=
  (RegionSeg.ofHeldIn_pre (pcs := pcfgs (F := F)) (a := adm) (pdats := pdats m) (ι := ()) (defs₀ := defs₀) (𝒱₀ := Variants.none) (L := Lv) (lv := lv) (p := 1) (D := fun _ => 0)
    (S := Pipeline.ucRefs τ sig) (X := fun c => iprop(∃ r, prngReg c r)) (Y := fun c => iprop(∃ r, prngReg c r)) (kit := launch1.toP) (hK := rfl)
    (hbody := fun c => (QuantDy.obligation (W3 m) c).loose) (howed := fun _ _ => rfl) (hrec := fun _ => rfl) (hshare := fun c => (QuantDy.dat (W3 m) c).share_full fun _ => rfl)
    (hin := QuantDy.hin (W3 m)) (hout := QuantDy.hout (W3 m)) (b := fun _ => 0) (hcut := cut 1) (R := fun _ => iprop(emp)) (W := W3 m) (hW := fun c w => rfl)
    (Pipeline.arrRefs_sub_ucRefs spec1 winFacts1.arr_unscoped) c :)
set_option backward.isDefEq.respectTransparency.types false in
theorem R1_post (c : Dev nD) : (R1 m).post c ⊢ iprop(StableHlo.held (c : Thread nD τ) (Pipeline.ucRefs τ sig) (W4 m c) ∗ E c) :=
  (RegionSeg.ofHeldIn_post (pcs := pcfgs (F := F)) (a := adm) (pdats := pdats m) (ι := ()) (defs₀ := defs₀) (𝒱₀ := Variants.none) (L := Lv) (lv := lv) (p := 1) (D := fun _ => 0)
    (S := Pipeline.ucRefs τ sig) (X := fun c => iprop(∃ r, prngReg c r)) (Y := fun c => iprop(∃ r, prngReg c r)) (kit := launch1.toP) (hK := rfl)
    (hbody := fun c => (QuantDy.obligation (W3 m) c).loose) (howed := fun _ _ => rfl) (hrec := fun _ => rfl) (hshare := fun c => (QuantDy.dat (W3 m) c).share_full fun _ => rfl)
    (hin := QuantDy.hin (W3 m)) (hout := QuantDy.hout (W3 m)) (b := fun _ => 0) (hcut := cut 1) (R := fun _ => iprop(emp)) (W := W3 m) (hW := fun c w => rfl)
    (Pipeline.arrRefs_sub_ucRefs spec1 winFacts1.arr_unscoped) c :)
set_option backward.isDefEq.respectTransparency.types false in
def R2 : RegionSeg (pcfgs (F := F)) adm (pdats m) () defs₀ Variants.none Lv lv 2 :=
  RegionSeg.ofHeldIn (pcfgs (F := F)) adm (pdats m) () defs₀ Variants.none Lv lv 2 (fun _ => 0) (Pipeline.ucRefs τ sig)
    (fun c => iprop(∃ r, prngReg c r)) (fun c => iprop(∃ r, prngReg c r)) launch2.toP rfl
    (fun c => (QuantW1.obligation (W5 m) c).loose) (fun _ _ => rfl) (fun _ => rfl) (fun c => (QuantW1.dat (W5 m) c).share_full fun _ => rfl)
    (QuantW1.hin (W5 m)) (QuantW1.hout (W5 m)) (fun _ => 0) (cut 2) (fun _ => iprop(emp)) (W5 m) (fun c w => rfl)
set_option backward.isDefEq.respectTransparency.types false in
theorem R2_pre (c : Dev nD) : iprop(StableHlo.held (c : Thread nD τ) (Pipeline.ucRefs τ sig) (W5 m c) ∗ E c) ⊢ (R2 m).pre c :=
  (RegionSeg.ofHeldIn_pre (pcs := pcfgs (F := F)) (a := adm) (pdats := pdats m) (ι := ()) (defs₀ := defs₀) (𝒱₀ := Variants.none) (L := Lv) (lv := lv) (p := 2) (D := fun _ => 0)
    (S := Pipeline.ucRefs τ sig) (X := fun c => iprop(∃ r, prngReg c r)) (Y := fun c => iprop(∃ r, prngReg c r)) (kit := launch2.toP) (hK := rfl)
    (hbody := fun c => (QuantW1.obligation (W5 m) c).loose) (howed := fun _ _ => rfl) (hrec := fun _ => rfl) (hshare := fun c => (QuantW1.dat (W5 m) c).share_full fun _ => rfl)
    (hin := QuantW1.hin (W5 m)) (hout := QuantW1.hout (W5 m)) (b := fun _ => 0) (hcut := cut 2) (R := fun _ => iprop(emp)) (W := W5 m) (hW := fun c w => rfl)
    (Pipeline.arrRefs_sub_ucRefs spec2 winFacts2.arr_unscoped) c :)
set_option backward.isDefEq.respectTransparency.types false in
theorem R2_post (c : Dev nD) : (R2 m).post c ⊢ iprop(StableHlo.held (c : Thread nD τ) (Pipeline.ucRefs τ sig) (W6 m c) ∗ E c) :=
  (RegionSeg.ofHeldIn_post (pcs := pcfgs (F := F)) (a := adm) (pdats := pdats m) (ι := ()) (defs₀ := defs₀) (𝒱₀ := Variants.none) (L := Lv) (lv := lv) (p := 2) (D := fun _ => 0)
    (S := Pipeline.ucRefs τ sig) (X := fun c => iprop(∃ r, prngReg c r)) (Y := fun c => iprop(∃ r, prngReg c r)) (kit := launch2.toP) (hK := rfl)
    (hbody := fun c => (QuantW1.obligation (W5 m) c).loose) (howed := fun _ _ => rfl) (hrec := fun _ => rfl) (hshare := fun c => (QuantW1.dat (W5 m) c).share_full fun _ => rfl)
    (hin := QuantW1.hin (W5 m)) (hout := QuantW1.hout (W5 m)) (b := fun _ => 0) (hcut := cut 2) (R := fun _ => iprop(emp)) (W := W5 m) (hW := fun c w => rfl)
    (Pipeline.arrRefs_sub_ucRefs spec2 winFacts2.arr_unscoped) c :)
set_option backward.isDefEq.respectTransparency.types false in
def R3 : RegionSeg (pcfgs (F := F)) adm (pdats m) () defs₀ Variants.none Lv lv 3 :=
  RegionSeg.ofHeldIn (pcfgs (F := F)) adm (pdats m) () defs₀ Variants.none Lv lv 3 (fun _ => 0) (Pipeline.ucRefs τ sig)
    (fun c => iprop(∃ r, prngReg c r)) (fun c => iprop(∃ r, prngReg c r)) launch3.toP rfl
    (fun c => (QuantW2.obligation (W7 m) c).loose) (fun _ _ => rfl) (fun _ => rfl) (fun c => (QuantW2.dat (W7 m) c).share_full fun _ => rfl)
    (QuantW2.hin (W7 m)) (QuantW2.hout (W7 m)) (fun _ => 0) (cut 3) (fun _ => iprop(emp)) (W7 m) (fun c w => rfl)
set_option backward.isDefEq.respectTransparency.types false in
theorem R3_pre (c : Dev nD) : iprop(StableHlo.held (c : Thread nD τ) (Pipeline.ucRefs τ sig) (W7 m c) ∗ E c) ⊢ (R3 m).pre c :=
  (RegionSeg.ofHeldIn_pre (pcs := pcfgs (F := F)) (a := adm) (pdats := pdats m) (ι := ()) (defs₀ := defs₀) (𝒱₀ := Variants.none) (L := Lv) (lv := lv) (p := 3) (D := fun _ => 0)
    (S := Pipeline.ucRefs τ sig) (X := fun c => iprop(∃ r, prngReg c r)) (Y := fun c => iprop(∃ r, prngReg c r)) (kit := launch3.toP) (hK := rfl)
    (hbody := fun c => (QuantW2.obligation (W7 m) c).loose) (howed := fun _ _ => rfl) (hrec := fun _ => rfl) (hshare := fun c => (QuantW2.dat (W7 m) c).share_full fun _ => rfl)
    (hin := QuantW2.hin (W7 m)) (hout := QuantW2.hout (W7 m)) (b := fun _ => 0) (hcut := cut 3) (R := fun _ => iprop(emp)) (W := W7 m) (hW := fun c w => rfl)
    (Pipeline.arrRefs_sub_ucRefs spec3 winFacts3.arr_unscoped) c :)
set_option backward.isDefEq.respectTransparency.types false in
theorem R3_post (c : Dev nD) : (R3 m).post c ⊢ iprop(StableHlo.held (c : Thread nD τ) (Pipeline.ucRefs τ sig) (W8 m c) ∗ E c) :=
  (RegionSeg.ofHeldIn_post (pcs := pcfgs (F := F)) (a := adm) (pdats := pdats m) (ι := ()) (defs₀ := defs₀) (𝒱₀ := Variants.none) (L := Lv) (lv := lv) (p := 3) (D := fun _ => 0)
    (S := Pipeline.ucRefs τ sig) (X := fun c => iprop(∃ r, prngReg c r)) (Y := fun c => iprop(∃ r, prngReg c r)) (kit := launch3.toP) (hK := rfl)
    (hbody := fun c => (QuantW2.obligation (W7 m) c).loose) (howed := fun _ _ => rfl) (hrec := fun _ => rfl) (hshare := fun c => (QuantW2.dat (W7 m) c).share_full fun _ => rfl)
    (hin := QuantW2.hin (W7 m)) (hout := QuantW2.hout (W7 m)) (b := fun _ => 0) (hcut := cut 3) (R := fun _ => iprop(emp)) (W := W7 m) (hW := fun c w => rfl)
    (Pipeline.arrRefs_sub_ucRefs spec3 winFacts3.arr_unscoped) c :)
set_option backward.isDefEq.respectTransparency.types false in
def R4 : RegionSeg (pcfgs (F := F)) adm (pdats m) () defs₀ Variants.none Lv lv 4 :=
  RegionSeg.ofHeldIn (pcfgs (F := F)) adm (pdats m) () defs₀ Variants.none Lv lv 4 (fun _ => 0) (Pipeline.ucRefs τ sig)
    (fun c => iprop(∃ r, prngReg c r)) (fun c => iprop(∃ r, prngReg c r)) launch4.toP rfl
    (fun c => (Mlp.obligation (W9 m) c).loose) (fun _ _ => rfl) (fun _ => rfl) (fun c => (Mlp.dat (W9 m) c).share_full fun _ => rfl)
    (Mlp.hin (W9 m)) (Mlp.hout (W9 m)) (fun _ => 0) (cut 4) (fun _ => iprop(emp)) (W9 m) (fun c w => rfl)
set_option backward.isDefEq.respectTransparency.types false in
theorem R4_pre (c : Dev nD) : iprop(StableHlo.held (c : Thread nD τ) (Pipeline.ucRefs τ sig) (W9 m c) ∗ E c) ⊢ (R4 m).pre c :=
  (RegionSeg.ofHeldIn_pre (pcs := pcfgs (F := F)) (a := adm) (pdats := pdats m) (ι := ()) (defs₀ := defs₀) (𝒱₀ := Variants.none) (L := Lv) (lv := lv) (p := 4) (D := fun _ => 0)
    (S := Pipeline.ucRefs τ sig) (X := fun c => iprop(∃ r, prngReg c r)) (Y := fun c => iprop(∃ r, prngReg c r)) (kit := launch4.toP) (hK := rfl)
    (hbody := fun c => (Mlp.obligation (W9 m) c).loose) (howed := fun _ _ => rfl) (hrec := fun _ => rfl) (hshare := fun c => (Mlp.dat (W9 m) c).share_full fun _ => rfl)
    (hin := Mlp.hin (W9 m)) (hout := Mlp.hout (W9 m)) (b := fun _ => 0) (hcut := cut 4) (R := fun _ => iprop(emp)) (W := W9 m) (hW := fun c w => rfl)
    (Pipeline.arrRefs_sub_ucRefs spec4 winFacts4.arr_unscoped) c :)
set_option backward.isDefEq.respectTransparency.types false in
theorem R4_post (c : Dev nD) : (R4 m).post c ⊢ iprop(StableHlo.held (c : Thread nD τ) (Pipeline.ucRefs τ sig) (W10 m c) ∗ E c) :=
  (RegionSeg.ofHeldIn_post (pcs := pcfgs (F := F)) (a := adm) (pdats := pdats m) (ι := ()) (defs₀ := defs₀) (𝒱₀ := Variants.none) (L := Lv) (lv := lv) (p := 4) (D := fun _ => 0)
    (S := Pipeline.ucRefs τ sig) (X := fun c => iprop(∃ r, prngReg c r)) (Y := fun c => iprop(∃ r, prngReg c r)) (kit := launch4.toP) (hK := rfl)
    (hbody := fun c => (Mlp.obligation (W9 m) c).loose) (howed := fun _ _ => rfl) (hrec := fun _ => rfl) (hshare := fun c => (Mlp.dat (W9 m) c).share_full fun _ => rfl)
    (hin := Mlp.hin (W9 m)) (hout := Mlp.hout (W9 m)) (b := fun _ => 0) (hcut := cut 4) (R := fun _ => iprop(emp)) (W := W9 m) (hW := fun c w => rfl)
    (Pipeline.arrRefs_sub_ucRefs spec4 winFacts4.arr_unscoped) c :)
set_option backward.isDefEq.respectTransparency.types false in
def R5 : RegionSeg (pcfgs (F := F)) adm (pdats m) () defs₀ Variants.none Lv lv 5 :=
  RegionSeg.ofHeldIn (pcfgs (F := F)) adm (pdats m) () defs₀ Variants.none Lv lv 5 (fun _ => 0) (Pipeline.ucRefs τ sig)
    (fun c => iprop(∃ r, prngReg c r)) (fun c => iprop(∃ r, prngReg c r)) launch5.toP rfl
    (fun c => (Wgrad1.obligation (W10 m) c).loose) (fun _ _ => rfl) (fun _ => rfl) (fun c => (Wgrad1.dat (W10 m) c).share_full fun _ => rfl)
    (Wgrad1.hin (W10 m)) (Wgrad1.hout (W10 m)) (fun _ => 0) (cut 5) (fun _ => iprop(emp)) (W10 m) (fun c w => rfl)
set_option backward.isDefEq.respectTransparency.types false in
theorem R5_pre (c : Dev nD) : iprop(StableHlo.held (c : Thread nD τ) (Pipeline.ucRefs τ sig) (W10 m c) ∗ E c) ⊢ (R5 m).pre c :=
  (RegionSeg.ofHeldIn_pre (pcs := pcfgs (F := F)) (a := adm) (pdats := pdats m) (ι := ()) (defs₀ := defs₀) (𝒱₀ := Variants.none) (L := Lv) (lv := lv) (p := 5) (D := fun _ => 0)
    (S := Pipeline.ucRefs τ sig) (X := fun c => iprop(∃ r, prngReg c r)) (Y := fun c => iprop(∃ r, prngReg c r)) (kit := launch5.toP) (hK := rfl)
    (hbody := fun c => (Wgrad1.obligation (W10 m) c).loose) (howed := fun _ _ => rfl) (hrec := fun _ => rfl) (hshare := fun c => (Wgrad1.dat (W10 m) c).share_full fun _ => rfl)
    (hin := Wgrad1.hin (W10 m)) (hout := Wgrad1.hout (W10 m)) (b := fun _ => 0) (hcut := cut 5) (R := fun _ => iprop(emp)) (W := W10 m) (hW := fun c w => rfl)
    (Pipeline.arrRefs_sub_ucRefs spec5 winFacts5.arr_unscoped) c :)
set_option backward.isDefEq.respectTransparency.types false in
theorem R5_post (c : Dev nD) : (R5 m).post c ⊢ iprop(StableHlo.held (c : Thread nD τ) (Pipeline.ucRefs τ sig) (W11 m c) ∗ E c) :=
  (RegionSeg.ofHeldIn_post (pcs := pcfgs (F := F)) (a := adm) (pdats := pdats m) (ι := ()) (defs₀ := defs₀) (𝒱₀ := Variants.none) (L := Lv) (lv := lv) (p := 5) (D := fun _ => 0)
    (S := Pipeline.ucRefs τ sig) (X := fun c => iprop(∃ r, prngReg c r)) (Y := fun c => iprop(∃ r, prngReg c r)) (kit := launch5.toP) (hK := rfl)
    (hbody := fun c => (Wgrad1.obligation (W10 m) c).loose) (howed := fun _ _ => rfl) (hrec := fun _ => rfl) (hshare := fun c => (Wgrad1.dat (W10 m) c).share_full fun _ => rfl)
    (hin := Wgrad1.hin (W10 m)) (hout := Wgrad1.hout (W10 m)) (b := fun _ => 0) (hcut := cut 5) (R := fun _ => iprop(emp)) (W := W10 m) (hW := fun c w => rfl)
    (Pipeline.arrRefs_sub_ucRefs spec5 winFacts5.arr_unscoped) c :)
set_option backward.isDefEq.respectTransparency.types false in
def R6 : RegionSeg (pcfgs (F := F)) adm (pdats m) () defs₀ Variants.none Lv lv 6 :=
  RegionSeg.ofHeldIn (pcfgs (F := F)) adm (pdats m) () defs₀ Variants.none Lv lv 6 (fun _ => 0) (Pipeline.ucRefs τ sig)
    (fun c => iprop(∃ r, prngReg c r)) (fun c => iprop(∃ r, prngReg c r)) launch6.toP rfl
    (fun c => (Wgrad2.obligation (W11 m) c).loose) (fun _ _ => rfl) (fun _ => rfl) (fun c => (Wgrad2.dat (W11 m) c).share_full fun _ => rfl)
    (Wgrad2.hin (W11 m)) (Wgrad2.hout (W11 m)) (fun _ => 0) (cut 6) (fun _ => iprop(emp)) (W11 m) (fun c w => rfl)
set_option backward.isDefEq.respectTransparency.types false in
theorem R6_pre (c : Dev nD) : iprop(StableHlo.held (c : Thread nD τ) (Pipeline.ucRefs τ sig) (W11 m c) ∗ E c) ⊢ (R6 m).pre c :=
  (RegionSeg.ofHeldIn_pre (pcs := pcfgs (F := F)) (a := adm) (pdats := pdats m) (ι := ()) (defs₀ := defs₀) (𝒱₀ := Variants.none) (L := Lv) (lv := lv) (p := 6) (D := fun _ => 0)
    (S := Pipeline.ucRefs τ sig) (X := fun c => iprop(∃ r, prngReg c r)) (Y := fun c => iprop(∃ r, prngReg c r)) (kit := launch6.toP) (hK := rfl)
    (hbody := fun c => (Wgrad2.obligation (W11 m) c).loose) (howed := fun _ _ => rfl) (hrec := fun _ => rfl) (hshare := fun c => (Wgrad2.dat (W11 m) c).share_full fun _ => rfl)
    (hin := Wgrad2.hin (W11 m)) (hout := Wgrad2.hout (W11 m)) (b := fun _ => 0) (hcut := cut 6) (R := fun _ => iprop(emp)) (W := W11 m) (hW := fun c w => rfl)
    (Pipeline.arrRefs_sub_ucRefs spec6 winFacts6.arr_unscoped) c :)
set_option backward.isDefEq.respectTransparency.types false in
theorem R6_post (c : Dev nD) : (R6 m).post c ⊢ iprop(StableHlo.held (c : Thread nD τ) (Pipeline.ucRefs τ sig) (W12 m c) ∗ E c) :=
  (RegionSeg.ofHeldIn_post (pcs := pcfgs (F := F)) (a := adm) (pdats := pdats m) (ι := ()) (defs₀ := defs₀) (𝒱₀ := Variants.none) (L := Lv) (lv := lv) (p := 6) (D := fun _ => 0)
    (S := Pipeline.ucRefs τ sig) (X := fun c => iprop(∃ r, prngReg c r)) (Y := fun c => iprop(∃ r, prngReg c r)) (kit := launch6.toP) (hK := rfl)
    (hbody := fun c => (Wgrad2.obligation (W11 m) c).loose) (howed := fun _ _ => rfl) (hrec := fun _ => rfl) (hshare := fun c => (Wgrad2.dat (W11 m) c).share_full fun _ => rfl)
    (hin := Wgrad2.hin (W11 m)) (hout := Wgrad2.hout (W11 m)) (b := fun _ => 0) (hcut := cut 6) (R := fun _ => iprop(emp)) (W := W11 m) (hW := fun c w => rfl)
    (Pipeline.arrRefs_sub_ucRefs spec6 winFacts6.arr_unscoped) c :)

/-- The items of the program in order. -/
abbrev segs : List (Seg (pcfgs (F := F)) adm (pdats m) () defs₀ Variants.none Lv lv) :=
  [.host (H0 m), .region (R0 m), .host (H1 m), .region (R1 m), .host (H2 m), .region (R2 m), .host (H3 m), .region (R3 m), .host (H4 m), .region (R4 m), .region (R5 m), .region (R6 m), .host (H7 m)]

/-- What one core holds at the launch makes what its first item enters with. -/
theorem launch_one (c : Dev nD) :
    iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
      ⊢ (iprop(StableHlo.held (c : Thread nD τ) (Pipeline.ucRefs τ sig) (W0 m c) ∗ E c) : sProp (MM F)) := by
  rw [show (fun b => m ((c.tc : Thread nD τ).loc b)) = fun b => W0 m c (Proc.devRef .tc b) from rfl]
  rw [Pipeline.unscopedBufs_held (Ix := Unit) (Name := ℕ) (U := UR sig nD τ) (Lvl := ℕ) c (W0 m c)]
  iintro ⟨Hh, -, Ho, -, Hp, -⟩
  isplitl [Hh]; · iexact Hh
  isplitl [Ho]; · iexists _; iexact Ho
  isplitl [Hp]; · iexists _; iexact Hp
  iempintro

set_option backward.isDefEq.respectTransparency.types false in
/-- From any memory the program runs to the end, every buffer that outlives the run then holds what `W13` says, and every
    counter is back at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W13 m c b) ∧ r.2.sem = fun _ => 0) := by
  refine Pipeline.θ_run_regions_kit_dev_sems (pcfgs (F := F)) adm (pdats m) () cellOf_inj emb₁ defs₀ Variants.none Lv lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          Prog.lift (.customCall (Pipeline.entry 6) ()),
          StableHlo.seq hostOps7 ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (W0 m c) ∗ E c))
    (Tₙ := fun c => StableHlo.held (c : Thread nD τ) (Pipeline.ucRefs τ sig) (W13 m c))
    (hch := fun c => ⟨.rfl, R0_pre m c, R0_post m c, R1_pre m c, R1_post m c, R2_pre m c, R2_post m c, R3_pre m c, R3_post m c, R4_pre m c, (R4_post m c).trans (R5_pre m c), (R5_post m c).trans (R6_pre m c), R6_post m c, sep_mono .rfl (by
      iintro ⟨H, -⟩; iexact H)⟩)
    (hinit := ?_) (QY := fun c s => ∀ b ∈ Pipeline.ucRefs τ sig, s.mem ((c : Thread nD τ).1, b) = W13 m c b)
    (hfin := fun c s' => ?_) (hQ := fun _ h hz => ⟨h, funext fun g => hz g (.inr (regions_no_unscoped g.2))⟩)
  · iintro Hu; imodintro; isplitl [Hu]
    · iapply (show (ownU _ : sProp (MM F)) ⊢ BI.own (emb₁ (initOf (Pipeline.cells cfgs cellOf_inj) (Pipeline.launchToks cfgs cellOf_inj))) from .rfl)
      iexact Hu
    iapply (show (BI.emp : sProp (MM F)) ⊢ bigSep Finset.univ (fun _ : Dev nD => (BI.emp : sProp (MM F))) from by rw [BI.bigSep_emp_const])
    iempintro
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (W0 m c) ∗ E c) : sProp (MM F)) from
      bigSep_mono fun c _ => launch_one m ρ c)
    iexact H
  · unfold StableHlo.held
    iintro ⟨Hh, HSI⟩
    ihave Hr := (pointsTo_read_all (Pipeline.ucRefs τ sig) (fun b => ((c : Thread nD τ).1, b)) (W13 m c) s') $$ [Hh HSI]
    · isplitl [Hh] <;> iassumption
    icases Hr with ⟨%h, HSI⟩
    imodintro
    isplitr
    · ipureintro; exact h
    · iexact HSI

end Cert.KernelIdeal.Run

end
-- ==== Proof.Keep.lean ====
/-
  What each item of the program leaves unchanged: a buffer it does not write. So the arguments end unchanged, at any float instance.
-/
module

public import proofs.«01_k».proof.Proof.Run

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ) (ρ : Dev nD → PrngReg)

theorem W1_of (c : Dev nD) (r : Ref sig .tc) (h : r ∉ hostOps0_W) : W1 m c r = W0 m c r :=
  StableHlo.after_of_writes_sub hostOps0 _ hostOps0_writes h
theorem outs0 : ∀ w : Fin cfg0.W, (Pipeline.arrRef spec0 w ∈ ([main_v2_0, main_v2_1, main_v2_2] : List (Ref sig .tc))) ∨ (cfg0.win w).isOut = false := by decide
theorem W2_of (c : Dev nD) (r : Ref sig .tc) (h : r ∉ ([main_v2_0, main_v2_1, main_v2_2] : List (Ref sig .tc))) : W2 m c r = W1 m c r :=
  Pipeline.afterRegion_keeps (QuantX.dat (W1 m) c) (W1 m c) winFacts0.arr_inj (fun w => QuantX.A_eq (W1 m) c w) r
    (fun w e => (outs0 w).resolve_left fun h' => h (e ▸ h'))
theorem W3_of (c : Dev nD) (r : Ref sig .tc) (h : r ∉ hostOps1_W) : W3 m c r = W2 m c r :=
  StableHlo.after_of_writes_sub hostOps1 _ hostOps1_writes h
theorem outs1 : ∀ w : Fin cfg1.W, (Pipeline.arrRef spec1 w ∈ ([main_v5_0, main_v5_1, main_v5_2] : List (Ref sig .tc))) ∨ (cfg1.win w).isOut = false := by decide
theorem W4_of (c : Dev nD) (r : Ref sig .tc) (h : r ∉ ([main_v5_0, main_v5_1, main_v5_2] : List (Ref sig .tc))) : W4 m c r = W3 m c r :=
  Pipeline.afterRegion_keeps (QuantDy.dat (W3 m) c) (W3 m c) winFacts1.arr_inj (fun w => QuantDy.A_eq (W3 m) c w) r
    (fun w e => (outs1 w).resolve_left fun h' => h (e ▸ h'))
theorem W5_of (c : Dev nD) (r : Ref sig .tc) (h : r ∉ hostOps2_W) : W5 m c r = W4 m c r :=
  StableHlo.after_of_writes_sub hostOps2 _ hostOps2_writes h
theorem outs2 : ∀ w : Fin cfg2.W, (Pipeline.arrRef spec2 w ∈ ([main_v7_0, main_v7_1, main_v7_2] : List (Ref sig .tc))) ∨ (cfg2.win w).isOut = false := by decide
theorem W6_of (c : Dev nD) (r : Ref sig .tc) (h : r ∉ ([main_v7_0, main_v7_1, main_v7_2] : List (Ref sig .tc))) : W6 m c r = W5 m c r :=
  Pipeline.afterRegion_keeps (QuantW1.dat (W5 m) c) (W5 m c) winFacts2.arr_inj (fun w => QuantW1.A_eq (W5 m) c w) r
    (fun w e => (outs2 w).resolve_left fun h' => h (e ▸ h'))
theorem W7_of (c : Dev nD) (r : Ref sig .tc) (h : r ∉ hostOps3_W) : W7 m c r = W6 m c r :=
  StableHlo.after_of_writes_sub hostOps3 _ hostOps3_writes h
theorem outs3 : ∀ w : Fin cfg3.W, (Pipeline.arrRef spec3 w ∈ ([main_v9_0, main_v9_1, main_v9_2] : List (Ref sig .tc))) ∨ (cfg3.win w).isOut = false := by decide
theorem W8_of (c : Dev nD) (r : Ref sig .tc) (h : r ∉ ([main_v9_0, main_v9_1, main_v9_2] : List (Ref sig .tc))) : W8 m c r = W7 m c r :=
  Pipeline.afterRegion_keeps (QuantW2.dat (W7 m) c) (W7 m c) winFacts3.arr_inj (fun w => QuantW2.A_eq (W7 m) c w) r
    (fun w e => (outs3 w).resolve_left fun h' => h (e ▸ h'))
theorem W9_of (c : Dev nD) (r : Ref sig .tc) (h : r ∉ hostOps4_W) : W9 m c r = W8 m c r :=
  StableHlo.after_of_writes_sub hostOps4 _ hostOps4_writes h
theorem outs4 : ∀ w : Fin cfg4.W, (Pipeline.arrRef spec4 w ∈ ([main_v12_0, main_v12_1, main_v12_2, main_v12_3, main_v12_4, main_v12_5, main_v12_6, main_v12_7] : List (Ref sig .tc))) ∨ (cfg4.win w).isOut = false := by decide
theorem W10_of (c : Dev nD) (r : Ref sig .tc) (h : r ∉ ([main_v12_0, main_v12_1, main_v12_2, main_v12_3, main_v12_4, main_v12_5, main_v12_6, main_v12_7] : List (Ref sig .tc))) : W10 m c r = W9 m c r :=
  Pipeline.afterRegion_keeps (Mlp.dat (W9 m) c) (W9 m c) winFacts4.arr_inj (fun w => Mlp.A_eq (W9 m) c w) r
    (fun w e => (outs4 w).resolve_left fun h' => h (e ▸ h'))
theorem outs5 : ∀ w : Fin cfg5.W, (Pipeline.arrRef spec5 w ∈ ([main_v13] : List (Ref sig .tc))) ∨ (cfg5.win w).isOut = false := by decide
theorem W11_of (c : Dev nD) (r : Ref sig .tc) (h : r ∉ ([main_v13] : List (Ref sig .tc))) : W11 m c r = W10 m c r :=
  Pipeline.afterRegion_keeps (Wgrad1.dat (W10 m) c) (W10 m c) winFacts5.arr_inj (fun w => Wgrad1.A_eq (W10 m) c w) r
    (fun w e => (outs5 w).resolve_left fun h' => h (e ▸ h'))
theorem outs6 : ∀ w : Fin cfg6.W, (Pipeline.arrRef spec6 w ∈ ([main_v14] : List (Ref sig .tc))) ∨ (cfg6.win w).isOut = false := by decide
theorem W12_of (c : Dev nD) (r : Ref sig .tc) (h : r ∉ ([main_v14] : List (Ref sig .tc))) : W12 m c r = W11 m c r :=
  Pipeline.afterRegion_keeps (Wgrad2.dat (W11 m) c) (W11 m c) winFacts6.arr_inj (fun w => Wgrad2.A_eq (W11 m) c w) r
    (fun w e => (outs6 w).resolve_left fun h' => h (e ▸ h'))
theorem W13_of (c : Dev nD) (r : Ref sig .tc) (h : r ∉ hostOps7_W) : W13 m c r = W12 m c r :=
  StableHlo.after_of_writes_sub hostOps7 _ hostOps7_writes h

/-- What the items write, in order. -/
abbrev written : List (Ref sig .tc) := hostOps0_W ++ [main_v2_0, main_v2_1, main_v2_2] ++ hostOps1_W ++ [main_v5_0, main_v5_1, main_v5_2] ++ hostOps2_W ++ [main_v7_0, main_v7_1, main_v7_2] ++ hostOps3_W ++ [main_v9_0, main_v9_1, main_v9_2] ++ hostOps4_W ++ [main_v12_0, main_v12_1, main_v12_2, main_v12_3, main_v12_4, main_v12_5, main_v12_6, main_v12_7] ++ [main_v13] ++ [main_v14] ++ hostOps7_W

/-- A buffer that no item writes ends as it was. -/
theorem keep (c : Dev nD) (r : Ref sig .tc) (h : r ∉ written) : W13 m c r = m (c, r) := by
  simp only [written, List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  rw [W13_of m c r h12, W12_of m c r h11, W11_of m c r h10, W10_of m c r h9, W9_of m c r h8, W8_of m c r h7, W7_of m c r h6, W6_of m c r h5,
    W5_of m c r h4, W4_of m c r h3, W3_of m c r h2, W2_of m c r h1, W1_of m c r h0]
  rfl

/-- A buffer that outlives the run, read at the end. -/
theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- From any memory the program runs to the end, its arguments end unchanged, and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono ?_ (run m ρ)
  rintro ⟨_, s⟩ ⟨h, hz⟩
  exact ⟨fun c => ⟨(h c _ (mem_uc main_arg0 rfl)).trans (keep m c main_arg0 (by decide)),
    (h c _ (mem_uc main_arg1 rfl)).trans (keep m c main_arg1 (by decide)),
    (h c _ (mem_uc main_arg2 rfl)).trans (keep m c main_arg2 (by decide)),
    (h c _ (mem_uc main_arg3 rfl)).trans (keep m c main_arg3 (by decide)),
    (h c _ (mem_uc main_arg4 rfl)).trans (keep m c main_arg4 (by decide)),
    (h c _ (mem_uc main_arg5 rfl)).trans (keep m c main_arg5 (by decide)),
    (h c _ (mem_uc main_arg6 rfl)).trans (keep m c main_arg6 (by decide)),
    (h c _ (mem_uc main_arg7 rfl)).trans (keep m c main_arg7 (by decide)),
    (h c _ (mem_uc main_arg8 rfl)).trans (keep m c main_arg8 (by decide)),
    (h c _ (mem_uc main_arg9 rfl)).trans (keep m c main_arg9 (by decide))⟩, hz⟩

end Cert.KernelIdeal.Run

end
-- ==== Proof.Transfer.lean ====
/-
  The frame of the kernel program at the machine's floats: the two printed kernels are one program, so what is proved of the second at any
  float instance holds of the first.
-/
module

public import proofs.«01_k».proof.Defs
public import proofs.«01_k».proof.Proof.Gen.Kernel
public import proofs.«01_k».proof.Proof.Gen.KernelIdeal
public import proofs.«01_k».proof.Proof.Keep
public import Idealize.ShloMosaic.Lib.Tactic

@[expose] public section

set_option maxRecDepth 16384

noncomputable section

namespace Cert.Transfer

open Idealize.ShloMosaic Idealize.SL.Sem Idealize.ShloMosaic.TcCoe Idealize.ShloMosaic.Tactic

/-- At float instance `F`: `KernelIdeal` runs, its arguments end unchanged and every counter ends at zero. -/
def frameIdeal (F : FTy → Type) [FloatOps F] [hKernelIdeal : Cert.KernelIdeal.Facts] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

/-- At float instance `F`: `Kernel` runs, its arguments end unchanged and every counter ends at zero. -/
def frameKernel (F : FTy → Type) [FloatOps F] [hKernel : Cert.Kernel.Facts] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

/-- The two statements are one, the two programs being one. -/
theorem frames_eq : frameIdeal Bits (hKernelIdeal := Cert.KernelIdeal.Gen.facts) = frameKernel Bits (hKernel := Cert.Kernel.Gen.facts) := by
  sl_kernel_rfl

/-- `Kernel` runs at the machine's floats, its arguments end unchanged and every counter ends at zero. -/
theorem kernel : quiescent_Kernel (hKernel := Cert.Kernel.Gen.facts) := by
  have h : frameIdeal Bits (hKernelIdeal := Cert.KernelIdeal.Gen.facts) := fun m g => Cert.KernelIdeal.Run.frame m g
  intro m g _
  rw [frames_eq] at h
  exact h m g

end Cert.Transfer

end
-- ==== Proof.Scale.lean ====
/-
  The power-of-two scale of the quantiser, over the extended reals: the exponent that the kernel finds by comparing with every power of
  two, and the reference's `floor (log₂ ·) + 1`, are one integer of -126 .. 126; so the two scales agree, and the two inverse scales.
-/
module

public import Idealize.ShloMosaic.Lib.Pointwise
public import Mathlib.Analysis.SpecialFunctions.Pow.Real
public import Mathlib.Data.EReal.Operations

@[expose] public section

set_option maxRecDepth 16384

noncomputable section

namespace Cert.Scale

open Idealize.ShloMosaic

/-- The pattern of biased exponent `i` and no fraction denotes `2 ^ (i - 127)`. -/
theorem ofBits_pow (i : ℕ) (h1 : 1 ≤ i) (h2 : i ≤ 254) :
    Ideal.ofBits .f32 (IntOp.shli .vector (BitVec.ofNat 32 i) 23#32) = (((2 : ℝ) ^ ((i : ℤ) - 127) : ℝ) : EReal) := by
  have h : ∀ i : Fin 255, 1 ≤ i.val →
      (BitVec.extractLsb' 31 1 (IntOp.shli .vector (BitVec.ofNat 32 i.val) 23#32) == 1#1) = false
      ∧ (BitVec.extractLsb' 23 8 (IntOp.shli .vector (BitVec.ofNat 32 i.val) 23#32)).toNat = i.val
      ∧ (BitVec.extractLsb' 0 23 (IntOp.shli .vector (BitVec.ofNat 32 i.val) 23#32)).toNat = 0 := by decide +kernel
  obtain ⟨a, b, c⟩ := h ⟨i, by omega⟩ h1
  simp only at a b c
  simp only [Ideal.ofBits, Ideal.ieee]
  rw [show (8 + 23 : ℕ) = 31 from rfl, a, b, c, if_neg (by norm_num; omega), if_neg (by omega)]
  refine congrArg _ ?_
  have h2 : (2 : ℝ) ≠ 0 := two_ne_zero
  rw [show ((i : ℤ) - (2 ^ (8 - 1) - 1) - ((23 : ℕ) : ℤ)) = ((i : ℤ) - 127) - 23 by norm_num, zpow_sub₀ h2]
  norm_num
  field_simp

/-- The pattern of infinity denotes the top. -/
theorem ofBits_top : Ideal.ofBits .f32 2139095040#32 = (⊤ : EReal) := by
  simp [Ideal.ofBits, Ideal.ieee]

/-- The pattern of minus infinity denotes the bottom. -/
theorem ofBits_bot : Ideal.ofBits .f32 4286578688#32 = (⊥ : EReal) := by
  simp [Ideal.ofBits, Ideal.ieee]

/-- The pattern of two denotes two. -/
theorem ofBits_two : Ideal.ofBits .f32 1073741824#32 = ((2 : ℝ) : EReal) := by
  have := ofBits_pow 128 (by norm_num) (by norm_num)
  rw [show IntOp.shli .vector (BitVec.ofNat 32 128) 23#32 = 1073741824#32 by decide +kernel] at this
  rw [this]; norm_num

/-- The signed maximum of words of small naturals is the word of their supremum. -/
theorem fold_maxsi {α : Type} [DecidableEq α] (s : Finset α) (g : α → ℕ) (hg : ∀ x ∈ s, g x < 2 ^ 31) (hs : s.Nonempty) :
    s.fold IntOp.maxsi 2147483648#32 (fun x => BitVec.ofNat 32 (g x)) = BitVec.ofNat 32 (s.sup g) := by
  have hi : ∀ n : ℕ, n < 2 ^ 31 → (BitVec.ofNat 32 n).toInt = n := fun n hn => by
    rw [BitVec.toInt_eq_toNat_of_lt (by rw [BitVec.toNat_ofNat]; omega), BitVec.toNat_ofNat]; omega
  have hmax : ∀ a b : ℕ, a < 2 ^ 31 → b < 2 ^ 31 →
      IntOp.maxsi (BitVec.ofNat 32 a) (BitVec.ofNat 32 b) = BitVec.ofNat 32 (max a b) := fun a b ha hb => by
    simp only [IntOp.maxsi, BitVec.slt, hi a ha, hi b hb]
    rcases le_total a b with h | h
    · rw [max_eq_right h]
      split_ifs with hc
      · first | rfl | (simp only [decide_eq_true_eq] at hc; congr 1; omega)
      · first | rfl | (simp only [decide_eq_true_eq] at hc; congr 1; omega)
    · rw [max_eq_left h]
      split_ifs with hc
      · first | rfl | (simp only [decide_eq_true_eq] at hc; congr 1; omega)
      · first | rfl | (simp only [decide_eq_true_eq] at hc; congr 1; omega)
  have hbot : ∀ a : ℕ, a < 2 ^ 31 → IntOp.maxsi (BitVec.ofNat 32 a) 2147483648#32 = BitVec.ofNat 32 a := fun a ha => by
    have hm : (2147483648#32 : BitVec 32).toInt = -2147483648 := by decide
    simp only [IntOp.maxsi, BitVec.slt, hi a ha, hm]
    split_ifs with hc
    · first | rfl | (simp only [decide_eq_true_eq] at hc; omega)
    · first | rfl | (simp only [decide_eq_true_eq] at hc; omega)
  have key : ∀ s : Finset α, (∀ x ∈ s, g x < 2 ^ 31) →
      s.fold IntOp.maxsi 2147483648#32 (fun x => BitVec.ofNat 32 (g x))
        = if s.Nonempty then BitVec.ofNat 32 (s.sup g) else 2147483648#32 := by
    intro s
    induction s using Finset.induction_on with
    | empty => intro _; simp
    | insert x s hx ih =>
      intro hg
      have hg' : ∀ y ∈ s, g y < 2 ^ 31 := fun y hy => hg y (Finset.mem_insert_of_mem hy)
      have hgx : g x < 2 ^ 31 := hg x (Finset.mem_insert_self x s)
      rw [Finset.fold_insert hx, ih hg', if_pos (Finset.insert_nonempty x s), Finset.sup_insert]
      by_cases h : s.Nonempty
      · rw [if_pos h]
        exact hmax _ _ hgx ((Finset.sup_lt_iff (by norm_num)).2 hg')
      · rw [if_neg h, Finset.not_nonempty_iff_eq_empty.1 h, Finset.sup_empty]
        rw [hbot _ hgx, Nat.bot_eq_zero, max_eq_left (Nat.zero_le _)]
  rw [key s hg, if_pos hs]

/-- The kernel's exponent, as a word. -/
def kexp (a c : EReal) : BitVec 32 :=
  if a = 0 then 0#32
  else
    Scalar.select
      (IntOp.andi (BitVec.ofBool (decide (0 < FloatOps.absf (F := Ideal) (φ := .f32) (a * c))))
        (BitVec.ofBool (decide (FloatOps.absf (F := Ideal) (φ := .f32) (a * c) < Ideal.ofBits .f32 2139095040#32))))
      (IntOp.subi
        (Finset.fold IntOp.maxsi (2147483648#32)
          (fun x : Fin 253 =>
            if Ideal.ofBits .f32 (IntOp.shli .vector (BitVec.ofNat 32 x.val) 23#32) ≤ FloatOps.absf (F := Ideal) (φ := .f32) (a * c) then
              BitVec.ofNat 32 x.val
            else 0#32)
          Finset.univ)
        126#32)
      0#32

/-- The reference's exponent, as a number. -/
def rexp (a c : EReal) : EReal :=
  Scalar.select
    (IntOp.andi (BitVec.ofBool (decide (0 < FloatOps.absf (F := Ideal) (φ := .f32) (a * c))))
      (BitVec.ofBool (decide (FloatOps.absf (F := Ideal) (φ := .f32) (a * c) < Ideal.ofBits .f32 2139095040#32))))
    (min (((126#32 : BitVec 32).toInt : ℝ) : EReal)
      (max (((4294967170#32 : BitVec 32).toInt : ℝ) : EReal)
        (Ideal.liftRound Int.floor
            (Ideal.div (Ideal.log (FloatOps.absf (F := Ideal) (φ := .f32) (a * c))) (Ideal.log (Ideal.ofBits .f32 1073741824#32)))
          + 1)))
    (0 : EReal)

/-- The greatest `i ≤ 252` with `2 ^ (i - 127) ≤ r`, or 0 where there is none, is the held `floor (log₂ r) + 127`. -/
theorem reached (r : ℝ) (hr : 0 < r) :
    Finset.univ.sup (fun x : Fin 253 => if ((2 : ℝ) ^ ((x.val : ℤ) - 127)) ≤ r then x.val else 0)
      = (min 252 (max 0 (⌊(Real.log r / Real.log 2)⌋ + 127))).toNat := by
  have hc : ∀ i : ℤ, (2 : ℝ) ^ i ≤ r ↔ i ≤ ⌊(Real.log r / Real.log 2)⌋ := fun i => by
    rw [Int.le_floor, le_div_iff₀ (Real.log_pos (by norm_num)), ← Real.log_zpow, Real.log_le_log_iff (zpow_pos (by norm_num) i) hr]
  simp only [hc]
  generalize ⌊(Real.log r / Real.log 2)⌋ = n
  apply le_antisymm
  · refine Finset.sup_le fun x _ => ?_
    have := x.isLt
    split_ifs <;> omega
  · rcases le_total (n + 127) 0 with h | h
    · rw [max_eq_left h]; simp
    · have hk : (min 252 (max 0 (n + 127))).toNat < 253 := by omega
      refine le_trans (le_of_eq ?_) (Finset.le_sup (Finset.mem_univ (⟨_, hk⟩ : Fin 253)))
      rw [if_pos]
      simp only
      omega

/-- The two exponents are one integer `k - 126` of -126 .. 126. -/
theorem exponent (a c : EReal) : ∃ k : ℕ, k < 253 ∧ kexp a c = IntOp.subi (BitVec.ofNat 32 k) 126#32
    ∧ rexp a c = ((((k : ℤ) - 126 : ℤ) : ℝ) : EReal) := by
  have zero : ∃ k : ℕ, k < 253 ∧ (0#32 : BitVec 32) = IntOp.subi (BitVec.ofNat 32 k) 126#32
      ∧ (0 : EReal) = ((((k : ℤ) - 126 : ℤ) : ℝ) : EReal) := ⟨126, by norm_num, by decide, by norm_num⟩
  unfold kexp rexp
  rw [ofBits_top, ofBits_two]
  by_cases ha : a = 0
  · subst ha
    rw [if_pos rfl]
    have h0 : FloatOps.absf (F := Ideal) (φ := .f32) ((0 : EReal) * c) = (0 : EReal) := by
      rw [zero_mul]; show max (0 : EReal) (-0) = 0; simp
    rw [h0]
    simpa [Scalar.select, IntOp.andi] using zero
  rw [if_neg ha]
  generalize hs : (FloatOps.absf (F := Ideal) (φ := .f32) (a * c) : EReal) = s
  clear hs
  induction s using EReal.rec with
  | bot => simpa [Scalar.select, IntOp.andi] using zero
  | top => simpa [Scalar.select, IntOp.andi] using zero
  | coe r =>
    by_cases hr : 0 < r
    · have hne : ((Real.log 2 : ℝ) : EReal) ≠ 0 := by
        have := Real.log_pos (by norm_num : (1 : ℝ) < 2)
        exact_mod_cast this.ne'
      have hlog : Ideal.div (Ideal.log (r : EReal)) (Ideal.log ((2 : ℝ) : EReal)) = (((Real.log r / Real.log 2) : ℝ) : EReal) := by
        rw [Ideal.log_coe, Ideal.log_coe, if_neg (not_le.2 hr), if_neg (by norm_num), Ideal.div, if_neg hne, ← EReal.coe_inv,
          ← EReal.coe_mul]
        rfl
      rw [hlog, Ideal.liftRound_coe]
      have hf : Finset.fold IntOp.maxsi (2147483648#32)
          (fun x : Fin 253 =>
            if Ideal.ofBits .f32 (IntOp.shli .vector (BitVec.ofNat 32 x.val) 23#32) ≤ (r : EReal) then BitVec.ofNat 32 x.val else 0#32)
          Finset.univ = BitVec.ofNat 32 (min 252 (max 0 (⌊(Real.log r / Real.log 2)⌋ + 127))).toNat := by
        rw [← reached r hr, ← fold_maxsi _ _ (fun x _ => by have := x.isLt; split_ifs <;> omega) ⟨0, Finset.mem_univ _⟩]
        refine Finset.fold_congr fun x _ => ?_
        by_cases hx : x.val = 0
        · rw [hx]; simp
        · rw [ofBits_pow x.val (by omega) (by have := x.isLt; omega)]
          simp only [EReal.coe_le_coe_iff]
          split_ifs <;> rfl
      rw [hf]
      refine ⟨(min 252 (max 0 (⌊(Real.log r / Real.log 2)⌋ + 127))).toNat, by omega, ?_, ?_⟩
      · simp [Scalar.select, IntOp.andi, hr]
      · rw [show (126#32 : BitVec 32).toInt = 126 by decide, show (4294967170#32 : BitVec 32).toInt = -126 by decide]
        have hcond : IntOp.andi (BitVec.ofBool (decide ((0 : EReal) < (r : EReal)))) (BitVec.ofBool (decide ((r : EReal) < ⊤))) = 1#1 := by
          simp [IntOp.andi, hr]
        rw [hcond]
        generalize ⌊(Real.log r / Real.log 2)⌋ = n
        rw [show Scalar.select 1#1 = fun (x y : EReal) => x from rfl]
        have h1 : ((n : ℝ) : EReal) + 1 = (((n + 1 : ℤ) : ℝ) : EReal) := by push_cast; rfl
        have hmn : ∀ x y : ℤ, min ((x : ℝ) : EReal) ((y : ℝ) : EReal) = (((min x y : ℤ) : ℝ) : EReal) := fun x y => by
          rcases le_total x y with h | h
          · rw [min_eq_left h, min_eq_left (by exact_mod_cast h)]
          · rw [min_eq_right h, min_eq_right (by exact_mod_cast h)]
        have hmx : ∀ x y : ℤ, max ((x : ℝ) : EReal) ((y : ℝ) : EReal) = (((max x y : ℤ) : ℝ) : EReal) := fun x y => by
          rcases le_total x y with h | h
          · rw [max_eq_right h, max_eq_right (by exact_mod_cast h)]
          · rw [max_eq_left h, max_eq_left (by exact_mod_cast h)]
        simp only [h1]
        rw [hmx, hmn]
        congr 2
        omega
    · have : ¬ ((0 : EReal) < (r : EReal)) := by exact_mod_cast hr
      simpa [Scalar.select, IntOp.andi, hr] using zero

/-- THE SCALE: the kernel's float of the bits `127 + e` is the reference's `2 ** e`. -/
theorem scale (a c : EReal) :
    Ideal.ofBits .f32 (IntOp.shli .vector (IntOp.addi 127#32 (kexp a c)) 23#32) = Ideal.exp2 (rexp a c) := by
  obtain ⟨k, hk, h1, h2⟩ := exponent a c
  rw [h1, h2]
  have e : ∀ k : Fin 253, IntOp.addi 127#32 (IntOp.subi (BitVec.ofNat 32 k.val) 126#32) = BitVec.ofNat 32 (k.val + 1) := by decide +kernel
  rw [e ⟨k, hk⟩, ofBits_pow _ (by simp) (by simp only; omega), Ideal.exp2_coe]
  congr 1
  rw [show Real.rpow 2 _ = (2 : ℝ) ^ (((((k : ℤ) - 126 : ℤ)) : ℝ)) from rfl, Real.rpow_intCast]
  congr 1
  push_cast; ring

/-- THE INVERSE SCALE: the kernel's float of the bits `127 - e` is the reference's `2 ** (-e)`. -/
theorem inverse (a c : EReal) :
    Ideal.ofBits .f32 (IntOp.shli .vector (IntOp.subi 127#32 (kexp a c)) 23#32) = Ideal.exp2 (0 - rexp a c) := by
  obtain ⟨k, hk, h1, h2⟩ := exponent a c
  rw [h1, h2]
  have e : ∀ k : Fin 253, IntOp.subi 127#32 (IntOp.subi (BitVec.ofNat 32 k.val) 126#32) = BitVec.ofNat 32 (253 - k.val) := by decide +kernel
  rw [e ⟨k, hk⟩, ofBits_pow _ (by simp only; omega) (by simp only; omega), ← EReal.coe_zero, ← EReal.coe_sub, Ideal.exp2_coe]
  congr 1
  rw [show ((0 : ℝ) - (((k : ℤ) - 126 : ℤ) : ℝ)) = ((((126 : ℤ) - k : ℤ)) : ℝ) by push_cast; ring]
  rw [show Real.rpow 2 _ = (2 : ℝ) ^ (((((126 : ℤ) - k : ℤ)) : ℝ)) from rfl, Real.rpow_intCast]
  congr 1
  simp only
  omega

end Cert.Scale

end
-- ==== Proof.Spec.lean ====
/-
  What the whole computation is, over the extended reals: plain functions of the arguments at an index. Both programs are read to these.
-/
module

public import proofs.«01_k».proof.Proof.Scale
public import Idealize.ShloMosaic.Lib.Pointwise
public import Idealize.ShloMosaic.Lib.MatmulPlain

@[expose] public section

noncomputable section

namespace Cert.Spec

open Idealize.ShloMosaic

/-- A matrix of extended reals. -/
abbrev Mat (a b : ℕ) : Type := (⟨2, ![a, b]⟩ : Shape).Idx → EReal

/-- The constants: one over the largest number of each format, the largest numbers, and those of the activation. -/
abbrev c4 : EReal := Ideal.ofBits .f32 0x3B124925#32
abbrev c5 : EReal := Ideal.ofBits .f32 0x37924925#32
abbrev lo4 : EReal := Ideal.ofBits .f32 0xC3E00000#32
abbrev hi4 : EReal := Ideal.ofBits .f32 0x43E00000#32
abbrev lo5 : EReal := Ideal.ofBits .f32 0xC7600000#32
abbrev hi5 : EReal := Ideal.ofBits .f32 0x47600000#32

/-- A supremum as a fold of `max` from the bottom. -/
theorem fold_max {α : Type} [Fintype α] (f : α → EReal) (b : EReal) (hb : b = ⊥) :
    Finset.univ.fold max b f = ⨆ k, f k := by
  subst hb
  exact (Finset.sup_univ_eq_iSup f).symm ▸ rfl

/-- The largest entry of a history. -/
def top (h : Mat 1 16) : EReal := ⨆ k : Fin 16, h (ix2 (0 : Fin 1) k)

/-- The scale and its inverse. -/
def sc (c : EReal) (h : Mat 1 16) : EReal := Ideal.exp2 (Scale.rexp (top h) c)
def inv (c : EReal) (h : Mat 1 16) : EReal := Ideal.exp2 (0 - Scale.rexp (top h) c)

/-- A value quantised: scaled and held between the format's largest numbers. -/
def quant (lo hi i v : EReal) : EReal := min hi (max lo (v * i))

/-- The absolute value. -/
abbrev absE (v : EReal) : EReal := max v (-v)

/-- The largest absolute value of a matrix. -/
def amax {a b : ℕ} (v : Mat a b) : EReal := ⨆ i : Fin a, ⨆ j : Fin b, absE (v (ix2 i j))

/-- The derivative's two factors and the activation, of the pre-activation `z`. -/
def cdf (z : EReal) : EReal := Ideal.ofBits .f32 0x3F000000#32 * (1 + Ideal.erf (z * Ideal.ofBits .f32 0x3F3504F3#32))
def dgelu (z : EReal) : EReal :=
  cdf z + z * (Ideal.exp (Ideal.ofBits .f32 0xBF000000#32 * z * z) * Ideal.ofBits .f32 0x3ECC422A#32)

/-- The arguments, tokens in rows. -/
structure Args where
  x : Mat 16384 2048
  w1 : Mat 2048 8192
  w2 : Mat 8192 2048
  dy : Mat 16384 2048
  hx : Mat 1 16
  hw1 : Mat 1 16
  hh : Mat 1 16
  hw2 : Mat 1 16
  hdy : Mat 1 16
  hdg : Mat 1 16

variable (A : Args)

namespace Args

def xc : Mat 16384 2048 := fun j => quant lo4 hi4 (inv c4 A.hx) (A.x j)
def dyc : Mat 16384 2048 := fun j => quant lo5 hi5 (inv c5 A.hdy) (A.dy j)
def w1c : Mat 2048 8192 := fun j => quant lo4 hi4 (inv c4 A.hw1) (A.w1 j)
def w2c : Mat 8192 2048 := fun j => quant lo4 hi4 (inv c4 A.hw2) (A.w2 j)
def z : Mat 16384 8192 := fun j => (∑ k : Fin 2048, A.xc (ix2 (j 0) k) * A.w1c (ix2 k (j 1))) * (sc c4 A.hx * sc c4 A.hw1)
def h : Mat 16384 8192 := fun j => A.z j * cdf (A.z j)
def hc : Mat 16384 8192 := fun j => quant lo4 hi4 (inv c4 A.hh) (A.h j)
def y : Mat 16384 2048 := fun j => (∑ k : Fin 8192, A.hc (ix2 (j 0) k) * A.w2c (ix2 k (j 1))) * (sc c4 A.hh * sc c4 A.hw2)
def dh : Mat 16384 8192 := fun j => (∑ k : Fin 2048, A.dyc (ix2 (j 0) k) * A.w2c (ix2 (j 1) k)) * (sc c5 A.hdy * sc c4 A.hw2)
def dg : Mat 16384 8192 := fun j => A.dh j * dgelu (A.z j)
def dgc : Mat 16384 8192 := fun j => quant lo5 hi5 (inv c5 A.hdg) (A.dg j)
def dx : Mat 16384 2048 := fun j => (∑ k : Fin 8192, A.dgc (ix2 (j 0) k) * A.w1c (ix2 (j 1) k)) * (sc c5 A.hdg * sc c4 A.hw1)
def dw1 : Mat 2048 8192 := fun j => (∑ k : Fin 16384, A.xc (ix2 k (j 0)) * A.dgc (ix2 k (j 1))) * (sc c4 A.hx * sc c5 A.hdg)
def dw2 : Mat 8192 2048 := fun j => (∑ k : Fin 16384, A.hc (ix2 k (j 0)) * A.dyc (ix2 k (j 1))) * (sc c4 A.hh * sc c5 A.hdy)

end Args

end Cert.Spec

end
-- ==== Proof.Result.lean ====
/-
  The arguments as they are passed, and the results as they are returned: tokens in three dimensions, histories of one dimension, scales of none.
-/
module

public import proofs.«01_k».proof.Proof.Spec

@[expose] public section

noncomputable section

namespace Cert.Spec

open Idealize.ShloMosaic

/-- A history, a batch of sequences, a single number. -/
abbrev Hist : Type := (⟨1, ![16]⟩ : Shape).Idx → EReal
abbrev Cube (a b c : ℕ) : Type := (⟨3, ![a, b, c]⟩ : Shape).Idx → EReal
abbrev Num : Type := (⟨0, ![]⟩ : Shape).Idx → EReal

theorem casts_in : (⟨3, ![4, 4096, 2048]⟩ : Shape).ShapeCasts ⟨2, ![16384, 2048]⟩ := by decide
theorem casts_out : (⟨2, ![16384, 2048]⟩ : Shape).ShapeCasts ⟨3, ![4, 4096, 2048]⟩ := by decide
theorem casts_hid : (⟨2, ![16384, 8192]⟩ : Shape).ShapeCasts ⟨3, ![4, 4096, 8192]⟩ := by decide
theorem casts_hist : (⟨1, ![16]⟩ : Shape).ShapeCasts ⟨2, ![1, 16]⟩ := by decide
theorem casts_one : (⟨2, ![1, 1]⟩ : Shape).ShapeCasts ⟨1, ![1]⟩ := by decide
theorem casts_num : (⟨2, ![1, 1]⟩ : Shape).ShapeCasts ⟨0, ![]⟩ := by decide
theorem slices_hist : (⟨1, ![16]⟩ : Shape).Slices ![1] ⟨1, ![15]⟩ := by decide
theorem concat_hist : Shape.Concatenates [⟨1, ![15]⟩, ⟨1, ![1]⟩] ⟨1, ![16]⟩ 0 := by decide

/-- A batch with its tokens in rows, and back. -/
def rows (v : Cube 4 4096 2048) : Mat 16384 2048 := shapeCast ⟨2, ![16384, 2048]⟩ v casts_in
def batch (v : Mat 16384 2048) : Cube 4 4096 2048 := shapeCast ⟨3, ![4, 4096, 2048]⟩ v casts_out
def batchHid (v : Mat 16384 8192) : Cube 4 4096 8192 := shapeCast ⟨3, ![4, 4096, 8192]⟩ v casts_hid
/-- A history as a row. -/
def row (h : Hist) : Mat 1 16 := shapeCast ⟨2, ![1, 16]⟩ h casts_hist
/-- A one by one matrix as a number. -/
def num (v : Mat 1 1) : Num := shapeCast ⟨0, ![]⟩ v casts_num
/-- The history without its oldest entry, the new one put last. -/
def roll (h : Hist) (v : Mat 1 1) : Hist :=
  concatenate ⟨1, ![16]⟩ 0 [⟨⟨1, ![15]⟩, extractStridedSlice ⟨1, ![15]⟩ ![1] h slices_hist⟩, ⟨⟨1, ![1]⟩, shapeCast ⟨1, ![1]⟩ v casts_one⟩] concat_hist

/-- The arguments in the order in which they are passed. -/
def Args.of (x : Cube 4 4096 2048) (w1 : Mat 2048 8192) (w2 : Mat 8192 2048) (dy : Cube 4 4096 2048) (hx hw1 hh hw2 hdy hdg : Hist) : Args where
  x := rows x
  w1 := w1
  w2 := w2
  dy := rows dy
  hx := row hx
  hw1 := row hw1
  hh := row hh
  hw2 := row hw2
  hdy := row hdy
  hdg := row hdg

end Cert.Spec

end
-- ==== Proof.KPay.lean ====
/-
  The kernel's payloads at an index, over the extended reals.
-/
module

public import proofs.«01_k».proof.Proof.Spec
public import proofs.«01_k».proof.Proof.MlpIns
public import proofs.«01_k».proof.Proof.Gen.KernelIdeal.Skeleton
public import Idealize.ShloMosaic.Lib.Pipeline.Value

@[expose] public section

set_option maxRecDepth 16384

noncomputable section

namespace Cert.KernelIdeal.Pay

open Cert.KernelIdeal.Gen Cert.Spec
open Idealize.ShloMosaic

/-- The absolute maxima of every eighth row. -/
def sub8 {n : ℕ} (v : Mat 512 n) (r : Fin 8) (l : Fin n) : EReal := ⨆ k : Fin 64, absE (v (ix2 ⟨k.val * 8 + r.val, by omega⟩ l))

/-- The running maximum of eight rows: the block's own at the first point, then the larger of that and the one before. -/
def step8 {n : ℕ} (b : BitVec 1) (v : Mat 512 n) (w : Mat 8 n) (r : Fin 8) (l : Fin n) : EReal :=
  Scalar.select b (sub8 v r l) (max (w (ix2 r l)) (sub8 v r l))

/-- The maximum of eight rows. -/
def all8 {n : ℕ} (w : Mat 8 n) : EReal := ⨆ l : Fin n, ⨆ r : Fin 8, w (ix2 r l)

theorem k0_pay2_apply (s : FVec Ideal S1x1 .f32) (v : Vec Ideal S512x2048 .f32) (r : Fin 512) (l : Fin 2048) :
    k0_pay2 s v (ix2 r l) = quant lo4 hi4 (s (ix2 0 0)) (v (ix2 r l)) := by
  pointwise [k0_pay2, k0_pay1]
  rfl

theorem k0_pay3_apply (b : BitVec 32) (v : Vec Ideal S512x2048 .f32) (w : Vec Ideal S8x2048 .f32) (r : Fin 8) (l : Fin 2048) :
    k0_pay3 b v w (ix2 r l) = step8 (Scalar.cmpi .eq b 0#32) v w r l := by
  unfold step8 sub8
  pointwise [k0_pay3, k0_pay1]
  rw [fold_max _ _ Scale.ofBits_bot]
  rfl

theorem k0_pay4_apply (w : Vec Ideal S8x2048 .f32) (j) : k0_pay4 w j = all8 w := by
  unfold all8
  pointwise [k0_pay4]
  simp only [fold_max _ _ Scale.ofBits_bot]

theorem k0_pay6_apply (h : Vec Ideal S1x16 .f32) (j) : k0_pay6 h j = sc c4 h := by
  pointwise [k0_pay6, k0_pay5]
  simp only [fold_max _ _ Scale.ofBits_bot]
  exact Scale.scale (top h) c4

theorem k0_pay7_apply (h : Vec Ideal S1x16 .f32) (j) : k0_pay7 h j = inv c4 h := by
  pointwise [k0_pay7, k0_pay5]
  simp only [fold_max _ _ Scale.ofBits_bot]
  exact Scale.inverse (top h) c4

theorem k1_pay2_apply (s : FVec Ideal S1x1 .f32) (v : Vec Ideal S512x2048 .f32) (r : Fin 512) (l : Fin 2048) :
    k1_pay2 s v (ix2 r l) = quant lo5 hi5 (s (ix2 0 0)) (v (ix2 r l)) := by
  pointwise [k1_pay2, k1_pay1]
  rfl

theorem k1_pay3_apply (b : BitVec 32) (v : Vec Ideal S512x2048 .f32) (w : Vec Ideal S8x2048 .f32) (r : Fin 8) (l : Fin 2048) :
    k1_pay3 b v w (ix2 r l) = step8 (Scalar.cmpi .eq b 0#32) v w r l := by
  unfold step8 sub8
  pointwise [k1_pay3, k1_pay1]
  rw [fold_max _ _ Scale.ofBits_bot]
  rfl

theorem k1_pay4_apply (w : Vec Ideal S8x2048 .f32) (j) : k1_pay4 w j = all8 w := by
  unfold all8
  pointwise [k1_pay4]
  simp only [fold_max _ _ Scale.ofBits_bot]

theorem k1_pay6_apply (h : Vec Ideal S1x16 .f32) (j) : k1_pay6 h j = sc c5 h := by
  pointwise [k1_pay6, k1_pay5]
  simp only [fold_max _ _ Scale.ofBits_bot]
  exact Scale.scale (top h) c5

theorem k1_pay7_apply (h : Vec Ideal S1x16 .f32) (j) : k1_pay7 h j = inv c5 h := by
  pointwise [k1_pay7, k1_pay5]
  simp only [fold_max _ _ Scale.ofBits_bot]
  exact Scale.inverse (top h) c5

theorem k2_pay1_apply (s : FVec Ideal S1x1 .f32) (v : Vec Ideal S512x8192 .f32) (r : Fin 512) (l : Fin 8192) :
    k2_pay1 s v (ix2 r l) = quant lo4 hi4 (s (ix2 0 0)) (v (ix2 r l)) := by
  pointwise [k2_pay1]
  rfl

theorem k2_pay2_apply (b : BitVec 32) (v : Vec Ideal S512x8192 .f32) (w : Vec Ideal S8x8192 .f32) (r : Fin 8) (l : Fin 8192) :
    k2_pay2 b v w (ix2 r l) = step8 (Scalar.cmpi .eq b 0#32) v w r l := by
  unfold step8 sub8
  pointwise [k2_pay2]
  rw [fold_max _ _ Scale.ofBits_bot]
  rfl

theorem k2_pay3_apply (w : Vec Ideal S8x8192 .f32) (j) : k2_pay3 w j = all8 w := by
  unfold all8
  pointwise [k2_pay3]
  simp only [fold_max _ _ Scale.ofBits_bot]

theorem k2_pay5_apply (h : Vec Ideal S1x16 .f32) (j) : k2_pay5 h j = sc c4 h := by
  pointwise [k2_pay5, k2_pay4]
  simp only [fold_max _ _ Scale.ofBits_bot]
  exact Scale.scale (top h) c4

theorem k2_pay6_apply (h : Vec Ideal S1x16 .f32) (j) : k2_pay6 h j = inv c4 h := by
  pointwise [k2_pay6, k2_pay4]
  simp only [fold_max _ _ Scale.ofBits_bot]
  exact Scale.inverse (top h) c4

theorem k3_pay1_apply (s : FVec Ideal S1x1 .f32) (v : Vec Ideal S512x2048 .f32) (r : Fin 512) (l : Fin 2048) :
    k3_pay1 s v (ix2 r l) = quant lo4 hi4 (s (ix2 0 0)) (v (ix2 r l)) := by
  pointwise [k3_pay1]
  rfl

theorem k3_pay2_apply (b : BitVec 32) (v : Vec Ideal S512x2048 .f32) (w : Vec Ideal S8x2048 .f32) (r : Fin 8) (l : Fin 2048) :
    k3_pay2 b v w (ix2 r l) = step8 (Scalar.cmpi .eq b 0#32) v w r l := by
  unfold step8 sub8
  pointwise [k3_pay2]
  rw [fold_max _ _ Scale.ofBits_bot]
  rfl

theorem k3_pay3_apply (w : Vec Ideal S8x2048 .f32) (j) : k3_pay3 w j = all8 w := by
  unfold all8
  pointwise [k3_pay3]
  simp only [fold_max _ _ Scale.ofBits_bot]

theorem k3_pay5_apply (h : Vec Ideal S1x16 .f32) (j) : k3_pay5 h j = sc c4 h := by
  pointwise [k3_pay5, k3_pay4]
  simp only [fold_max _ _ Scale.ofBits_bot]
  exact Scale.scale (top h) c4

theorem k3_pay6_apply (h : Vec Ideal S1x16 .f32) (j) : k3_pay6 h j = inv c4 h := by
  pointwise [k3_pay6, k3_pay4]
  simp only [fold_max _ _ Scale.ofBits_bot]
  exact Scale.inverse (top h) c4

theorem k4_pay11_apply (h : Vec Ideal S1x16 .f32) (j) : k4_pay11 h j = sc c4 h := by
  pointwise [k4_pay11, k4_pay10]
  simp only [fold_max _ _ Scale.ofBits_bot]
  exact Scale.scale (top h) c4

theorem k4_pay14_apply (h : Vec Ideal S1x16 .f32) (j) : k4_pay14 h j = sc c5 h := by
  pointwise [k4_pay14, k4_pay13]
  simp only [fold_max _ _ Scale.ofBits_bot]
  exact Scale.scale (top h) c5

theorem k4_pay12_apply (h : Vec Ideal S1x16 .f32) (j) : k4_pay12 (F := Ideal) (k4_pay10 h) 127#32 j = inv c4 h := by
  pointwise [k4_pay12, k4_pay10]
  simp only [fold_max _ _ Scale.ofBits_bot]
  exact Scale.inverse (top h) c4

theorem k4_pay16_apply (h : Vec Ideal S1x16 .f32) (j) : k4_pay16 (F := Ideal) (k4_pay15 h) 23#32 j = inv c5 h := by
  pointwise [k4_pay16, k4_pay15, k4_pay13]
  simp only [fold_max _ _ Scale.ofBits_bot]
  exact Scale.inverse (top h) c5

theorem k4_pay8_apply (w : Vec Ideal S8x1024 .f32) (j) : k4_pay8 w j = all8 w := by
  unfold all8
  pointwise [k4_pay8]
  simp only [fold_max _ _ Scale.ofBits_bot]

theorem k4_pay9_apply (w : Vec Ideal S8x1024 .f32) (j) : k4_pay9 w j = all8 w := by
  unfold all8
  pointwise [k4_pay9]
  simp only [fold_max _ _ Scale.ofBits_bot]

section Mlp

open Cert.KernelIdeal.Mlp

variable (u : Ins Ideal)

/-- A point's block of the pre-activation, of the activation and of the gradient before the activation. -/
def zb : Mat 512 1024 := fun j => (∑ k : Fin 2048, u.x (ix2 (j 0) k) * u.w1 (ix2 k (j 1))) * (u.xs (ix2 0 0) * u.w1s (ix2 0 0))
def hb : Mat 512 1024 := fun j => zb u j * cdf (zb u j)
def dhb : Mat 512 1024 := fun j => (∑ k : Fin 2048, u.dy (ix2 (j 0) k) * u.w2 (ix2 (j 1) k)) * (u.dys (ix2 0 0) * u.w2s (ix2 0 0))
def gb : Mat 512 1024 := fun j => dhb u j * dgelu (zb u j)

theorem pay19_eq : k4_pay19 u.w1 u.x u.xs u.w1s = zb u := by
  funext j
  rw [eq_ix2 j]
  pointwise [k4_pay19, k4_pay17]
  rfl

theorem pay20_eq : k4_pay20 u.w1 u.x u.xs u.w1s = fun j => cdf (zb u j) := by
  funext j
  pointwise [k4_pay20, pay19_eq]
  rfl

theorem pay21_eq : k4_pay21 u.w1 u.x u.xs u.w1s = hb u := by
  funext j
  pointwise [k4_pay21, pay19_eq, pay20_eq]
  rfl

theorem h_apply (r : Fin 512) (l : Fin 1024) : u.h (ix2 r l) = quant lo4 hi4 (inv c4 u.hh) (hb u (ix2 r l)) := by
  rw [← k4_pay12_apply u.hh (ix2 0 0)]
  unfold Ins.h
  generalize k4_pay12 (F := Ideal) (k4_pay10 u.hh) 127#32 = s
  pointwise [k4_pay22, pay21_eq]
  rfl

theorem pay26_eq : k4_pay26 (k4_pay18 u.w2) (zb u) (fun j => cdf (zb u j)) u.dy u.dys u.w2s = gb u := by
  funext j
  rw [eq_ix2 j]
  pointwise [k4_pay26, k4_pay18]
  rfl

theorem g_apply (r : Fin 512) (l : Fin 1024) : u.g (ix2 r l) = quant lo5 hi5 (inv c5 u.hg) (gb u (ix2 r l)) := by
  rw [← k4_pay16_apply u.hg (ix2 0 0)]
  unfold Ins.g
  generalize k4_pay16 (F := Ideal) (k4_pay15 u.hg) 23#32 = s
  rw [pay19_eq, pay20_eq]
  pointwise [k4_pay27, pay26_eq]
  rfl

theorem hm_apply (b : BitVec 1) (w : Vec Ideal S8x1024 .f32) (r : Fin 8) (l : Fin 1024) : u.hm b w (ix2 r l) = step8 b (hb u) w r l := by
  unfold Ins.hm step8 sub8
  pointwise [k4_pay25, k4_pay24, k4_pay23, pay21_eq]
  rw [fold_max _ _ Scale.ofBits_bot]
  rfl

theorem gm_apply (b : BitVec 1) (w : Vec Ideal S8x1024 .f32) (r : Fin 8) (l : Fin 1024) : u.gm b w (ix2 r l) = step8 b (gb u) w r l := by
  unfold Ins.gm step8 sub8
  rw [pay19_eq, pay20_eq]
  pointwise [k4_pay1, k4_pay28, pay26_eq]
  rw [fold_max _ _ Scale.ofBits_bot]
  rfl

theorem y_apply (w : Vec Ideal S512x2048 .f32) (r : Fin 512) (l : Fin 2048) :
    u.y w (ix2 r l) = w (ix2 r l) + ∑ k : Fin 1024, u.h (ix2 r k) * u.w2 (ix2 k l) := by
  unfold Ins.y
  pointwise [k4_pay4, k4_pay18]

theorem dx_apply (w : Vec Ideal S512x2048 .f32) (r : Fin 512) (l : Fin 2048) :
    u.dx w (ix2 r l) = w (ix2 r l) + ∑ k : Fin 1024, u.g (ix2 r k) * u.w1 (ix2 l k) := by
  unfold Ins.dx
  pointwise [k4_pay5, k4_pay17]

theorem yEnd_apply (w : Vec Ideal S512x2048 .f32) (r : Fin 512) (l : Fin 2048) :
    u.yEnd w (ix2 r l) = u.y w (ix2 r l) * (sc c4 u.hh * u.w2s (ix2 0 0)) := by
  rw [← k4_pay11_apply u.hh (ix2 0 0)]
  unfold Ins.yEnd
  generalize k4_pay11 u.hh = s
  pointwise [k4_pay6]

theorem dxEnd_apply (w : Vec Ideal S512x2048 .f32) (r : Fin 512) (l : Fin 2048) :
    u.dxEnd w (ix2 r l) = u.dx w (ix2 r l) * (sc c5 u.hg * u.w1s (ix2 0 0)) := by
  rw [← k4_pay14_apply u.hg (ix2 0 0)]
  unfold Ins.dxEnd
  generalize k4_pay14 u.hg = s
  pointwise [k4_pay7]

theorem k4_pay2_apply (j) : k4_pay2 (F := Ideal) j = 0 := by pointwise [k4_pay2]
theorem k4_pay3_apply (j) : k4_pay3 (F := Ideal) j = 0 := by pointwise [k4_pay3]

end Mlp

theorem k5_pay1_apply (j) : k5_pay1 (F := Ideal) j = 0 := by pointwise [k5_pay1]

theorem k5_pay2_apply (p : Vec Ideal S2048x2048 .f32) (a : Vec Ideal S1024x2048 .fp8e4m3) (b : Vec Ideal S1024x2048 .fp8e5m2) (r : Fin 2048) (l : Fin 2048) :
    k5_pay2 p a b (ix2 r l) = p (ix2 r l) + ∑ k : Fin 1024, a (ix2 k r) * b (ix2 k l) := by
  pointwise [k5_pay2]

theorem k5_pay3_apply (p : Vec Ideal S2048x2048 .f32) (s t : Vec Ideal S1x1 .f32) (r : Fin 2048) (l : Fin 2048) :
    k5_pay3 p s t (ix2 r l) = p (ix2 r l) * (s (ix2 0 0) * t (ix2 0 0)) := by
  pointwise [k5_pay3]

theorem k6_pay1_apply (j) : k6_pay1 (F := Ideal) j = 0 := by pointwise [k6_pay1]

theorem k6_pay2_apply (p : Vec Ideal S2048x2048 .f32) (a : Vec Ideal S1024x2048 .fp8e4m3) (b : Vec Ideal S1024x2048 .fp8e5m2) (r : Fin 2048) (l : Fin 2048) :
    k6_pay2 p a b (ix2 r l) = p (ix2 r l) + ∑ k : Fin 1024, a (ix2 k r) * b (ix2 k l) := by
  pointwise [k6_pay2]

theorem k6_pay3_apply (p : Vec Ideal S2048x2048 .f32) (s t : Vec Ideal S1x1 .f32) (r : Fin 2048) (l : Fin 2048) :
    k6_pay3 p s t (ix2 r l) = p (ix2 r l) * (s (ix2 0 0) * t (ix2 0 0)) := by
  pointwise [k6_pay3]

end Cert.KernelIdeal.Pay

end
-- ==== Proof.Blocks.lean ====
/-
  Facts about blocks used by every call: an index of a matrix as a pair, and the running maximum of eight rows over the blocks of a matrix
  as the largest absolute value of the matrix.
-/
module

public import proofs.«01_k».proof.Proof.KPay

@[expose] public section

noncomputable section

namespace Cert.KernelIdeal.Pay

open Cert.Spec
open Idealize.ShloMosaic

theorem ex2 {a b : ℕ} (y : (⟨2, ![a, b]⟩ : Shape).Idx) : ∃ (r : Fin a) (l : Fin b), y = ix2 r l := ⟨y 0, y 1, eq_ix2 y⟩

/-- The bit that marks the first point. -/
theorem bit_zero : Scalar.cmpi .eq (BitVec.ofNat 32 0) 0#32 = 1#1 := rfl
theorem bit_succ (n : ℕ) (h : 0 < n) (h' : n < 256) : Scalar.cmpi .eq (BitVec.ofNat 32 n) 0#32 = 0#1 := by
  have : BitVec.ofNat 32 n ≠ 0#32 := fun e => by
    have := congrArg BitVec.toNat e
    simp only [BitVec.toNat_ofNat] at this
    omega
  unfold Scalar.cmpi IntOp.cmpi
  rw [beq_eq_false_iff_ne.mpr this]
  rfl

theorem step8_one {n : ℕ} (v : Mat 512 n) (w : Mat 8 n) (r : Fin 8) (l : Fin n) : step8 1#1 v w r l = sub8 v r l := rfl
theorem step8_zero {n : ℕ} (v : Mat 512 n) (w : Mat 8 n) (r : Fin 8) (l : Fin n) : step8 0#1 v w r l = max (w (ix2 r l)) (sub8 v r l) := rfl

theorem amax_le {a b : ℕ} (v : Mat a b) (x : EReal) : amax v ≤ x ↔ ∀ i j, absE (v (ix2 i j)) ≤ x := by
  unfold amax
  simp only [iSup_le_iff]

theorem sub8_le {n : ℕ} (v : Mat 512 n) (l : Fin n) (x : EReal) : (∀ r, sub8 v r l ≤ x) ↔ ∀ i, absE (v (ix2 i l)) ≤ x := by
  unfold sub8
  simp only [iSup_le_iff]
  constructor
  · intro h i
    have := h ⟨i.val % 8, by omega⟩ ⟨i.val / 8, by omega⟩
    have e : (⟨i.val / 8 * 8 + i.val % 8, by omega⟩ : Fin 512) = i := Fin.ext (by dsimp only; omega)
    simpa only [e] using this
  · intro h r k
    exact h _

/-- The running maximum over blocks `v`, read as one number. -/
theorem run_le {N L : ℕ} (f : (n : ℕ) → n < N → Mat 8 L) (v : Fin N → Mat 512 L)
    (h0 : ∀ h r l, f 0 h (ix2 r l) = sub8 (v ⟨0, h⟩) r l)
    (hs : ∀ n h r l, f (n + 1) h (ix2 r l) = max (f n (Nat.lt_of_succ_lt h) (ix2 r l)) (sub8 (v ⟨n + 1, h⟩) r l)) (x : EReal) :
    ∀ (n : ℕ) (hn : n < N), (∀ l r, f n hn (ix2 r l) ≤ x) ↔ ∀ t : Fin N, t.val ≤ n → ∀ i l, absE (v t (ix2 i l)) ≤ x := by
  intro n
  induction n with
  | zero =>
    intro hn
    simp only [h0, sub8_le]
    constructor
    · intro h t ht i l
      obtain rfl : t = ⟨0, hn⟩ := Fin.ext (by dsimp only; omega)
      exact h l i
    · intro h l i
      exact h ⟨0, hn⟩ (le_refl _) i l
  | succ n ih =>
    intro hn
    have ih := ih (Nat.lt_of_succ_lt hn)
    have e : (∀ l r, f (n + 1) hn (ix2 r l) ≤ x) ↔ (∀ l r, f n (Nat.lt_of_succ_lt hn) (ix2 r l) ≤ x) ∧ ∀ l r, sub8 (v ⟨n + 1, hn⟩) r l ≤ x :=
      ⟨fun h => ⟨fun l r => (max_le_iff.mp (hs n hn r l ▸ h l r)).1, fun l r => (max_le_iff.mp (hs n hn r l ▸ h l r)).2⟩,
        fun h l r => (hs n hn r l).symm ▸ max_le (h.1 l r) (h.2 l r)⟩
    rw [e, ih]
    simp only [sub8_le]
    constructor
    · rintro ⟨h, h'⟩ t ht i l
      by_cases e : t.val ≤ n
      · exact h t e i l
      · obtain rfl : t = ⟨n + 1, hn⟩ := Fin.ext (by dsimp only; omega)
        exact h' l i
    · intro h
      exact ⟨fun t ht i l => h t (by omega) i l, fun l i => h ⟨n + 1, hn⟩ (le_refl _) i l⟩

/-- The running maximum over all the blocks of a matrix is the largest absolute value of the matrix. -/
theorem run_amax {N L a b : ℕ} (G : Mat a b) (f : (n : ℕ) → n < N → Mat 8 L) (v : Fin N → Mat 512 L)
    (h0 : ∀ h r l, f 0 h (ix2 r l) = sub8 (v ⟨0, h⟩) r l)
    (hs : ∀ n h r l, f (n + 1) h (ix2 r l) = max (f n (Nat.lt_of_succ_lt h) (ix2 r l)) (sub8 (v ⟨n + 1, h⟩) r l))
    (hout : ∀ t r l, ∃ i j, v t (ix2 r l) = G (ix2 i j)) (hin : ∀ i j, ∃ t r l, v t (ix2 r l) = G (ix2 i j))
    (n : ℕ) (hn : n < N) (hl : N ≤ n + 1) : all8 (f n hn) = amax G := by
  refine eq_of_forall_ge_iff fun x => ?_
  rw [amax_le]
  unfold all8
  simp only [iSup_le_iff]
  rw [run_le f v h0 hs x n hn]
  constructor
  · intro h i j
    obtain ⟨t, r, l, e⟩ := hin i j
    rw [← e]
    exact h t (by omega) r l
  · intro h t _ r l
    obtain ⟨i, j, e⟩ := hout t r l
    rw [e]
    exact h i j

/-- The product of the first matrix, transposed, with the second, at an index; and that it depends on the index alone. -/
def tdot {n a b : ℕ} (L : Mat n a) (R : Mat n b) (i : Fin a) (j : Fin b) : EReal := ∑ k : Fin n, L (ix2 k i) * R (ix2 k j)
theorem tdot_congr {n a b : ℕ} (L : Mat n a) (R : Mat n b) {i i' : Fin a} {j j' : Fin b} (s : EReal) (hi : i.val = i'.val) (hj : j.val = j'.val) :
    tdot L R i j * s = tdot L R i' j' * s := by
  rw [Fin.ext hi, Fin.ext hj]

/-- The plain product of two matrices at an index, and the product with the second transposed. -/
def pdot {n a b : ℕ} (L : Mat a n) (R : Mat n b) (i : Fin a) (j : Fin b) : EReal := ∑ k : Fin n, L (ix2 i k) * R (ix2 k j)
def rdot {n a b : ℕ} (L : Mat a n) (R : Mat b n) (i : Fin a) (j : Fin b) : EReal := ∑ k : Fin n, L (ix2 i k) * R (ix2 j k)
theorem pdot_congr {n a b : ℕ} (L : Mat a n) (R : Mat n b) {i i' : Fin a} {j j' : Fin b} (s : EReal) (hi : i.val = i'.val) (hj : j.val = j'.val) :
    pdot L R i j * s = pdot L R i' j' * s := by
  rw [Fin.ext hi, Fin.ext hj]
theorem rdot_congr {n a b : ℕ} (L : Mat a n) (R : Mat b n) {i i' : Fin a} {j j' : Fin b} (s : EReal) (hi : i.val = i'.val) (hj : j.val = j'.val) :
    rdot L R i j * s = rdot L R i' j' * s := by
  rw [Fin.ext hi, Fin.ext hj]

/-- An entry of a matrix depends on the index alone. -/
theorem mat_congr {a b : ℕ} (G : Mat a b) {i i' : Fin a} {j j' : Fin b} (hi : i.val = i'.val) (hj : j.val = j'.val) : G (ix2 i j) = G (ix2 i' j') := by
  rw [Fin.ext hi, Fin.ext hj]

end Cert.KernelIdeal.Pay

end
-- ==== Proof.VQuantX.lean ====
/-
  What the call that quantises `x` leaves in its results: the codes of the matrix, the scale of the history, and the largest absolute value.
-/
module

public import proofs.«01_k».proof.Proof.Blocks
public import proofs.«01_k».proof.Proof.QuantX
public import Idealize.ShloMosaic.Lib.Pipeline.ValueKit.Point

@[expose] public section

set_option maxRecDepth 16384

noncomputable section

namespace Cert.KernelIdeal.QuantX

open Cert.KernelIdeal.Gen Cert.Spec Cert.KernelIdeal.Pay
open Idealize.ShloMosaic Idealize.SL

variable (V : Dev nD → Valuation τ sig (Elt Ideal))

/-- The two arguments of the call, as matrices. -/
abbrev hist (c : Dev nD) : Mat 1 16 := V c (Proc.devRef .tc (Pipeline.arrRef spec0 0))
abbrev src (c : Dev nD) : Mat 16384 2048 := V c (Proc.devRef .tc (Pipeline.arrRef spec0 1))

theorem lt (t : Fin cfg0.N) : t.val < 32 := Nat.lt_of_lt_of_eq t.isLt N_0
theorem coord (t : Fin cfg0.N) : (grid0.coords t 0).val = t.val := by
  have e : (grid0.coords t 0).val = t.val / 1 % 32 := Pipeline.Grid.coords_val (G := grid0) t 0 (by decide) rfl
  have := lt t
  omega

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])

theorem blk_0 (c : Dev nD) (t : Fin cfg0.N) : blk V c 0 t = hist V c := by
  funext j
  blk_simp [blk]
  congr 1
  blk_ext [idx0]

theorem blk_1 (c : Dev nD) (t : Fin cfg0.N) (r : Fin 512) (l : Fin 2048) :
    blk V c 1 t (ix2 r l) = src V c (ix2 ⟨t.val * 512 + r.val, by have := lt t; omega⟩ l) := by
  blk_simp [blk]
  congr 1
  blk_ext [idx1]

/-- The codes. -/
theorem arr_2 (c : Dev nD) : (dat V c).arrAt 2 cfg0.N = fun j => quant lo4 hi4 (inv c4 (hist V c)) (src V c j) := by
  refine (dat V c).arrAt_eq_of_covers 2 _ (by decide +kernel) fun t hf y => ?_
  blk_simp
  rw [after_2, blk_0]
  obtain ⟨r, l, rfl⟩ := ex2 (a := 512) (b := 2048) y
  refine (k0_pay2_apply _ _ r l).trans ?_
  rw [k0_pay7_apply, blk_1]
  congr 2
  blk_ext [idx2]

/-- The scale. -/
theorem arr_3 (c : Dev nD) : (dat V c).arrAt 3 cfg0.N = fun _ => sc c4 (hist V c) := by
  refine (dat V c).arrAt_eq_of_covers 3 _ (by decide +kernel) fun t hf y => ?_
  blk_simp
  rw [after_3, blk_0]
  exact k0_pay6_apply _ _

/-- The running maximum at the last point. -/
theorem acc_end (c : Dev nD) (n : ℕ) (hn : n < cfg0.N) (hl : n % 32 = 31) : all8 (acc V c n hn) = amax (src V c) := by
  have hN : cfg0.N = 32 := N_0
  refine run_amax (src V c) (acc V c) (fun t => blk V c 1 t) ?_ ?_ ?_ ?_ n hn (by omega)
  · intro h r l
    unfold acc
    rw [coord]
    exact k0_pay3_apply _ _ _ r l
  · intro n h r l
    conv_lhs => unfold acc
    rw [coord]
    refine (k0_pay3_apply _ _ _ r l).trans ?_
    rw [bit_succ (n + 1) (by omega) (by omega)]
    rfl
  · intro t r l
    exact ⟨_, _, blk_1 V c t r l⟩
  · intro i j
    refine ⟨⟨i.val / 512, by omega⟩, ⟨i.val % 512, by omega⟩, j, (blk_1 V c _ _ j).trans ?_⟩
    congr 2
    exact Fin.ext (by dsimp only; omega)

/-- The largest absolute value. -/
theorem arr_4 (c : Dev nD) : (dat V c).arrAt 4 cfg0.N = fun _ => amax (src V c) := by
  refine (dat V c).arrAt_eq_of_covers 4 _ (by decide +kernel) fun t hf y => ?_
  blk_simp
  rw [after_4]
  exact (k0_pay4_apply _ _).trans (acc_end V c _ _ ((flush0_4 t).mp hf))

end Cert.KernelIdeal.QuantX

end
-- ==== Proof.VQuantDy.lean ====
/-
  What the call that quantises `dy` leaves in its results: the codes of the matrix, the scale of the history, and the largest absolute value.
-/
module

public import proofs.«01_k».proof.Proof.Blocks
public import proofs.«01_k».proof.Proof.QuantDy
public import Idealize.ShloMosaic.Lib.Pipeline.ValueKit.Point

@[expose] public section

set_option maxRecDepth 16384

noncomputable section

namespace Cert.KernelIdeal.QuantDy

open Cert.KernelIdeal.Gen Cert.Spec Cert.KernelIdeal.Pay
open Idealize.ShloMosaic Idealize.SL

variable (V : Dev nD → Valuation τ sig (Elt Ideal))

/-- The two arguments of the call, as matrices. -/
abbrev hist (c : Dev nD) : Mat 1 16 := V c (Proc.devRef .tc (Pipeline.arrRef spec1 0))
abbrev src (c : Dev nD) : Mat 16384 2048 := V c (Proc.devRef .tc (Pipeline.arrRef spec1 1))

theorem lt (t : Fin cfg1.N) : t.val < 32 := Nat.lt_of_lt_of_eq t.isLt N_1
theorem coord (t : Fin cfg1.N) : (grid1.coords t 0).val = t.val := by
  have e : (grid1.coords t 0).val = t.val / 1 % 32 := Pipeline.Grid.coords_val (G := grid1) t 0 (by decide) rfl
  have := lt t
  omega

theorem idx0 : ∀ t : Fin cfg1.N, win1_0.index t = ![0, 0] := (by decide +kernel : ∀ t : Fin grid1.N, win1_0.index t = ![0, 0])
theorem idx1 : ∀ t : Fin cfg1.N, win1_1.index t = ![t.val, 0] := (by decide +kernel : ∀ t : Fin grid1.N, win1_1.index t = ![t.val, 0])
theorem idx2 : ∀ t : Fin cfg1.N, win1_2.index t = ![t.val, 0] := (by decide +kernel : ∀ t : Fin grid1.N, win1_2.index t = ![t.val, 0])

theorem blk_0 (c : Dev nD) (t : Fin cfg1.N) : blk V c 0 t = hist V c := by
  funext j
  blk_simp [blk]
  congr 1
  blk_ext [idx0]

theorem blk_1 (c : Dev nD) (t : Fin cfg1.N) (r : Fin 512) (l : Fin 2048) :
    blk V c 1 t (ix2 r l) = src V c (ix2 ⟨t.val * 512 + r.val, by have := lt t; omega⟩ l) := by
  blk_simp [blk]
  congr 1
  blk_ext [idx1]

/-- The codes. -/
theorem arr_2 (c : Dev nD) : (dat V c).arrAt 2 cfg1.N = fun j => quant lo5 hi5 (inv c5 (hist V c)) (src V c j) := by
  refine (dat V c).arrAt_eq_of_covers 2 _ (by decide +kernel) fun t hf y => ?_
  blk_simp
  rw [after_2, blk_0]
  obtain ⟨r, l, rfl⟩ := ex2 (a := 512) (b := 2048) y
  refine (k1_pay2_apply _ _ r l).trans ?_
  rw [k1_pay7_apply, blk_1]
  congr 2
  blk_ext [idx2]

/-- The scale. -/
theorem arr_3 (c : Dev nD) : (dat V c).arrAt 3 cfg1.N = fun _ => sc c5 (hist V c) := by
  refine (dat V c).arrAt_eq_of_covers 3 _ (by decide +kernel) fun t hf y => ?_
  blk_simp
  rw [after_3, blk_0]
  exact k1_pay6_apply _ _

/-- The running maximum at the last point. -/
theorem acc_end (c : Dev nD) (n : ℕ) (hn : n < cfg1.N) (hl : n % 32 = 31) : all8 (acc V c n hn) = amax (src V c) := by
  have hN : cfg1.N = 32 := N_1
  refine run_amax (src V c) (acc V c) (fun t => blk V c 1 t) ?_ ?_ ?_ ?_ n hn (by omega)
  · intro h r l
    unfold acc
    rw [coord]
    exact k1_pay3_apply _ _ _ r l
  · intro n h r l
    conv_lhs => unfold acc
    rw [coord]
    refine (k1_pay3_apply _ _ _ r l).trans ?_
    rw [bit_succ (n + 1) (by omega) (by omega)]
    rfl
  · intro t r l
    exact ⟨_, _, blk_1 V c t r l⟩
  · intro i j
    refine ⟨⟨i.val / 512, by omega⟩, ⟨i.val % 512, by omega⟩, j, (blk_1 V c _ _ j).trans ?_⟩
    congr 2
    exact Fin.ext (by dsimp only; omega)

/-- The largest absolute value. -/
theorem arr_4 (c : Dev nD) : (dat V c).arrAt 4 cfg1.N = fun _ => amax (src V c) := by
  refine (dat V c).arrAt_eq_of_covers 4 _ (by decide +kernel) fun t hf y => ?_
  blk_simp
  rw [after_4]
  exact (k1_pay4_apply _ _).trans (acc_end V c _ _ ((flush1_4 t).mp hf))

end Cert.KernelIdeal.QuantDy

end
-- ==== Proof.VQuantW1.lean ====
/-
  What the call that quantises `w1` leaves in its results: the codes of the matrix, the scale of the history, and the largest absolute value.
-/
module

public import proofs.«01_k».proof.Proof.Blocks
public import proofs.«01_k».proof.Proof.QuantW1
public import Idealize.ShloMosaic.Lib.Pipeline.ValueKit.Point

@[expose] public section

set_option maxRecDepth 16384

noncomputable section

namespace Cert.KernelIdeal.QuantW1

open Cert.KernelIdeal.Gen Cert.Spec Cert.KernelIdeal.Pay
open Idealize.ShloMosaic Idealize.SL

variable (V : Dev nD → Valuation τ sig (Elt Ideal))

/-- The two arguments of the call, as matrices. -/
abbrev hist (c : Dev nD) : Mat 1 16 := V c (Proc.devRef .tc (Pipeline.arrRef spec2 0))
abbrev src (c : Dev nD) : Mat 2048 8192 := V c (Proc.devRef .tc (Pipeline.arrRef spec2 1))

theorem lt (t : Fin cfg2.N) : t.val < 4 := Nat.lt_of_lt_of_eq t.isLt N_2
theorem coord (t : Fin cfg2.N) : (grid2.coords t 0).val = t.val := by
  have e : (grid2.coords t 0).val = t.val / 1 % 4 := Pipeline.Grid.coords_val (G := grid2) t 0 (by decide) rfl
  have := lt t
  omega

theorem idx0 : ∀ t : Fin cfg2.N, win2_0.index t = ![0, 0] := (by decide +kernel : ∀ t : Fin grid2.N, win2_0.index t = ![0, 0])
theorem idx1 : ∀ t : Fin cfg2.N, win2_1.index t = ![t.val, 0] := (by decide +kernel : ∀ t : Fin grid2.N, win2_1.index t = ![t.val, 0])
theorem idx2 : ∀ t : Fin cfg2.N, win2_2.index t = ![t.val, 0] := (by decide +kernel : ∀ t : Fin grid2.N, win2_2.index t = ![t.val, 0])

theorem blk_0 (c : Dev nD) (t : Fin cfg2.N) : blk V c 0 t = hist V c := by
  funext j
  blk_simp [blk]
  congr 1
  blk_ext [idx0]

theorem blk_1 (c : Dev nD) (t : Fin cfg2.N) (r : Fin 512) (l : Fin 8192) :
    blk V c 1 t (ix2 r l) = src V c (ix2 ⟨t.val * 512 + r.val, by have := lt t; omega⟩ l) := by
  blk_simp [blk]
  congr 1
  blk_ext [idx1]

/-- The codes. -/
theorem arr_2 (c : Dev nD) : (dat V c).arrAt 2 cfg2.N = fun j => quant lo4 hi4 (inv c4 (hist V c)) (src V c j) := by
  refine (dat V c).arrAt_eq_of_covers 2 _ (by decide +kernel) fun t hf y => ?_
  blk_simp
  rw [after_2, blk_0]
  obtain ⟨r, l, rfl⟩ := ex2 (a := 512) (b := 8192) y
  refine (k2_pay1_apply _ _ r l).trans ?_
  rw [k2_pay6_apply, blk_1]
  congr 2
  blk_ext [idx2]

/-- The scale. -/
theorem arr_3 (c : Dev nD) : (dat V c).arrAt 3 cfg2.N = fun _ => sc c4 (hist V c) := by
  refine (dat V c).arrAt_eq_of_covers 3 _ (by decide +kernel) fun t hf y => ?_
  blk_simp
  rw [after_3, blk_0]
  exact k2_pay5_apply _ _

/-- The running maximum at the last point. -/
theorem acc_end (c : Dev nD) (n : ℕ) (hn : n < cfg2.N) (hl : n % 4 = 3) : all8 (acc V c n hn) = amax (src V c) := by
  have hN : cfg2.N = 4 := N_2
  refine run_amax (src V c) (acc V c) (fun t => blk V c 1 t) ?_ ?_ ?_ ?_ n hn (by omega)
  · intro h r l
    unfold acc
    rw [coord]
    exact k2_pay2_apply _ _ _ r l
  · intro n h r l
    conv_lhs => unfold acc
    rw [coord]
    refine (k2_pay2_apply _ _ _ r l).trans ?_
    rw [bit_succ (n + 1) (by omega) (by omega)]
    rfl
  · intro t r l
    exact ⟨_, _, blk_1 V c t r l⟩
  · intro i j
    refine ⟨⟨i.val / 512, by omega⟩, ⟨i.val % 512, by omega⟩, j, (blk_1 V c _ _ j).trans ?_⟩
    congr 2
    exact Fin.ext (by dsimp only; omega)

/-- The largest absolute value. -/
theorem arr_4 (c : Dev nD) : (dat V c).arrAt 4 cfg2.N = fun _ => amax (src V c) := by
  refine (dat V c).arrAt_eq_of_covers 4 _ (by decide +kernel) fun t hf y => ?_
  blk_simp
  rw [after_4]
  exact (k2_pay3_apply _ _).trans (acc_end V c _ _ ((flush2_4 t).mp hf))

end Cert.KernelIdeal.QuantW1

end
-- ==== Proof.VQuantW2.lean ====
/-
  What the call that quantises `w2` leaves in its results: the codes of the matrix, the scale of the history, and the largest absolute value.
-/
module

public import proofs.«01_k».proof.Proof.Blocks
public import proofs.«01_k».proof.Proof.QuantW2
public import Idealize.ShloMosaic.Lib.Pipeline.ValueKit.Point

@[expose] public section

set_option maxRecDepth 16384

noncomputable section

namespace Cert.KernelIdeal.QuantW2

open Cert.KernelIdeal.Gen Cert.Spec Cert.KernelIdeal.Pay
open Idealize.ShloMosaic Idealize.SL

variable (V : Dev nD → Valuation τ sig (Elt Ideal))

/-- The two arguments of the call, as matrices. -/
abbrev hist (c : Dev nD) : Mat 1 16 := V c (Proc.devRef .tc (Pipeline.arrRef spec3 0))
abbrev src (c : Dev nD) : Mat 8192 2048 := V c (Proc.devRef .tc (Pipeline.arrRef spec3 1))

theorem lt (t : Fin cfg3.N) : t.val < 16 := Nat.lt_of_lt_of_eq t.isLt N_3
theorem coord (t : Fin cfg3.N) : (grid3.coords t 0).val = t.val := by
  have e : (grid3.coords t 0).val = t.val / 1 % 16 := Pipeline.Grid.coords_val (G := grid3) t 0 (by decide) rfl
  have := lt t
  omega

theorem idx0 : ∀ t : Fin cfg3.N, win3_0.index t = ![0, 0] := (by decide +kernel : ∀ t : Fin grid3.N, win3_0.index t = ![0, 0])
theorem idx1 : ∀ t : Fin cfg3.N, win3_1.index t = ![t.val, 0] := (by decide +kernel : ∀ t : Fin grid3.N, win3_1.index t = ![t.val, 0])
theorem idx2 : ∀ t : Fin cfg3.N, win3_2.index t = ![t.val, 0] := (by decide +kernel : ∀ t : Fin grid3.N, win3_2.index t = ![t.val, 0])

theorem blk_0 (c : Dev nD) (t : Fin cfg3.N) : blk V c 0 t = hist V c := by
  funext j
  blk_simp [blk]
  congr 1
  blk_ext [idx0]

theorem blk_1 (c : Dev nD) (t : Fin cfg3.N) (r : Fin 512) (l : Fin 2048) :
    blk V c 1 t (ix2 r l) = src V c (ix2 ⟨t.val * 512 + r.val, by have := lt t; omega⟩ l) := by
  blk_simp [blk]
  congr 1
  blk_ext [idx1]

/-- The codes. -/
theorem arr_2 (c : Dev nD) : (dat V c).arrAt 2 cfg3.N = fun j => quant lo4 hi4 (inv c4 (hist V c)) (src V c j) := by
  refine (dat V c).arrAt_eq_of_covers 2 _ (by decide +kernel) fun t hf y => ?_
  blk_simp
  rw [after_2, blk_0]
  obtain ⟨r, l, rfl⟩ := ex2 (a := 512) (b := 2048) y
  refine (k3_pay1_apply _ _ r l).trans ?_
  rw [k3_pay6_apply, blk_1]
  congr 2
  blk_ext [idx2]

/-- The scale. -/
theorem arr_3 (c : Dev nD) : (dat V c).arrAt 3 cfg3.N = fun _ => sc c4 (hist V c) := by
  refine (dat V c).arrAt_eq_of_covers 3 _ (by decide +kernel) fun t hf y => ?_
  blk_simp
  rw [after_3, blk_0]
  exact k3_pay5_apply _ _

/-- The running maximum at the last point. -/
theorem acc_end (c : Dev nD) (n : ℕ) (hn : n < cfg3.N) (hl : n % 16 = 15) : all8 (acc V c n hn) = amax (src V c) := by
  have hN : cfg3.N = 16 := N_3
  refine run_amax (src V c) (acc V c) (fun t => blk V c 1 t) ?_ ?_ ?_ ?_ n hn (by omega)
  · intro h r l
    unfold acc
    rw [coord]
    exact k3_pay2_apply _ _ _ r l
  · intro n h r l
    conv_lhs => unfold acc
    rw [coord]
    refine (k3_pay2_apply _ _ _ r l).trans ?_
    rw [bit_succ (n + 1) (by omega) (by omega)]
    rfl
  · intro t r l
    exact ⟨_, _, blk_1 V c t r l⟩
  · intro i j
    refine ⟨⟨i.val / 512, by omega⟩, ⟨i.val % 512, by omega⟩, j, (blk_1 V c _ _ j).trans ?_⟩
    congr 2
    exact Fin.ext (by dsimp only; omega)

/-- The largest absolute value. -/
theorem arr_4 (c : Dev nD) : (dat V c).arrAt 4 cfg3.N = fun _ => amax (src V c) := by
  refine (dat V c).arrAt_eq_of_covers 4 _ (by decide +kernel) fun t hf y => ?_
  blk_simp
  rw [after_4]
  exact (k3_pay3_apply _ _).trans (acc_end V c _ _ ((flush3_4 t).mp hf))

end Cert.KernelIdeal.QuantW2

end
-- ==== Proof.VMlp.lean ====
/-
  What the call that runs the two layers forwards and backwards leaves in its eight results.
-/
module

public import proofs.«01_k».proof.Proof.Blocks
public import proofs.«01_k».proof.Proof.Mlp
public import Idealize.ShloMosaic.Lib.Pipeline.ValueKit.Point

@[expose] public section

set_option maxRecDepth 16384

noncomputable section

namespace Cert.KernelIdeal.Mlp

open Cert.KernelIdeal.Gen Cert.Spec Cert.KernelIdeal.Pay
open Idealize.ShloMosaic Idealize.SL

variable (V : Dev nD → Valuation τ sig (Elt Ideal))

/-- The ten arguments of the call, as matrices. -/
abbrev a0 (c : Dev nD) : Mat 1 1 := V c (Proc.devRef .tc (Pipeline.arrRef spec4 0))
abbrev a1 (c : Dev nD) : Mat 1 1 := V c (Proc.devRef .tc (Pipeline.arrRef spec4 1))
abbrev a2 (c : Dev nD) : Mat 1 1 := V c (Proc.devRef .tc (Pipeline.arrRef spec4 2))
abbrev a3 (c : Dev nD) : Mat 1 1 := V c (Proc.devRef .tc (Pipeline.arrRef spec4 3))
abbrev a4 (c : Dev nD) : Mat 1 16 := V c (Proc.devRef .tc (Pipeline.arrRef spec4 4))
abbrev a5 (c : Dev nD) : Mat 1 16 := V c (Proc.devRef .tc (Pipeline.arrRef spec4 5))
abbrev a6 (c : Dev nD) : Mat 16384 2048 := V c (Proc.devRef .tc (Pipeline.arrRef spec4 6))
abbrev a7 (c : Dev nD) : Mat 16384 2048 := V c (Proc.devRef .tc (Pipeline.arrRef spec4 7))
abbrev a8 (c : Dev nD) : Mat 2048 8192 := V c (Proc.devRef .tc (Pipeline.arrRef spec4 8))
abbrev a9 (c : Dev nD) : Mat 8192 2048 := V c (Proc.devRef .tc (Pipeline.arrRef spec4 9))

theorem lt (t : Fin cfg4.N) : t.val < 256 := Nat.lt_of_lt_of_eq t.isLt N_4

theorem idx0 : ∀ t : Fin cfg4.N, win4_0.index t = ![0, 0] := (by decide +kernel : ∀ t : Fin grid4.N, win4_0.index t = ![0, 0])
theorem idx1 : ∀ t : Fin cfg4.N, win4_1.index t = ![0, 0] := (by decide +kernel : ∀ t : Fin grid4.N, win4_1.index t = ![0, 0])
theorem idx2 : ∀ t : Fin cfg4.N, win4_2.index t = ![0, 0] := (by decide +kernel : ∀ t : Fin grid4.N, win4_2.index t = ![0, 0])
theorem idx3 : ∀ t : Fin cfg4.N, win4_3.index t = ![0, 0] := (by decide +kernel : ∀ t : Fin grid4.N, win4_3.index t = ![0, 0])
theorem idx4 : ∀ t : Fin cfg4.N, win4_4.index t = ![0, 0] := (by decide +kernel : ∀ t : Fin grid4.N, win4_4.index t = ![0, 0])
theorem idx5 : ∀ t : Fin cfg4.N, win4_5.index t = ![0, 0] := (by decide +kernel : ∀ t : Fin grid4.N, win4_5.index t = ![0, 0])
theorem idx6 : ∀ t : Fin cfg4.N, win4_6.index t = ![t.val / 8, 0] := (by decide +kernel : ∀ t : Fin grid4.N, win4_6.index t = ![t.val / 8, 0])
theorem idx7 : ∀ t : Fin cfg4.N, win4_7.index t = ![t.val / 8, 0] := (by decide +kernel : ∀ t : Fin grid4.N, win4_7.index t = ![t.val / 8, 0])
theorem idx8 : ∀ t : Fin cfg4.N, win4_8.index t = ![0, t.val % 8] := (by decide +kernel : ∀ t : Fin grid4.N, win4_8.index t = ![0, t.val % 8])
theorem idx9 : ∀ t : Fin cfg4.N, win4_9.index t = ![t.val % 8, 0] := (by decide +kernel : ∀ t : Fin grid4.N, win4_9.index t = ![t.val % 8, 0])
theorem idx10 : ∀ t : Fin cfg4.N, win4_10.index t = ![t.val / 8, t.val % 8] := (by decide +kernel : ∀ t : Fin grid4.N, win4_10.index t = ![t.val / 8, t.val % 8])
theorem idx11 : ∀ t : Fin cfg4.N, win4_11.index t = ![t.val / 8, t.val % 8] := (by decide +kernel : ∀ t : Fin grid4.N, win4_11.index t = ![t.val / 8, t.val % 8])
theorem idx12 : ∀ t : Fin cfg4.N, win4_12.index t = ![t.val / 8, 0] := (by decide +kernel : ∀ t : Fin grid4.N, win4_12.index t = ![t.val / 8, 0])
theorem idx13 : ∀ t : Fin cfg4.N, win4_13.index t = ![t.val / 8, 0] := (by decide +kernel : ∀ t : Fin grid4.N, win4_13.index t = ![t.val / 8, 0])

theorem blk_0 (c : Dev nD) (t : Fin cfg4.N) : blk V c 0 t = a0 V c := by
  funext j
  blk_simp [blk]
  congr 1
  blk_ext [idx0]

theorem blk_1 (c : Dev nD) (t : Fin cfg4.N) : blk V c 1 t = a1 V c := by
  funext j
  blk_simp [blk]
  congr 1
  blk_ext [idx1]

theorem blk_2 (c : Dev nD) (t : Fin cfg4.N) : blk V c 2 t = a2 V c := by
  funext j
  blk_simp [blk]
  congr 1
  blk_ext [idx2]

theorem blk_3 (c : Dev nD) (t : Fin cfg4.N) : blk V c 3 t = a3 V c := by
  funext j
  blk_simp [blk]
  congr 1
  blk_ext [idx3]

theorem blk_4 (c : Dev nD) (t : Fin cfg4.N) : blk V c 4 t = a4 V c := by
  funext j
  blk_simp [blk]
  congr 1
  blk_ext [idx4]

theorem blk_5 (c : Dev nD) (t : Fin cfg4.N) : blk V c 5 t = a5 V c := by
  funext j
  blk_simp [blk]
  congr 1
  blk_ext [idx5]

theorem blk_6 (c : Dev nD) (t : Fin cfg4.N) (r : Fin 512) (l : Fin 2048) : blk V c 6 t (ix2 r l) = a6 V c (ix2 ⟨t.val / 8 * 512 + r.val, by have := lt t; omega⟩ l) := by
  blk_simp [blk]
  congr 1
  blk_ext [idx6]

theorem blk_7 (c : Dev nD) (t : Fin cfg4.N) (r : Fin 512) (l : Fin 2048) : blk V c 7 t (ix2 r l) = a7 V c (ix2 ⟨t.val / 8 * 512 + r.val, by have := lt t; omega⟩ l) := by
  blk_simp [blk]
  congr 1
  blk_ext [idx7]

theorem blk_8 (c : Dev nD) (t : Fin cfg4.N) (r : Fin 2048) (l : Fin 1024) : blk V c 8 t (ix2 r l) = a8 V c (ix2 r ⟨t.val % 8 * 1024 + l.val, by have := lt t; omega⟩) := by
  blk_simp [blk]
  congr 1
  blk_ext [idx8]

theorem blk_9 (c : Dev nD) (t : Fin cfg4.N) (r : Fin 1024) (l : Fin 2048) : blk V c 9 t (ix2 r l) = a9 V c (ix2 ⟨t.val % 8 * 1024 + r.val, by have := lt t; omega⟩ l) := by
  blk_simp [blk]
  congr 1
  blk_ext [idx9]

/-- The whole of the pre-activation, of the activation, and of the gradient after and before the activation; and the codes. -/
def zW (c : Dev nD) : Mat 16384 8192 := fun j => pdot (a6 V c) (a8 V c) (j 0) (j 1) * (a0 V c (ix2 0 0) * a1 V c (ix2 0 0))
def hW (c : Dev nD) : Mat 16384 8192 := fun j => zW V c j * cdf (zW V c j)
def dhW (c : Dev nD) : Mat 16384 8192 := fun j => rdot (a7 V c) (a9 V c) (j 0) (j 1) * (a3 V c (ix2 0 0) * a2 V c (ix2 0 0))
def gW (c : Dev nD) : Mat 16384 8192 := fun j => dhW V c j * dgelu (zW V c j)
def hcW (c : Dev nD) : Mat 16384 8192 := fun j => quant lo4 hi4 (inv c4 (a4 V c)) (hW V c j)
def gcW (c : Dev nD) : Mat 16384 8192 := fun j => quant lo5 hi5 (inv c5 (a5 V c)) (gW V c j)

theorem zb_eq (c : Dev nD) (t : Fin cfg4.N) (r : Fin 512) (l : Fin 1024) : zb (ins V c t) (ix2 r l) = zW V c (ix2 ⟨t.val / 8 * 512 + r.val, by have := lt t; omega⟩ ⟨t.val % 8 * 1024 + l.val, by have := lt t; omega⟩) := by
  unfold zb zW pdot ins
  dsimp only
  rw [blk_0, blk_1]
  refine congrArg (· * _) (Finset.sum_congr rfl fun k _ => ?_)
  exact congrArg₂ (· * ·) (blk_6 V c t r k) (blk_8 V c t k l)

theorem dhb_eq (c : Dev nD) (t : Fin cfg4.N) (r : Fin 512) (l : Fin 1024) : dhb (ins V c t) (ix2 r l) = dhW V c (ix2 ⟨t.val / 8 * 512 + r.val, by have := lt t; omega⟩ ⟨t.val % 8 * 1024 + l.val, by have := lt t; omega⟩) := by
  unfold dhb dhW rdot ins
  dsimp only
  rw [blk_2, blk_3]
  refine congrArg (· * _) (Finset.sum_congr rfl fun k _ => ?_)
  exact congrArg₂ (· * ·) (blk_7 V c t r k) (blk_9 V c t l k)

theorem hb_eq (c : Dev nD) (t : Fin cfg4.N) (r : Fin 512) (l : Fin 1024) : hb (ins V c t) (ix2 r l) = hW V c (ix2 ⟨t.val / 8 * 512 + r.val, by have := lt t; omega⟩ ⟨t.val % 8 * 1024 + l.val, by have := lt t; omega⟩) := by
  unfold hb hW
  rw [zb_eq]

theorem gb_eq (c : Dev nD) (t : Fin cfg4.N) (r : Fin 512) (l : Fin 1024) : gb (ins V c t) (ix2 r l) = gW V c (ix2 ⟨t.val / 8 * 512 + r.val, by have := lt t; omega⟩ ⟨t.val % 8 * 1024 + l.val, by have := lt t; omega⟩) := by
  unfold gb gW
  rw [zb_eq, dhb_eq]

theorem hc_eq (c : Dev nD) (t : Fin cfg4.N) (r : Fin 512) (l : Fin 1024) : (ins V c t).h (ix2 r l) = hcW V c (ix2 ⟨t.val / 8 * 512 + r.val, by have := lt t; omega⟩ ⟨t.val % 8 * 1024 + l.val, by have := lt t; omega⟩) := by
  rw [h_apply, hb_eq]
  unfold hcW ins
  dsimp only
  rw [blk_4]

theorem gc_eq (c : Dev nD) (t : Fin cfg4.N) (r : Fin 512) (l : Fin 1024) : (ins V c t).g (ix2 r l) = gcW V c (ix2 ⟨t.val / 8 * 512 + r.val, by have := lt t; omega⟩ ⟨t.val % 8 * 1024 + l.val, by have := lt t; omega⟩) := by
  rw [g_apply, gb_eq]
  unfold gcW ins
  dsimp only
  rw [blk_5]

/-- The codes of the activation and of the gradient. -/
theorem arr_10 (c : Dev nD) : (dat V c).arrAt 10 cfg4.N = hcW V c := by
  refine (dat V c).arrAt_eq_of_covers 10 _ (by decide +kernel) fun t hf y => ?_
  blk_simp
  rw [after_10]
  obtain ⟨r, l, rfl⟩ := ex2 (a := 512) (b := 1024) y
  refine (hc_eq V c t r l).trans (congrArg _ ?_)
  blk_ext [idx10]
theorem arr_11 (c : Dev nD) : (dat V c).arrAt 11 cfg4.N = gcW V c := by
  refine (dat V c).arrAt_eq_of_covers 11 _ (by decide +kernel) fun t hf y => ?_
  blk_simp
  rw [after_11]
  obtain ⟨r, l, rfl⟩ := ex2 (a := 512) (b := 1024) y
  refine (gc_eq V c t r l).trans (congrArg _ ?_)
  blk_ext [idx11]

/-- The two scales. -/
theorem arr_14 (c : Dev nD) : (dat V c).arrAt 14 cfg4.N = fun _ => sc c4 (a4 V c) := by
  refine (dat V c).arrAt_eq_of_covers 14 _ (by decide +kernel) fun t hf y => ?_
  blk_simp
  rw [after_14]
  refine (k4_pay11_apply _ _).trans ?_
  unfold ins
  dsimp only
  rw [blk_4]
theorem arr_15 (c : Dev nD) : (dat V c).arrAt 15 cfg4.N = fun _ => sc c5 (a5 V c) := by
  refine (dat V c).arrAt_eq_of_covers 15 _ (by decide +kernel) fun t hf y => ?_
  blk_simp
  rw [after_15]
  refine (k4_pay14_apply _ _).trans ?_
  unfold ins
  dsimp only
  rw [blk_5]

/-- The bit that marks the first point of the grid is set there alone. -/
theorem bit (t : Fin cfg4.N) (h : 0 < t.val) : firstBit (grid4.coords t) = 0#1 := by
  have e0 : (grid4.coords t 0).val = t.val / 8 % 32 := Pipeline.Grid.coords_val (G := grid4) t 0 (by decide) rfl
  have e1 : (grid4.coords t 1).val = t.val / 1 % 8 := Pipeline.Grid.coords_val (G := grid4) t 1 (by decide) rfl
  have := lt t
  unfold firstBit
  rw [e0, e1]
  by_cases h1 : 0 < t.val / 8 % 32
  · rw [bit_succ _ h1 (by omega)]
    unfold Scalar.andi IntOp.andi
    exact BitVec.zero_and
  · rw [bit_succ (t.val / 1 % 8) (by omega) (by omega)]
    unfold Scalar.andi IntOp.andi
    exact BitVec.and_zero
theorem bit0 (h : 0 < cfg4.N) : firstBit (grid4.coords ⟨0, h⟩) = 1#1 := by
  have e0 : (grid4.coords ⟨0, h⟩ 0).val = 0 / 8 % 32 := Pipeline.Grid.coords_val (G := grid4) ⟨0, h⟩ 0 (by decide) rfl
  have e1 : (grid4.coords ⟨0, h⟩ 1).val = 0 / 1 % 8 := Pipeline.Grid.coords_val (G := grid4) ⟨0, h⟩ 1 (by decide) rfl
  unfold firstBit
  rw [e0, e1]
  rfl

/-- The running maximum at the last point. -/
theorem hacc_end (c : Dev nD) (n : ℕ) (hn : n < cfg4.N) (hl : n % 256 = 255) : all8 (hacc V c n hn) = amax (hW V c) := by
  have hN : cfg4.N = 256 := N_4
  refine run_amax (hW V c) (hacc V c) (fun t => hb (ins V c t)) ?_ ?_ ?_ ?_ n hn (by omega)
  · intro h r l
    unfold hacc
    refine (hm_apply _ _ _ r l).trans ?_
    rw [bit0]
    rfl
  · intro n h r l
    conv_lhs => unfold hacc
    refine (hm_apply _ _ _ r l).trans ?_
    rw [bit ⟨n + 1, h⟩ (Nat.succ_pos n)]
    rfl
  · intro t r l
    exact ⟨_, _, hb_eq V c t r l⟩
  · intro i j
    refine ⟨⟨i.val / 512 * 8 + j.val / 1024, by omega⟩, ⟨i.val % 512, by omega⟩, ⟨j.val % 1024, by omega⟩, (hb_eq V c _ _ _).trans (mat_congr _ ?_ ?_)⟩
    · dsimp only; omega
    · dsimp only; omega

/-- The running maximum at the last point. -/
theorem gacc_end (c : Dev nD) (n : ℕ) (hn : n < cfg4.N) (hl : n % 256 = 255) : all8 (gacc V c n hn) = amax (gW V c) := by
  have hN : cfg4.N = 256 := N_4
  refine run_amax (gW V c) (gacc V c) (fun t => gb (ins V c t)) ?_ ?_ ?_ ?_ n hn (by omega)
  · intro h r l
    unfold gacc
    refine (gm_apply _ _ _ r l).trans ?_
    rw [bit0]
    rfl
  · intro n h r l
    conv_lhs => unfold gacc
    refine (gm_apply _ _ _ r l).trans ?_
    rw [bit ⟨n + 1, h⟩ (Nat.succ_pos n)]
    rfl
  · intro t r l
    exact ⟨_, _, gb_eq V c t r l⟩
  · intro i j
    refine ⟨⟨i.val / 512 * 8 + j.val / 1024, by omega⟩, ⟨i.val % 512, by omega⟩, ⟨j.val % 1024, by omega⟩, (gb_eq V c _ _ _).trans (mat_congr _ ?_ ?_)⟩
    · dsimp only; omega
    · dsimp only; omega

theorem arr_16 (c : Dev nD) : (dat V c).arrAt 16 cfg4.N = fun _ => amax (hW V c) := by
  refine (dat V c).arrAt_eq_of_covers 16 _ (by decide +kernel) fun t hf y => ?_
  blk_simp
  rw [after_16]
  exact (k4_pay8_apply _ _).trans (hacc_end V c _ _ ((flush4_16 t).mp hf))

theorem arr_17 (c : Dev nD) : (dat V c).arrAt 17 cfg4.N = fun _ => amax (gW V c) := by
  refine (dat V c).arrAt_eq_of_covers 17 _ (by decide +kernel) fun t hf y => ?_
  blk_simp
  rw [after_17]
  exact (k4_pay9_apply _ _).trans (gacc_end V c _ _ ((flush4_17 t).mp hf))

/-- The sum of the terms `tm` of a row block's points so far, after point `n`. -/
def part (tm : Fin cfg4.N → Fin 512 → Fin 2048 → EReal) : (n : ℕ) → n < cfg4.N → Fin 512 → Fin 2048 → EReal
  | 0, hn => fun r l => 0 + tm ⟨0, hn⟩ r l
  | n + 1, hn => fun r l => (if (n + 1) % 8 = 0 then 0 else part tm n (Nat.lt_of_succ_lt hn) r l) + tm ⟨n + 1, hn⟩ r l

variable (tm : Fin cfg4.N → Fin 512 → Fin 2048 → EReal)

theorem part_first (t : Fin cfg4.N) (h0 : t.val % 8 = 0) (r : Fin 512) (l : Fin 2048) : part tm t.val t.isLt r l = 0 + tm t r l := by
  obtain ⟨n, hn⟩ := t
  cases n with
  | zero => rfl
  | succ n => unfold part; rw [if_pos h0]
theorem part_step (t : Fin cfg4.N) (h0 : ¬ t.val % 8 = 0) (r : Fin 512) (l : Fin 2048) :
    part tm t.val t.isLt r l = part tm (t.val - 1) (Nat.lt_of_le_of_lt (Nat.sub_le _ _) t.isLt) r l + tm t r l := by
  obtain ⟨n, hn⟩ := t
  cases n with
  | zero => exact absurd rfl h0
  | succ n => conv_lhs => unfold part
              rw [if_neg h0]; rfl
theorem part_sum (t : Fin cfg4.N) (h1 : t.val % 8 = 7) (r : Fin 512) (l : Fin 2048) :
    part tm t.val t.isLt r l = ∑ s : Fin 8, tm ⟨8 * (t.val / 8) + s.val, Pipeline.run_point_lt_of_flush t h1 s⟩ r l := by
  refine (Pipeline.eq_sum_fin_of_reset_step_of_flush (fun n hn => part tm n hn r l) 8 0 (fun t => tm t r l)
    (fun t h => part_first tm t h r l) (fun t h => part_step tm t h r l) t h1).trans ?_
  rw [zero_add]

/-- The product a point adds to `y`. -/
def yTerm (c : Dev nD) (t : Fin cfg4.N) (r : Fin 512) (l : Fin 2048) : EReal := ∑ k : Fin 1024, (ins V c t).h (ix2 r k) * (ins V c t).w2 (ix2 k l)

/-- Until the last point of a row block the output block of `y` holds the sum so far. -/
theorem yacc_part (c : Dev nD) (r : Fin 512) (l : Fin 2048) : ∀ (n : ℕ) (hn : n < cfg4.N), ¬ n % 8 = 7 →
    yacc V c n hn (ix2 r l) = part (yTerm V c) n hn r l := by
  intro n
  induction n with
  | zero =>
    intro hn _
    refine (congrFun (yacc_first V c ⟨0, hn⟩ rfl) _).trans ?_
    refine (y_apply _ _ r l).trans ?_
    rw [k4_pay2_apply]
    rfl
  | succ n ih =>
    intro hn h1
    by_cases h0 : (n + 1) % 8 = 0
    · refine (congrFun (yacc_first V c ⟨n + 1, hn⟩ h0) _).trans ?_
      refine (y_apply _ _ r l).trans ?_
      rw [k4_pay2_apply, part_first _ ⟨n + 1, hn⟩ h0]
      rfl
    · refine (congrFun (yacc_mid V c ⟨n + 1, hn⟩ h0 h1) _).trans ?_
      refine (y_apply _ _ r l).trans ?_
      rw [part_step _ ⟨n + 1, hn⟩ h0]
      exact congrArg (· + yTerm V c ⟨n + 1, hn⟩ r l) (ih (Nat.lt_of_succ_lt hn) (by omega))

/-- The sum at the last point of a row block. -/
theorem y_end (c : Dev nD) (t : Fin cfg4.N) (h1 : t.val % 8 = 7) (r : Fin 512) (l : Fin 2048) :
    part (yTerm V c) t.val t.isLt r l = pdot (hcW V c) (a9 V c) ⟨t.val / 8 * 512 + r.val, by have := lt t; omega⟩ l := by
  rw [part_sum _ t h1]
  unfold yTerm pdot
  refine Fin.sum_mul_add_congr fun s k hl => ?_
  have := lt t
  refine congrArg₂ (· * ·) ((hc_eq V c _ r k).trans (mat_congr _ ?_ ?_)) ((blk_9 V c ⟨8 * (t.val / 8) + s.val, Pipeline.run_point_lt_of_flush t h1 s⟩ k l).trans (mat_congr _ ?_ ?_)) <;> dsimp only <;> omega

/-- The result `y`. -/
theorem arr_12 (c : Dev nD) : (dat V c).arrAt 12 cfg4.N = fun j => pdot (hcW V c) (a9 V c) (j 0) (j 1) * (sc c4 (a4 V c) * a2 V c (ix2 0 0)) := by
  refine (dat V c).arrAt_eq_of_covers 12 _ (by decide +kernel) fun t hf y => ?_
  blk_simp
  rw [after_12]
  obtain ⟨r, l, rfl⟩ := ex2 (a := 512) (b := 2048) y
  have h1 := (flush4_12 t).mp hf
  refine (congrFun (yacc_last V c t h1) _).trans ?_
  refine (yEnd_apply _ _ r l).trans ?_
  rw [y_apply, yacc_part V c r l (t.val - 1) _ (by omega)]
  have e : part (yTerm V c) (t.val - 1) (Nat.lt_of_le_of_lt (Nat.sub_le _ _) t.isLt) r l
      + ∑ k : Fin 1024, (ins V c t).h (ix2 r k) * (ins V c t).w2 (ix2 k l) = pdot (hcW V c) (a9 V c) ⟨t.val / 8 * 512 + r.val, by have := lt t; omega⟩ l :=
    (part_step (yTerm V c) t (by omega) r l).symm.trans (y_end V c t h1 r l)
  rw [e]
  unfold ins
  dsimp only
  rw [blk_2, blk_4]
  refine pdot_congr _ _ _ ?_ ?_
  · blk_simp [idx12]
  · blk_simp [idx12]

/-- The product a point adds to `dx`. -/
def dxTerm (c : Dev nD) (t : Fin cfg4.N) (r : Fin 512) (l : Fin 2048) : EReal := ∑ k : Fin 1024, (ins V c t).g (ix2 r k) * (ins V c t).w1 (ix2 l k)

/-- Until the last point of a row block the output block of `dx` holds the sum so far. -/
theorem dxacc_part (c : Dev nD) (r : Fin 512) (l : Fin 2048) : ∀ (n : ℕ) (hn : n < cfg4.N), ¬ n % 8 = 7 →
    dxacc V c n hn (ix2 r l) = part (dxTerm V c) n hn r l := by
  intro n
  induction n with
  | zero =>
    intro hn _
    refine (congrFun (dxacc_first V c ⟨0, hn⟩ rfl) _).trans ?_
    refine (dx_apply _ _ r l).trans ?_
    rw [k4_pay3_apply]
    rfl
  | succ n ih =>
    intro hn h1
    by_cases h0 : (n + 1) % 8 = 0
    · refine (congrFun (dxacc_first V c ⟨n + 1, hn⟩ h0) _).trans ?_
      refine (dx_apply _ _ r l).trans ?_
      rw [k4_pay3_apply, part_first _ ⟨n + 1, hn⟩ h0]
      rfl
    · refine (congrFun (dxacc_mid V c ⟨n + 1, hn⟩ h0 h1) _).trans ?_
      refine (dx_apply _ _ r l).trans ?_
      rw [part_step _ ⟨n + 1, hn⟩ h0]
      exact congrArg (· + dxTerm V c ⟨n + 1, hn⟩ r l) (ih (Nat.lt_of_succ_lt hn) (by omega))

/-- The sum at the last point of a row block. -/
theorem dx_end (c : Dev nD) (t : Fin cfg4.N) (h1 : t.val % 8 = 7) (r : Fin 512) (l : Fin 2048) :
    part (dxTerm V c) t.val t.isLt r l = rdot (gcW V c) (a8 V c) ⟨t.val / 8 * 512 + r.val, by have := lt t; omega⟩ l := by
  rw [part_sum _ t h1]
  unfold dxTerm rdot
  refine Fin.sum_mul_add_congr fun s k hl => ?_
  have := lt t
  refine congrArg₂ (· * ·) ((gc_eq V c _ r k).trans (mat_congr _ ?_ ?_)) ((blk_8 V c ⟨8 * (t.val / 8) + s.val, Pipeline.run_point_lt_of_flush t h1 s⟩ l k).trans (mat_congr _ ?_ ?_)) <;> dsimp only <;> omega

/-- The result `dx`. -/
theorem arr_13 (c : Dev nD) : (dat V c).arrAt 13 cfg4.N = fun j => rdot (gcW V c) (a8 V c) (j 0) (j 1) * (sc c5 (a5 V c) * a1 V c (ix2 0 0)) := by
  refine (dat V c).arrAt_eq_of_covers 13 _ (by decide +kernel) fun t hf y => ?_
  blk_simp
  rw [after_13]
  obtain ⟨r, l, rfl⟩ := ex2 (a := 512) (b := 2048) y
  have h1 := (flush4_13 t).mp hf
  refine (congrFun (dxacc_last V c t h1) _).trans ?_
  refine (dxEnd_apply _ _ r l).trans ?_
  rw [dx_apply, dxacc_part V c r l (t.val - 1) _ (by omega)]
  have e : part (dxTerm V c) (t.val - 1) (Nat.lt_of_le_of_lt (Nat.sub_le _ _) t.isLt) r l
      + ∑ k : Fin 1024, (ins V c t).g (ix2 r k) * (ins V c t).w1 (ix2 l k) = rdot (gcW V c) (a8 V c) ⟨t.val / 8 * 512 + r.val, by have := lt t; omega⟩ l :=
    (part_step (dxTerm V c) t (by omega) r l).symm.trans (dx_end V c t h1 r l)
  rw [e]
  unfold ins
  dsimp only
  rw [blk_1, blk_5]
  refine rdot_congr _ _ _ ?_ ?_
  · blk_simp [idx13]
  · blk_simp [idx13]

end Cert.KernelIdeal.Mlp

end
-- ==== Proof.VWgrad1.lean ====
/-
  What the call that accumulates the first weight gradient leaves: the product of the transposed codes with the codes of the gradient, times the two scales.
-/
module

public import proofs.«01_k».proof.Proof.Blocks
public import proofs.«01_k».proof.Proof.Wgrad1
public import Idealize.ShloMosaic.Lib.Pipeline.ValueKit.Point

@[expose] public section

set_option maxRecDepth 16384

noncomputable section

namespace Cert.KernelIdeal.Wgrad1

open Cert.KernelIdeal.Gen Cert.Spec Cert.KernelIdeal.Pay
open Idealize.ShloMosaic Idealize.SL

variable (V : Dev nD → Valuation τ sig (Elt Ideal))

/-- The four arguments of the call, as matrices. -/
abbrev s0 (c : Dev nD) : Mat 1 1 := V c (Proc.devRef .tc (Pipeline.arrRef spec5 0))
abbrev s1 (c : Dev nD) : Mat 1 1 := V c (Proc.devRef .tc (Pipeline.arrRef spec5 1))
abbrev lhs (c : Dev nD) : Mat 16384 2048 := V c (Proc.devRef .tc (Pipeline.arrRef spec5 2))
abbrev rhs (c : Dev nD) : Mat 16384 8192 := V c (Proc.devRef .tc (Pipeline.arrRef spec5 3))

theorem lt (t : Fin cfg5.N) : t.val < 64 := Nat.lt_of_lt_of_eq t.isLt N_5

theorem idx0 : ∀ t : Fin cfg5.N, win5_0.index t = ![0, 0] := (by decide +kernel : ∀ t : Fin grid5.N, win5_0.index t = ![0, 0])
theorem idx1 : ∀ t : Fin cfg5.N, win5_1.index t = ![0, 0] := (by decide +kernel : ∀ t : Fin grid5.N, win5_1.index t = ![0, 0])
theorem idx2 : ∀ t : Fin cfg5.N, win5_2.index t = ![t.val % 16, (t.val / 64)] := (by decide +kernel : ∀ t : Fin grid5.N, win5_2.index t = ![t.val % 16, (t.val / 64)])
theorem idx3 : ∀ t : Fin cfg5.N, win5_3.index t = ![t.val % 16, (t.val / 16 % 4)] := (by decide +kernel : ∀ t : Fin grid5.N, win5_3.index t = ![t.val % 16, (t.val / 16 % 4)])
theorem idx4 : ∀ t : Fin cfg5.N, win5_4.index t = ![(t.val / 64), (t.val / 16 % 4)] := (by decide +kernel : ∀ t : Fin grid5.N, win5_4.index t = ![(t.val / 64), (t.val / 16 % 4)])

theorem blk_0 (c : Dev nD) (t : Fin cfg5.N) : blk V c 0 t = s0 V c := by
  funext j
  blk_simp [blk]
  congr 1
  blk_ext [idx0]

theorem blk_1 (c : Dev nD) (t : Fin cfg5.N) : blk V c 1 t = s1 V c := by
  funext j
  blk_simp [blk]
  congr 1
  blk_ext [idx1]

theorem blk_2 (c : Dev nD) (t : Fin cfg5.N) (k : Fin 1024) (r : Fin 2048) :
    blk V c 2 t (ix2 k r) = lhs V c (ix2 ⟨t.val % 16 * 1024 + k.val, by omega⟩ ⟨(t.val / 64) * 2048 + r.val, by have := lt t; omega⟩) := by
  blk_simp [blk]
  congr 1
  blk_ext [idx2]

theorem blk_3 (c : Dev nD) (t : Fin cfg5.N) (k : Fin 1024) (l : Fin 2048) :
    blk V c 3 t (ix2 k l) = rhs V c (ix2 ⟨t.val % 16 * 1024 + k.val, by omega⟩ ⟨(t.val / 16 % 4) * 2048 + l.val, by have := lt t; omega⟩) := by
  blk_simp [blk]
  congr 1
  blk_ext [idx3]

/-- A point's two blocks, and the product it adds. -/
abbrev bl (c : Dev nD) (t : Fin cfg5.N) : Mat 1024 2048 := blk V c 2 t
abbrev br (c : Dev nD) (t : Fin cfg5.N) : Mat 1024 2048 := blk V c 3 t
def term (c : Dev nD) (t : Fin cfg5.N) (r l : Fin 2048) : EReal := ∑ k : Fin 1024, bl V c t (ix2 k r) * br V c t (ix2 k l)

/-- The sum of the products so far, after point `n`, before the scales. -/
def part (c : Dev nD) : (n : ℕ) → n < cfg5.N → Fin 2048 → Fin 2048 → EReal
  | 0, hn => fun r l => 0 + term V c ⟨0, hn⟩ r l
  | n + 1, hn => fun r l => (if (n + 1) % 16 = 0 then 0 else part c n (Nat.lt_of_succ_lt hn) r l) + term V c ⟨n + 1, hn⟩ r l

theorem part_first (c : Dev nD) (t : Fin cfg5.N) (h0 : t.val % 16 = 0) (r l : Fin 2048) : part V c t.val t.isLt r l = 0 + term V c t r l := by
  obtain ⟨n, hn⟩ := t
  cases n with
  | zero => rfl
  | succ n => unfold part; rw [if_pos h0]
theorem part_step (c : Dev nD) (t : Fin cfg5.N) (h0 : ¬ t.val % 16 = 0) (r l : Fin 2048) :
    part V c t.val t.isLt r l = part V c (t.val - 1) (Nat.lt_of_le_of_lt (Nat.sub_le _ _) t.isLt) r l + term V c t r l := by
  obtain ⟨n, hn⟩ := t
  cases n with
  | zero => exact absurd rfl h0
  | succ n => conv_lhs => unfold part
              rw [if_neg h0]; rfl

/-- Until the last point of a tile the output block holds that sum. -/
theorem acc_part (c : Dev nD) (r l : Fin 2048) : ∀ (n : ℕ) (hn : n < cfg5.N), ¬ n % 16 = 15 → acc V c n hn (ix2 r l) = part V c n hn r l := by
  intro n
  induction n with
  | zero =>
    intro hn _
    refine (congrFun (acc_first V c ⟨0, hn⟩ rfl) _).trans ?_
    refine (k5_pay2_apply _ _ _ r l).trans ?_
    rw [k5_pay1_apply]
    rfl
  | succ n ih =>
    intro hn h1
    by_cases h0 : (n + 1) % 16 = 0
    · refine (congrFun (acc_first V c ⟨n + 1, hn⟩ h0) _).trans ?_
      refine (k5_pay2_apply _ _ _ r l).trans ?_
      rw [k5_pay1_apply, part_first V c ⟨n + 1, hn⟩ h0]
      rfl
    · refine (congrFun (acc_mid V c ⟨n + 1, hn⟩ h0 h1) _).trans ?_
      refine (k5_pay2_apply _ _ _ r l).trans ?_
      rw [part_step V c ⟨n + 1, hn⟩ h0]
      exact congrArg (· + term V c ⟨n + 1, hn⟩ r l) (ih (Nat.lt_of_succ_lt hn) (by omega))

/-- The sum at the last point of a tile. -/
theorem part_end (c : Dev nD) (t : Fin cfg5.N) (h1 : t.val % 16 = 15) (r l : Fin 2048) :
    part V c t.val t.isLt r l = tdot (lhs V c) (rhs V c) ⟨(t.val / 64) * 2048 + r.val, by have := lt t; omega⟩ ⟨(t.val / 16 % 4) * 2048 + l.val, by have := lt t; omega⟩ := by
  refine (Pipeline.eq_sum_fin_of_reset_step_of_flush (fun n hn => part V c n hn r l) 16 0 (fun t => term V c t r l)
    (fun t h => part_first V c t h r l) (fun t h => part_step V c t h r l) t h1).trans ?_
  rw [zero_add]
  unfold term tdot
  refine Fin.sum_mul_add_congr fun s k hl => ?_
  have := lt t
  refine congrArg₂ (· * ·) ((blk_2 V c _ k r).trans (congrArg _ ?_)) ((blk_3 V c _ k l).trans (congrArg _ ?_))
  · blk_ext
  · blk_ext

/-- At the last point of a tile: the whole sum times the two scales. -/
theorem acc_end (c : Dev nD) (t : Fin cfg5.N) (h1 : t.val % 16 = 15) (r l : Fin 2048) :
    acc V c t.val t.isLt (ix2 r l) = tdot (lhs V c) (rhs V c) ⟨(t.val / 64) * 2048 + r.val, by have := lt t; omega⟩ ⟨(t.val / 16 % 4) * 2048 + l.val, by have := lt t; omega⟩
      * (s0 V c (ix2 0 0) * s1 V c (ix2 0 0)) := by
  rw [← part_end V c t h1, part_step V c t (by omega), ← acc_part V c r l (t.val - 1) _ (by omega)]
  refine (congrFun (acc_last V c t h1) _).trans ?_
  refine (k5_pay3_apply _ _ _ r l).trans ?_
  rw [blk_0, blk_1]
  exact congrArg (fun s : EReal => s * (s0 V c (ix2 0 0) * s1 V c (ix2 0 0))) (k5_pay2_apply _ _ _ r l)

/-- The weight gradient. -/
theorem arr_4 (c : Dev nD) : (dat V c).arrAt 4 cfg5.N = fun j => tdot (lhs V c) (rhs V c) (j 0) (j 1) * (s0 V c (ix2 0 0) * s1 V c (ix2 0 0)) := by
  refine (dat V c).arrAt_eq_of_covers 4 _ (by decide +kernel) fun t hf y => ?_
  blk_simp
  rw [after_4]
  obtain ⟨r, l, rfl⟩ := ex2 (a := 2048) (b := 2048) y
  refine (acc_end V c t ((flush5_4 t).mp hf) r l).trans (tdot_congr _ _ _ ?_ ?_)
  · blk_simp [idx4]
  · blk_simp [idx4]

end Cert.KernelIdeal.Wgrad1

end
-- ==== Proof.VWgrad2.lean ====
/-
  What the call that accumulates the second weight gradient leaves: the product of the transposed codes with the codes of the gradient, times the two scales.
-/
module

public import proofs.«01_k».proof.Proof.Blocks
public import proofs.«01_k».proof.Proof.Wgrad2
public import Idealize.ShloMosaic.Lib.Pipeline.ValueKit.Point

@[expose] public section

set_option maxRecDepth 16384

noncomputable section

namespace Cert.KernelIdeal.Wgrad2

open Cert.KernelIdeal.Gen Cert.Spec Cert.KernelIdeal.Pay
open Idealize.ShloMosaic Idealize.SL

variable (V : Dev nD → Valuation τ sig (Elt Ideal))

/-- The four arguments of the call, as matrices. -/
abbrev s0 (c : Dev nD) : Mat 1 1 := V c (Proc.devRef .tc (Pipeline.arrRef spec6 0))
abbrev s1 (c : Dev nD) : Mat 1 1 := V c (Proc.devRef .tc (Pipeline.arrRef spec6 1))
abbrev lhs (c : Dev nD) : Mat 16384 8192 := V c (Proc.devRef .tc (Pipeline.arrRef spec6 2))
abbrev rhs (c : Dev nD) : Mat 16384 2048 := V c (Proc.devRef .tc (Pipeline.arrRef spec6 3))

theorem lt (t : Fin cfg6.N) : t.val < 64 := Nat.lt_of_lt_of_eq t.isLt N_6

theorem idx0 : ∀ t : Fin cfg6.N, win6_0.index t = ![0, 0] := (by decide +kernel : ∀ t : Fin grid6.N, win6_0.index t = ![0, 0])
theorem idx1 : ∀ t : Fin cfg6.N, win6_1.index t = ![0, 0] := (by decide +kernel : ∀ t : Fin grid6.N, win6_1.index t = ![0, 0])
theorem idx2 : ∀ t : Fin cfg6.N, win6_2.index t = ![t.val % 16, (t.val / 16 % 4)] := (by decide +kernel : ∀ t : Fin grid6.N, win6_2.index t = ![t.val % 16, (t.val / 16 % 4)])
theorem idx3 : ∀ t : Fin cfg6.N, win6_3.index t = ![t.val % 16, (t.val / 64)] := (by decide +kernel : ∀ t : Fin grid6.N, win6_3.index t = ![t.val % 16, (t.val / 64)])
theorem idx4 : ∀ t : Fin cfg6.N, win6_4.index t = ![(t.val / 16 % 4), (t.val / 64)] := (by decide +kernel : ∀ t : Fin grid6.N, win6_4.index t = ![(t.val / 16 % 4), (t.val / 64)])

theorem blk_0 (c : Dev nD) (t : Fin cfg6.N) : blk V c 0 t = s0 V c := by
  funext j
  blk_simp [blk]
  congr 1
  blk_ext [idx0]

theorem blk_1 (c : Dev nD) (t : Fin cfg6.N) : blk V c 1 t = s1 V c := by
  funext j
  blk_simp [blk]
  congr 1
  blk_ext [idx1]

theorem blk_2 (c : Dev nD) (t : Fin cfg6.N) (k : Fin 1024) (r : Fin 2048) :
    blk V c 2 t (ix2 k r) = lhs V c (ix2 ⟨t.val % 16 * 1024 + k.val, by omega⟩ ⟨(t.val / 16 % 4) * 2048 + r.val, by have := lt t; omega⟩) := by
  blk_simp [blk]
  congr 1
  blk_ext [idx2]

theorem blk_3 (c : Dev nD) (t : Fin cfg6.N) (k : Fin 1024) (l : Fin 2048) :
    blk V c 3 t (ix2 k l) = rhs V c (ix2 ⟨t.val % 16 * 1024 + k.val, by omega⟩ ⟨(t.val / 64) * 2048 + l.val, by have := lt t; omega⟩) := by
  blk_simp [blk]
  congr 1
  blk_ext [idx3]

/-- A point's two blocks, and the product it adds. -/
abbrev bl (c : Dev nD) (t : Fin cfg6.N) : Mat 1024 2048 := blk V c 2 t
abbrev br (c : Dev nD) (t : Fin cfg6.N) : Mat 1024 2048 := blk V c 3 t
def term (c : Dev nD) (t : Fin cfg6.N) (r l : Fin 2048) : EReal := ∑ k : Fin 1024, bl V c t (ix2 k r) * br V c t (ix2 k l)

/-- The sum of the products so far, after point `n`, before the scales. -/
def part (c : Dev nD) : (n : ℕ) → n < cfg6.N → Fin 2048 → Fin 2048 → EReal
  | 0, hn => fun r l => 0 + term V c ⟨0, hn⟩ r l
  | n + 1, hn => fun r l => (if (n + 1) % 16 = 0 then 0 else part c n (Nat.lt_of_succ_lt hn) r l) + term V c ⟨n + 1, hn⟩ r l

theorem part_first (c : Dev nD) (t : Fin cfg6.N) (h0 : t.val % 16 = 0) (r l : Fin 2048) : part V c t.val t.isLt r l = 0 + term V c t r l := by
  obtain ⟨n, hn⟩ := t
  cases n with
  | zero => rfl
  | succ n => unfold part; rw [if_pos h0]
theorem part_step (c : Dev nD) (t : Fin cfg6.N) (h0 : ¬ t.val % 16 = 0) (r l : Fin 2048) :
    part V c t.val t.isLt r l = part V c (t.val - 1) (Nat.lt_of_le_of_lt (Nat.sub_le _ _) t.isLt) r l + term V c t r l := by
  obtain ⟨n, hn⟩ := t
  cases n with
  | zero => exact absurd rfl h0
  | succ n => conv_lhs => unfold part
              rw [if_neg h0]; rfl

/-- Until the last point of a tile the output block holds that sum. -/
theorem acc_part (c : Dev nD) (r l : Fin 2048) : ∀ (n : ℕ) (hn : n < cfg6.N), ¬ n % 16 = 15 → acc V c n hn (ix2 r l) = part V c n hn r l := by
  intro n
  induction n with
  | zero =>
    intro hn _
    refine (congrFun (acc_first V c ⟨0, hn⟩ rfl) _).trans ?_
    refine (k6_pay2_apply _ _ _ r l).trans ?_
    rw [k6_pay1_apply]
    rfl
  | succ n ih =>
    intro hn h1
    by_cases h0 : (n + 1) % 16 = 0
    · refine (congrFun (acc_first V c ⟨n + 1, hn⟩ h0) _).trans ?_
      refine (k6_pay2_apply _ _ _ r l).trans ?_
      rw [k6_pay1_apply, part_first V c ⟨n + 1, hn⟩ h0]
      rfl
    · refine (congrFun (acc_mid V c ⟨n + 1, hn⟩ h0 h1) _).trans ?_
      refine (k6_pay2_apply _ _ _ r l).trans ?_
      rw [part_step V c ⟨n + 1, hn⟩ h0]
      exact congrArg (· + term V c ⟨n + 1, hn⟩ r l) (ih (Nat.lt_of_succ_lt hn) (by omega))

/-- The sum at the last point of a tile. -/
theorem part_end (c : Dev nD) (t : Fin cfg6.N) (h1 : t.val % 16 = 15) (r l : Fin 2048) :
    part V c t.val t.isLt r l = tdot (lhs V c) (rhs V c) ⟨(t.val / 16 % 4) * 2048 + r.val, by have := lt t; omega⟩ ⟨(t.val / 64) * 2048 + l.val, by have := lt t; omega⟩ := by
  refine (Pipeline.eq_sum_fin_of_reset_step_of_flush (fun n hn => part V c n hn r l) 16 0 (fun t => term V c t r l)
    (fun t h => part_first V c t h r l) (fun t h => part_step V c t h r l) t h1).trans ?_
  rw [zero_add]
  unfold term tdot
  refine Fin.sum_mul_add_congr fun s k hl => ?_
  have := lt t
  refine congrArg₂ (· * ·) ((blk_2 V c _ k r).trans (congrArg _ ?_)) ((blk_3 V c _ k l).trans (congrArg _ ?_))
  · blk_ext
  · blk_ext

/-- At the last point of a tile: the whole sum times the two scales. -/
theorem acc_end (c : Dev nD) (t : Fin cfg6.N) (h1 : t.val % 16 = 15) (r l : Fin 2048) :
    acc V c t.val t.isLt (ix2 r l) = tdot (lhs V c) (rhs V c) ⟨(t.val / 16 % 4) * 2048 + r.val, by have := lt t; omega⟩ ⟨(t.val / 64) * 2048 + l.val, by have := lt t; omega⟩
      * (s0 V c (ix2 0 0) * s1 V c (ix2 0 0)) := by
  rw [← part_end V c t h1, part_step V c t (by omega), ← acc_part V c r l (t.val - 1) _ (by omega)]
  refine (congrFun (acc_last V c t h1) _).trans ?_
  refine (k6_pay3_apply _ _ _ r l).trans ?_
  rw [blk_0, blk_1]
  exact congrArg (fun s : EReal => s * (s0 V c (ix2 0 0) * s1 V c (ix2 0 0))) (k6_pay2_apply _ _ _ r l)

/-- The weight gradient. -/
theorem arr_4 (c : Dev nD) : (dat V c).arrAt 4 cfg6.N = fun j => tdot (lhs V c) (rhs V c) (j 0) (j 1) * (s0 V c (ix2 0 0) * s1 V c (ix2 0 0)) := by
  refine (dat V c).arrAt_eq_of_covers 4 _ (by decide +kernel) fun t hf y => ?_
  blk_simp
  rw [after_4]
  obtain ⟨r, l, rfl⟩ := ex2 (a := 2048) (b := 2048) y
  refine (acc_end V c t ((flush6_4 t).mp hf) r l).trans (tdot_congr _ _ _ ?_ ?_)
  · blk_simp [idx4]
  · blk_simp [idx4]

end Cert.KernelIdeal.Wgrad2

end
-- ==== Proof.Value.lean ====
/-
  What the kernel leaves in each of its results, over the extended reals: the plain functions of `Spec` of its arguments.
-/
module

public import proofs.«01_k».proof.Proof.Keep
public import proofs.«01_k».proof.Proof.Result
public import proofs.«01_k».proof.Proof.VQuantX
public import proofs.«01_k».proof.Proof.VQuantDy
public import proofs.«01_k».proof.Proof.VQuantW1
public import proofs.«01_k».proof.Proof.VQuantW2
public import proofs.«01_k».proof.Proof.VMlp
public import proofs.«01_k».proof.Proof.VWgrad1
public import proofs.«01_k».proof.Proof.VWgrad2
public import Idealize.ShloMosaic.Lib.StableHlo.RunRead

@[expose] public section

set_option maxRecDepth 16384

noncomputable section

namespace Cert.KernelIdeal.Val

open Cert.KernelIdeal.Gen Cert.KernelIdeal.Run Cert.KernelIdeal.Pay Cert.Spec
open Idealize.ShloMosaic Idealize.ShloMosaic.TcCoe Idealize.ShloMosaic.StableHlo
open Idealize.SL

variable (m : (ℓ : Loc nD τ sig) → Buf (Elt Ideal) ℓ)

/-- The arguments, of the memory at the start. -/
def A (c : Dev nD) : Args := Args.of (m (c, main_arg0)) (m (c, main_arg1)) (m (c, main_arg2)) (m (c, main_arg3)) (m (c, main_arg4)) (m (c, main_arg5))
  (m (c, main_arg6)) (m (c, main_arg7)) (m (c, main_arg8)) (m (c, main_arg9))

variable (c : Dev nD)

/-! ## The arguments of the calls -/

theorem h_main_v0 : W1 m c main_v0 = (A m c).x := by
  have e : W1 m c main_v0 = StableHlo.after hostOps0 (W0 m c) (Proc.devRef .tc main_v0) := rfl
  rw [e]
  after_reads_simp
  have k : W0 m c main_arg0 = m (c, main_arg0) := by
    rfl
  funext j
  exact congrArg (fun v => rows v j) k

theorem h_main_v1 : W1 m c main_v1 = (A m c).hx := by
  have e : W1 m c main_v1 = StableHlo.after hostOps0 (W0 m c) (Proc.devRef .tc main_v1) := rfl
  rw [e]
  after_reads_simp
  have k : W0 m c main_arg4 = m (c, main_arg4) := by
    rfl
  funext j
  exact congrArg (fun v => row v j) k

theorem h_main_v3 : W3 m c main_v3 = (A m c).dy := by
  have e : W3 m c main_v3 = StableHlo.after hostOps1 (W2 m c) (Proc.devRef .tc main_v3) := rfl
  rw [e]
  after_reads_simp
  have k : W2 m c main_arg3 = m (c, main_arg3) := by
    rw [W2_of m c main_arg3 (by decide), W1_of m c main_arg3 (by decide), W0]
  funext j
  exact congrArg (fun v => rows v j) k

theorem h_main_v4 : W3 m c main_v4 = (A m c).hdy := by
  have e : W3 m c main_v4 = StableHlo.after hostOps1 (W2 m c) (Proc.devRef .tc main_v4) := rfl
  rw [e]
  after_reads_simp
  have k : W2 m c main_arg8 = m (c, main_arg8) := by
    rw [W2_of m c main_arg8 (by decide), W1_of m c main_arg8 (by decide), W0]
  funext j
  exact congrArg (fun v => row v j) k

theorem h_main_v6 : W5 m c main_v6 = (A m c).hw1 := by
  have e : W5 m c main_v6 = StableHlo.after hostOps2 (W4 m c) (Proc.devRef .tc main_v6) := rfl
  rw [e]
  after_reads_simp
  have k : W4 m c main_arg5 = m (c, main_arg5) := by
    rw [W4_of m c main_arg5 (by decide), W3_of m c main_arg5 (by decide), W2_of m c main_arg5 (by decide), W1_of m c main_arg5 (by decide), W0]
  funext j
  exact congrArg (fun v => row v j) k

theorem h_main_v8 : W7 m c main_v8 = (A m c).hw2 := by
  have e : W7 m c main_v8 = StableHlo.after hostOps3 (W6 m c) (Proc.devRef .tc main_v8) := rfl
  rw [e]
  after_reads_simp
  have k : W6 m c main_arg7 = m (c, main_arg7) := by
    rw [W6_of m c main_arg7 (by decide), W5_of m c main_arg7 (by decide), W4_of m c main_arg7 (by decide), W3_of m c main_arg7 (by decide), W2_of m c main_arg7 (by decide), W1_of m c main_arg7 (by decide), W0]
  funext j
  exact congrArg (fun v => row v j) k

theorem h_main_v10 : W9 m c main_v10 = (A m c).hh := by
  have e : W9 m c main_v10 = StableHlo.after hostOps4 (W8 m c) (Proc.devRef .tc main_v10) := rfl
  rw [e]
  after_reads_simp
  have k : W8 m c main_arg6 = m (c, main_arg6) := by
    rw [W8_of m c main_arg6 (by decide), W7_of m c main_arg6 (by decide), W6_of m c main_arg6 (by decide), W5_of m c main_arg6 (by decide), W4_of m c main_arg6 (by decide), W3_of m c main_arg6 (by decide), W2_of m c main_arg6 (by decide), W1_of m c main_arg6 (by decide), W0]
  funext j
  exact congrArg (fun v => row v j) k

theorem h_main_v11 : W9 m c main_v11 = (A m c).hdg := by
  have e : W9 m c main_v11 = StableHlo.after hostOps4 (W8 m c) (Proc.devRef .tc main_v11) := rfl
  rw [e]
  after_reads_simp
  have k : W8 m c main_arg9 = m (c, main_arg9) := by
    rw [W8_of m c main_arg9 (by decide), W7_of m c main_arg9 (by decide), W6_of m c main_arg9 (by decide), W5_of m c main_arg9 (by decide), W4_of m c main_arg9 (by decide), W3_of m c main_arg9 (by decide), W2_of m c main_arg9 (by decide), W1_of m c main_arg9 (by decide), W0]
  funext j
  exact congrArg (fun v => row v j) k

theorem a_main_arg1_5 : W5 m c main_arg1 = m (c, main_arg1) := by
  rw [W5_of m c main_arg1 (by decide), W4_of m c main_arg1 (by decide), W3_of m c main_arg1 (by decide), W2_of m c main_arg1 (by decide), W1_of m c main_arg1 (by decide)]
  rfl

theorem a_main_arg2_7 : W7 m c main_arg2 = m (c, main_arg2) := by
  rw [W7_of m c main_arg2 (by decide), W6_of m c main_arg2 (by decide), W5_of m c main_arg2 (by decide), W4_of m c main_arg2 (by decide), W3_of m c main_arg2 (by decide), W2_of m c main_arg2 (by decide), W1_of m c main_arg2 (by decide)]
  rfl

/-! ## The quantised matrices, their scales and their largest absolute values -/

theorem QuantX_hist : QuantX.hist (W1 m) c = (A m c).hx := h_main_v1 m c
theorem QuantX_src : QuantX.src (W1 m) c = (A m c).x := h_main_v0 m c

theorem r_main_v2_0 : W2 m c main_v2_0 = (A m c).xc := by
  refine (Pipeline.afterRegion_arr (QuantX.dat (W1 m) c) (W1 m c) winFacts0.arr_inj 2).trans ((QuantX.arr_2 (W1 m) c).trans ?_)
  rw [QuantX_hist, QuantX_src]
  rfl

theorem r_main_v2_1 : W2 m c main_v2_1 = fun _ => sc c4 (A m c).hx := by
  refine (Pipeline.afterRegion_arr (QuantX.dat (W1 m) c) (W1 m c) winFacts0.arr_inj 3).trans ((QuantX.arr_3 (W1 m) c).trans ?_)
  rw [QuantX_hist]

theorem r_main_v2_2 : W2 m c main_v2_2 = fun _ => amax (A m c).x := by
  refine (Pipeline.afterRegion_arr (QuantX.dat (W1 m) c) (W1 m c) winFacts0.arr_inj 4).trans ((QuantX.arr_4 (W1 m) c).trans ?_)
  rw [QuantX_src]

theorem QuantDy_hist : QuantDy.hist (W3 m) c = (A m c).hdy := h_main_v4 m c
theorem QuantDy_src : QuantDy.src (W3 m) c = (A m c).dy := h_main_v3 m c

theorem r_main_v5_0 : W4 m c main_v5_0 = (A m c).dyc := by
  refine (Pipeline.afterRegion_arr (QuantDy.dat (W3 m) c) (W3 m c) winFacts1.arr_inj 2).trans ((QuantDy.arr_2 (W3 m) c).trans ?_)
  rw [QuantDy_hist, QuantDy_src]
  rfl

theorem r_main_v5_1 : W4 m c main_v5_1 = fun _ => sc c5 (A m c).hdy := by
  refine (Pipeline.afterRegion_arr (QuantDy.dat (W3 m) c) (W3 m c) winFacts1.arr_inj 3).trans ((QuantDy.arr_3 (W3 m) c).trans ?_)
  rw [QuantDy_hist]

theorem r_main_v5_2 : W4 m c main_v5_2 = fun _ => amax (A m c).dy := by
  refine (Pipeline.afterRegion_arr (QuantDy.dat (W3 m) c) (W3 m c) winFacts1.arr_inj 4).trans ((QuantDy.arr_4 (W3 m) c).trans ?_)
  rw [QuantDy_src]

theorem QuantW1_hist : QuantW1.hist (W5 m) c = (A m c).hw1 := h_main_v6 m c
theorem QuantW1_src : QuantW1.src (W5 m) c = (A m c).w1 := a_main_arg1_5 m c

theorem r_main_v7_0 : W6 m c main_v7_0 = (A m c).w1c := by
  refine (Pipeline.afterRegion_arr (QuantW1.dat (W5 m) c) (W5 m c) winFacts2.arr_inj 2).trans ((QuantW1.arr_2 (W5 m) c).trans ?_)
  rw [QuantW1_hist, QuantW1_src]
  rfl

theorem r_main_v7_1 : W6 m c main_v7_1 = fun _ => sc c4 (A m c).hw1 := by
  refine (Pipeline.afterRegion_arr (QuantW1.dat (W5 m) c) (W5 m c) winFacts2.arr_inj 3).trans ((QuantW1.arr_3 (W5 m) c).trans ?_)
  rw [QuantW1_hist]

theorem r_main_v7_2 : W6 m c main_v7_2 = fun _ => amax (A m c).w1 := by
  refine (Pipeline.afterRegion_arr (QuantW1.dat (W5 m) c) (W5 m c) winFacts2.arr_inj 4).trans ((QuantW1.arr_4 (W5 m) c).trans ?_)
  rw [QuantW1_src]

theorem QuantW2_hist : QuantW2.hist (W7 m) c = (A m c).hw2 := h_main_v8 m c
theorem QuantW2_src : QuantW2.src (W7 m) c = (A m c).w2 := a_main_arg2_7 m c

theorem r_main_v9_0 : W8 m c main_v9_0 = (A m c).w2c := by
  refine (Pipeline.afterRegion_arr (QuantW2.dat (W7 m) c) (W7 m c) winFacts3.arr_inj 2).trans ((QuantW2.arr_2 (W7 m) c).trans ?_)
  rw [QuantW2_hist, QuantW2_src]
  rfl

theorem r_main_v9_1 : W8 m c main_v9_1 = fun _ => sc c4 (A m c).hw2 := by
  refine (Pipeline.afterRegion_arr (QuantW2.dat (W7 m) c) (W7 m c) winFacts3.arr_inj 3).trans ((QuantW2.arr_3 (W7 m) c).trans ?_)
  rw [QuantW2_hist]

theorem r_main_v9_2 : W8 m c main_v9_2 = fun _ => amax (A m c).w2 := by
  refine (Pipeline.afterRegion_arr (QuantW2.dat (W7 m) c) (W7 m c) winFacts3.arr_inj 4).trans ((QuantW2.arr_4 (W7 m) c).trans ?_)
  rw [QuantW2_src]

/-! ## The fused call -/

theorem i0 : Mlp.a0 (W9 m) c = fun _ => sc c4 (A m c).hx := by
  have e : W9 m c main_v2_1 = fun _ => sc c4 (A m c).hx := by rw [W9_of m c main_v2_1 (by decide), W8_of m c main_v2_1 (by decide), W7_of m c main_v2_1 (by decide), W6_of m c main_v2_1 (by decide), W5_of m c main_v2_1 (by decide), W4_of m c main_v2_1 (by decide), W3_of m c main_v2_1 (by decide), r_main_v2_1]
  exact e
theorem i1 : Mlp.a1 (W9 m) c = fun _ => sc c4 (A m c).hw1 := by
  have e : W9 m c main_v7_1 = fun _ => sc c4 (A m c).hw1 := by rw [W9_of m c main_v7_1 (by decide), W8_of m c main_v7_1 (by decide), W7_of m c main_v7_1 (by decide), r_main_v7_1]
  exact e
theorem i2 : Mlp.a2 (W9 m) c = fun _ => sc c4 (A m c).hw2 := by
  have e : W9 m c main_v9_1 = fun _ => sc c4 (A m c).hw2 := by rw [W9_of m c main_v9_1 (by decide), r_main_v9_1]
  exact e
theorem i3 : Mlp.a3 (W9 m) c = fun _ => sc c5 (A m c).hdy := by
  have e : W9 m c main_v5_1 = fun _ => sc c5 (A m c).hdy := by rw [W9_of m c main_v5_1 (by decide), W8_of m c main_v5_1 (by decide), W7_of m c main_v5_1 (by decide), W6_of m c main_v5_1 (by decide), W5_of m c main_v5_1 (by decide), r_main_v5_1]
  exact e
theorem i4 : Mlp.a4 (W9 m) c = (A m c).hh := h_main_v10 m c
theorem i5 : Mlp.a5 (W9 m) c = (A m c).hdg := h_main_v11 m c
theorem i6 : Mlp.a6 (W9 m) c = (A m c).xc := by
  have e : W9 m c main_v2_0 = (A m c).xc := by rw [W9_of m c main_v2_0 (by decide), W8_of m c main_v2_0 (by decide), W7_of m c main_v2_0 (by decide), W6_of m c main_v2_0 (by decide), W5_of m c main_v2_0 (by decide), W4_of m c main_v2_0 (by decide), W3_of m c main_v2_0 (by decide), r_main_v2_0]
  exact e
theorem i7 : Mlp.a7 (W9 m) c = (A m c).dyc := by
  have e : W9 m c main_v5_0 = (A m c).dyc := by rw [W9_of m c main_v5_0 (by decide), W8_of m c main_v5_0 (by decide), W7_of m c main_v5_0 (by decide), W6_of m c main_v5_0 (by decide), W5_of m c main_v5_0 (by decide), r_main_v5_0]
  exact e
theorem i8 : Mlp.a8 (W9 m) c = (A m c).w1c := by
  have e : W9 m c main_v7_0 = (A m c).w1c := by rw [W9_of m c main_v7_0 (by decide), W8_of m c main_v7_0 (by decide), W7_of m c main_v7_0 (by decide), r_main_v7_0]
  exact e
theorem i9 : Mlp.a9 (W9 m) c = (A m c).w2c := by
  have e : W9 m c main_v9_0 = (A m c).w2c := by rw [W9_of m c main_v9_0 (by decide), r_main_v9_0]
  exact e

theorem z_eq : Mlp.zW (W9 m) c = (A m c).z := by
  unfold Mlp.zW
  rw [i0, i1, i6, i8]
  rfl

theorem h_eq : Mlp.hW (W9 m) c = (A m c).h := by
  unfold Mlp.hW
  rw [z_eq]
  rfl

theorem dh_eq : Mlp.dhW (W9 m) c = (A m c).dh := by
  unfold Mlp.dhW
  rw [i2, i3, i7, i9]
  rfl

theorem dg_eq : Mlp.gW (W9 m) c = (A m c).dg := by
  unfold Mlp.gW
  rw [z_eq, dh_eq]
  rfl

theorem hc_eq : Mlp.hcW (W9 m) c = (A m c).hc := by
  unfold Mlp.hcW
  rw [h_eq, i4]
  rfl

theorem dgc_eq : Mlp.gcW (W9 m) c = (A m c).dgc := by
  unfold Mlp.gcW
  rw [dg_eq, i5]
  rfl

theorem r_main_v12_0 : W10 m c main_v12_0 = (A m c).hc := by
  refine (Pipeline.afterRegion_arr (Mlp.dat (W9 m) c) (W9 m c) winFacts4.arr_inj 10).trans ((Mlp.arr_10 (W9 m) c).trans ?_)
  rw [hc_eq]

theorem r_main_v12_1 : W10 m c main_v12_1 = (A m c).dgc := by
  refine (Pipeline.afterRegion_arr (Mlp.dat (W9 m) c) (W9 m c) winFacts4.arr_inj 11).trans ((Mlp.arr_11 (W9 m) c).trans ?_)
  rw [dgc_eq]

theorem r_main_v12_2 : W10 m c main_v12_2 = (A m c).y := by
  refine (Pipeline.afterRegion_arr (Mlp.dat (W9 m) c) (W9 m c) winFacts4.arr_inj 12).trans ((Mlp.arr_12 (W9 m) c).trans ?_)
  rw [hc_eq, i9, i4, i2]
  rfl

theorem r_main_v12_3 : W10 m c main_v12_3 = (A m c).dx := by
  refine (Pipeline.afterRegion_arr (Mlp.dat (W9 m) c) (W9 m c) winFacts4.arr_inj 13).trans ((Mlp.arr_13 (W9 m) c).trans ?_)
  rw [dgc_eq, i8, i5, i1]
  rfl

theorem r_main_v12_4 : W10 m c main_v12_4 = fun _ => sc c4 (A m c).hh := by
  refine (Pipeline.afterRegion_arr (Mlp.dat (W9 m) c) (W9 m c) winFacts4.arr_inj 14).trans ((Mlp.arr_14 (W9 m) c).trans ?_)
  rw [i4]

theorem r_main_v12_5 : W10 m c main_v12_5 = fun _ => sc c5 (A m c).hdg := by
  refine (Pipeline.afterRegion_arr (Mlp.dat (W9 m) c) (W9 m c) winFacts4.arr_inj 15).trans ((Mlp.arr_15 (W9 m) c).trans ?_)
  rw [i5]

theorem r_main_v12_6 : W10 m c main_v12_6 = fun _ => amax (A m c).h := by
  refine (Pipeline.afterRegion_arr (Mlp.dat (W9 m) c) (W9 m c) winFacts4.arr_inj 16).trans ((Mlp.arr_16 (W9 m) c).trans ?_)
  rw [h_eq]

theorem r_main_v12_7 : W10 m c main_v12_7 = fun _ => amax (A m c).dg := by
  refine (Pipeline.afterRegion_arr (Mlp.dat (W9 m) c) (W9 m c) winFacts4.arr_inj 17).trans ((Mlp.arr_17 (W9 m) c).trans ?_)
  rw [dg_eq]

/-! ## The weight gradients -/

theorem Wgrad1_s0 : Wgrad1.s0 (W10 m) c = fun _ => sc c4 (A m c).hx := by
  have e : W10 m c main_v2_1 = fun _ => sc c4 (A m c).hx := by rw [W10_of m c main_v2_1 (by decide), W9_of m c main_v2_1 (by decide), W8_of m c main_v2_1 (by decide), W7_of m c main_v2_1 (by decide), W6_of m c main_v2_1 (by decide), W5_of m c main_v2_1 (by decide), W4_of m c main_v2_1 (by decide), W3_of m c main_v2_1 (by decide), r_main_v2_1]
  exact e
theorem Wgrad1_s1 : Wgrad1.s1 (W10 m) c = fun _ => sc c5 (A m c).hdg := by
  have e : W10 m c main_v12_5 = fun _ => sc c5 (A m c).hdg := by rw [r_main_v12_5]
  exact e
theorem Wgrad1_lhs : Wgrad1.lhs (W10 m) c = (A m c).xc := by
  have e : W10 m c main_v2_0 = (A m c).xc := by rw [W10_of m c main_v2_0 (by decide), W9_of m c main_v2_0 (by decide), W8_of m c main_v2_0 (by decide), W7_of m c main_v2_0 (by decide), W6_of m c main_v2_0 (by decide), W5_of m c main_v2_0 (by decide), W4_of m c main_v2_0 (by decide), W3_of m c main_v2_0 (by decide), r_main_v2_0]
  exact e
theorem Wgrad1_rhs : Wgrad1.rhs (W10 m) c = (A m c).dgc := by
  have e : W10 m c main_v12_1 = (A m c).dgc := by rw [r_main_v12_1]
  exact e

theorem r_main_v13 : W11 m c main_v13 = (A m c).dw1 := by
  refine (Pipeline.afterRegion_arr (Wgrad1.dat (W10 m) c) (W10 m c) winFacts5.arr_inj 4).trans ((Wgrad1.arr_4 (W10 m) c).trans ?_)
  rw [Wgrad1_s0, Wgrad1_s1, Wgrad1_lhs, Wgrad1_rhs]
  rfl

theorem Wgrad2_s0 : Wgrad2.s0 (W11 m) c = fun _ => sc c4 (A m c).hh := by
  have e : W11 m c main_v12_4 = fun _ => sc c4 (A m c).hh := by rw [W11_of m c main_v12_4 (by decide), r_main_v12_4]
  exact e
theorem Wgrad2_s1 : Wgrad2.s1 (W11 m) c = fun _ => sc c5 (A m c).hdy := by
  have e : W11 m c main_v5_1 = fun _ => sc c5 (A m c).hdy := by rw [W11_of m c main_v5_1 (by decide), W10_of m c main_v5_1 (by decide), W9_of m c main_v5_1 (by decide), W8_of m c main_v5_1 (by decide), W7_of m c main_v5_1 (by decide), W6_of m c main_v5_1 (by decide), W5_of m c main_v5_1 (by decide), r_main_v5_1]
  exact e
theorem Wgrad2_lhs : Wgrad2.lhs (W11 m) c = (A m c).hc := by
  have e : W11 m c main_v12_0 = (A m c).hc := by rw [W11_of m c main_v12_0 (by decide), r_main_v12_0]
  exact e
theorem Wgrad2_rhs : Wgrad2.rhs (W11 m) c = (A m c).dyc := by
  have e : W11 m c main_v5_0 = (A m c).dyc := by rw [W11_of m c main_v5_0 (by decide), W10_of m c main_v5_0 (by decide), W9_of m c main_v5_0 (by decide), W8_of m c main_v5_0 (by decide), W7_of m c main_v5_0 (by decide), W6_of m c main_v5_0 (by decide), W5_of m c main_v5_0 (by decide), r_main_v5_0]
  exact e

theorem r_main_v14 : W12 m c main_v14 = (A m c).dw2 := by
  refine (Pipeline.afterRegion_arr (Wgrad2.dat (W11 m) c) (W11 m c) winFacts6.arr_inj 4).trans ((Wgrad2.arr_4 (W11 m) c).trans ?_)
  rw [Wgrad2_s0, Wgrad2_s1, Wgrad2_lhs, Wgrad2_rhs]
  rfl

/-! ## The results -/

theorem f_main_v15 : W13 m c main_v15 = batch ((A m c).y) := by
  have e : W13 m c main_v15 = StableHlo.after hostOps7 (W12 m c) (Proc.devRef .tc main_v15) := rfl
  rw [e]
  after_reads_simp
  have k : W12 m c main_v12_2 = (A m c).y := by rw [W12_of m c main_v12_2 (by decide), W11_of m c main_v12_2 (by decide), r_main_v12_2]
  funext j
  exact congrArg (fun v => batch v j) k

theorem f_main_v16 : W13 m c main_v16 = batch ((A m c).dx) := by
  have e : W13 m c main_v16 = StableHlo.after hostOps7 (W12 m c) (Proc.devRef .tc main_v16) := rfl
  rw [e]
  after_reads_simp
  have k : W12 m c main_v12_3 = (A m c).dx := by rw [W12_of m c main_v12_3 (by decide), W11_of m c main_v12_3 (by decide), r_main_v12_3]
  funext j
  exact congrArg (fun v => batch v j) k

theorem f_main_v13 : W13 m c main_v13 = (A m c).dw1 := by rw [W13_of m c main_v13 (by decide), W12_of m c main_v13 (by decide), r_main_v13]

theorem f_main_v14 : W13 m c main_v14 = (A m c).dw2 := by rw [W13_of m c main_v14 (by decide), r_main_v14]

theorem f_main_v19 : W13 m c main_v19 = roll (m (c, main_arg4)) (fun _ => amax (A m c).x) := by
  have e : W13 m c main_v19 = StableHlo.after hostOps7 (W12 m c) (Proc.devRef .tc main_v19) := rfl
  rw [e]
  after_reads_simp
  have k : W12 m c main_v2_2 = fun _ => amax (A m c).x := by rw [W12_of m c main_v2_2 (by decide), W11_of m c main_v2_2 (by decide), W10_of m c main_v2_2 (by decide), W9_of m c main_v2_2 (by decide), W8_of m c main_v2_2 (by decide), W7_of m c main_v2_2 (by decide), W6_of m c main_v2_2 (by decide), W5_of m c main_v2_2 (by decide), W4_of m c main_v2_2 (by decide), W3_of m c main_v2_2 (by decide), r_main_v2_2]
  have a : W12 m c main_arg4 = m (c, main_arg4) := by
    rw [W12_of m c main_arg4 (by decide), W11_of m c main_arg4 (by decide), W10_of m c main_arg4 (by decide), W9_of m c main_arg4 (by decide), W8_of m c main_arg4 (by decide), W7_of m c main_arg4 (by decide), W6_of m c main_arg4 (by decide), W5_of m c main_arg4 (by decide), W4_of m c main_arg4 (by decide), W3_of m c main_arg4 (by decide), W2_of m c main_arg4 (by decide), W1_of m c main_arg4 (by decide)]
    rfl
  exact congrArg₂ roll a k

theorem f_main_v22 : W13 m c main_v22 = roll (m (c, main_arg5)) (fun _ => amax (A m c).w1) := by
  have e : W13 m c main_v22 = StableHlo.after hostOps7 (W12 m c) (Proc.devRef .tc main_v22) := rfl
  rw [e]
  after_reads_simp
  have k : W12 m c main_v7_2 = fun _ => amax (A m c).w1 := by rw [W12_of m c main_v7_2 (by decide), W11_of m c main_v7_2 (by decide), W10_of m c main_v7_2 (by decide), W9_of m c main_v7_2 (by decide), W8_of m c main_v7_2 (by decide), W7_of m c main_v7_2 (by decide), r_main_v7_2]
  have a : W12 m c main_arg5 = m (c, main_arg5) := by
    rw [W12_of m c main_arg5 (by decide), W11_of m c main_arg5 (by decide), W10_of m c main_arg5 (by decide), W9_of m c main_arg5 (by decide), W8_of m c main_arg5 (by decide), W7_of m c main_arg5 (by decide), W6_of m c main_arg5 (by decide), W5_of m c main_arg5 (by decide), W4_of m c main_arg5 (by decide), W3_of m c main_arg5 (by decide), W2_of m c main_arg5 (by decide), W1_of m c main_arg5 (by decide)]
    rfl
  exact congrArg₂ roll a k

theorem f_main_v25 : W13 m c main_v25 = roll (m (c, main_arg6)) (fun _ => amax (A m c).h) := by
  have e : W13 m c main_v25 = StableHlo.after hostOps7 (W12 m c) (Proc.devRef .tc main_v25) := rfl
  rw [e]
  after_reads_simp
  have k : W12 m c main_v12_6 = fun _ => amax (A m c).h := by rw [W12_of m c main_v12_6 (by decide), W11_of m c main_v12_6 (by decide), r_main_v12_6]
  have a : W12 m c main_arg6 = m (c, main_arg6) := by
    rw [W12_of m c main_arg6 (by decide), W11_of m c main_arg6 (by decide), W10_of m c main_arg6 (by decide), W9_of m c main_arg6 (by decide), W8_of m c main_arg6 (by decide), W7_of m c main_arg6 (by decide), W6_of m c main_arg6 (by decide), W5_of m c main_arg6 (by decide), W4_of m c main_arg6 (by decide), W3_of m c main_arg6 (by decide), W2_of m c main_arg6 (by decide), W1_of m c main_arg6 (by decide)]
    rfl
  exact congrArg₂ roll a k

theorem f_main_v28 : W13 m c main_v28 = roll (m (c, main_arg7)) (fun _ => amax (A m c).w2) := by
  have e : W13 m c main_v28 = StableHlo.after hostOps7 (W12 m c) (Proc.devRef .tc main_v28) := rfl
  rw [e]
  after_reads_simp
  have k : W12 m c main_v9_2 = fun _ => amax (A m c).w2 := by rw [W12_of m c main_v9_2 (by decide), W11_of m c main_v9_2 (by decide), W10_of m c main_v9_2 (by decide), W9_of m c main_v9_2 (by decide), r_main_v9_2]
  have a : W12 m c main_arg7 = m (c, main_arg7) := by
    rw [W12_of m c main_arg7 (by decide), W11_of m c main_arg7 (by decide), W10_of m c main_arg7 (by decide), W9_of m c main_arg7 (by decide), W8_of m c main_arg7 (by decide), W7_of m c main_arg7 (by decide), W6_of m c main_arg7 (by decide), W5_of m c main_arg7 (by decide), W4_of m c main_arg7 (by decide), W3_of m c main_arg7 (by decide), W2_of m c main_arg7 (by decide), W1_of m c main_arg7 (by decide)]
    rfl
  exact congrArg₂ roll a k

theorem f_main_v31 : W13 m c main_v31 = roll (m (c, main_arg8)) (fun _ => amax (A m c).dy) := by
  have e : W13 m c main_v31 = StableHlo.after hostOps7 (W12 m c) (Proc.devRef .tc main_v31) := rfl
  rw [e]
  after_reads_simp
  have k : W12 m c main_v5_2 = fun _ => amax (A m c).dy := by rw [W12_of m c main_v5_2 (by decide), W11_of m c main_v5_2 (by decide), W10_of m c main_v5_2 (by decide), W9_of m c main_v5_2 (by decide), W8_of m c main_v5_2 (by decide), W7_of m c main_v5_2 (by decide), W6_of m c main_v5_2 (by decide), W5_of m c main_v5_2 (by decide), r_main_v5_2]
  have a : W12 m c main_arg8 = m (c, main_arg8) := by
    rw [W12_of m c main_arg8 (by decide), W11_of m c main_arg8 (by decide), W10_of m c main_arg8 (by decide), W9_of m c main_arg8 (by decide), W8_of m c main_arg8 (by decide), W7_of m c main_arg8 (by decide), W6_of m c main_arg8 (by decide), W5_of m c main_arg8 (by decide), W4_of m c main_arg8 (by decide), W3_of m c main_arg8 (by decide), W2_of m c main_arg8 (by decide), W1_of m c main_arg8 (by decide)]
    rfl
  exact congrArg₂ roll a k

theorem f_main_v34 : W13 m c main_v34 = roll (m (c, main_arg9)) (fun _ => amax (A m c).dg) := by
  have e : W13 m c main_v34 = StableHlo.after hostOps7 (W12 m c) (Proc.devRef .tc main_v34) := rfl
  rw [e]
  after_reads_simp
  have k : W12 m c main_v12_7 = fun _ => amax (A m c).dg := by rw [W12_of m c main_v12_7 (by decide), W11_of m c main_v12_7 (by decide), r_main_v12_7]
  have a : W12 m c main_arg9 = m (c, main_arg9) := by
    rw [W12_of m c main_arg9 (by decide), W11_of m c main_arg9 (by decide), W10_of m c main_arg9 (by decide), W9_of m c main_arg9 (by decide), W8_of m c main_arg9 (by decide), W7_of m c main_arg9 (by decide), W6_of m c main_arg9 (by decide), W5_of m c main_arg9 (by decide), W4_of m c main_arg9 (by decide), W3_of m c main_arg9 (by decide), W2_of m c main_arg9 (by decide), W1_of m c main_arg9 (by decide)]
    rfl
  exact congrArg₂ roll a k

theorem f_main_v35 : W13 m c main_v35 = batch ((A m c).xc) := by
  have e : W13 m c main_v35 = StableHlo.after hostOps7 (W12 m c) (Proc.devRef .tc main_v35) := rfl
  rw [e]
  after_reads_simp
  have k : W12 m c main_v2_0 = (A m c).xc := by rw [W12_of m c main_v2_0 (by decide), W11_of m c main_v2_0 (by decide), W10_of m c main_v2_0 (by decide), W9_of m c main_v2_0 (by decide), W8_of m c main_v2_0 (by decide), W7_of m c main_v2_0 (by decide), W6_of m c main_v2_0 (by decide), W5_of m c main_v2_0 (by decide), W4_of m c main_v2_0 (by decide), W3_of m c main_v2_0 (by decide), r_main_v2_0]
  funext j
  exact congrArg (fun v => batch v j) k

theorem f_main_v36 : W13 m c main_v36 = num (fun _ => sc c4 (A m c).hx) := by
  have e : W13 m c main_v36 = StableHlo.after hostOps7 (W12 m c) (Proc.devRef .tc main_v36) := rfl
  rw [e]
  after_reads_simp
  have k : W12 m c main_v2_1 = fun _ => sc c4 (A m c).hx := by rw [W12_of m c main_v2_1 (by decide), W11_of m c main_v2_1 (by decide), W10_of m c main_v2_1 (by decide), W9_of m c main_v2_1 (by decide), W8_of m c main_v2_1 (by decide), W7_of m c main_v2_1 (by decide), W6_of m c main_v2_1 (by decide), W5_of m c main_v2_1 (by decide), W4_of m c main_v2_1 (by decide), W3_of m c main_v2_1 (by decide), r_main_v2_1]
  funext j
  exact congrArg (fun v => num v j) k

theorem f_main_v7_0 : W13 m c main_v7_0 = (A m c).w1c := by rw [W13_of m c main_v7_0 (by decide), W12_of m c main_v7_0 (by decide), W11_of m c main_v7_0 (by decide), W10_of m c main_v7_0 (by decide), W9_of m c main_v7_0 (by decide), W8_of m c main_v7_0 (by decide), W7_of m c main_v7_0 (by decide), r_main_v7_0]

theorem f_main_v37 : W13 m c main_v37 = num (fun _ => sc c4 (A m c).hw1) := by
  have e : W13 m c main_v37 = StableHlo.after hostOps7 (W12 m c) (Proc.devRef .tc main_v37) := rfl
  rw [e]
  after_reads_simp
  have k : W12 m c main_v7_1 = fun _ => sc c4 (A m c).hw1 := by rw [W12_of m c main_v7_1 (by decide), W11_of m c main_v7_1 (by decide), W10_of m c main_v7_1 (by decide), W9_of m c main_v7_1 (by decide), W8_of m c main_v7_1 (by decide), W7_of m c main_v7_1 (by decide), r_main_v7_1]
  funext j
  exact congrArg (fun v => num v j) k

theorem f_main_v38 : W13 m c main_v38 = batchHid ((A m c).hc) := by
  have e : W13 m c main_v38 = StableHlo.after hostOps7 (W12 m c) (Proc.devRef .tc main_v38) := rfl
  rw [e]
  after_reads_simp
  have k : W12 m c main_v12_0 = (A m c).hc := by rw [W12_of m c main_v12_0 (by decide), W11_of m c main_v12_0 (by decide), r_main_v12_0]
  funext j
  exact congrArg (fun v => batchHid v j) k

theorem f_main_v39 : W13 m c main_v39 = num (fun _ => sc c4 (A m c).hh) := by
  have e : W13 m c main_v39 = StableHlo.after hostOps7 (W12 m c) (Proc.devRef .tc main_v39) := rfl
  rw [e]
  after_reads_simp
  have k : W12 m c main_v12_4 = fun _ => sc c4 (A m c).hh := by rw [W12_of m c main_v12_4 (by decide), W11_of m c main_v12_4 (by decide), r_main_v12_4]
  funext j
  exact congrArg (fun v => num v j) k

theorem f_main_v9_0 : W13 m c main_v9_0 = (A m c).w2c := by rw [W13_of m c main_v9_0 (by decide), W12_of m c main_v9_0 (by decide), W11_of m c main_v9_0 (by decide), W10_of m c main_v9_0 (by decide), W9_of m c main_v9_0 (by decide), r_main_v9_0]

theorem f_main_v40 : W13 m c main_v40 = num (fun _ => sc c4 (A m c).hw2) := by
  have e : W13 m c main_v40 = StableHlo.after hostOps7 (W12 m c) (Proc.devRef .tc main_v40) := rfl
  rw [e]
  after_reads_simp
  have k : W12 m c main_v9_1 = fun _ => sc c4 (A m c).hw2 := by rw [W12_of m c main_v9_1 (by decide), W11_of m c main_v9_1 (by decide), W10_of m c main_v9_1 (by decide), W9_of m c main_v9_1 (by decide), r_main_v9_1]
  funext j
  exact congrArg (fun v => num v j) k

theorem f_main_v41 : W13 m c main_v41 = batch ((A m c).dyc) := by
  have e : W13 m c main_v41 = StableHlo.after hostOps7 (W12 m c) (Proc.devRef .tc main_v41) := rfl
  rw [e]
  after_reads_simp
  have k : W12 m c main_v5_0 = (A m c).dyc := by rw [W12_of m c main_v5_0 (by decide), W11_of m c main_v5_0 (by decide), W10_of m c main_v5_0 (by decide), W9_of m c main_v5_0 (by decide), W8_of m c main_v5_0 (by decide), W7_of m c main_v5_0 (by decide), W6_of m c main_v5_0 (by decide), W5_of m c main_v5_0 (by decide), r_main_v5_0]
  funext j
  exact congrArg (fun v => batch v j) k

theorem f_main_v42 : W13 m c main_v42 = num (fun _ => sc c5 (A m c).hdy) := by
  have e : W13 m c main_v42 = StableHlo.after hostOps7 (W12 m c) (Proc.devRef .tc main_v42) := rfl
  rw [e]
  after_reads_simp
  have k : W12 m c main_v5_1 = fun _ => sc c5 (A m c).hdy := by rw [W12_of m c main_v5_1 (by decide), W11_of m c main_v5_1 (by decide), W10_of m c main_v5_1 (by decide), W9_of m c main_v5_1 (by decide), W8_of m c main_v5_1 (by decide), W7_of m c main_v5_1 (by decide), W6_of m c main_v5_1 (by decide), W5_of m c main_v5_1 (by decide), r_main_v5_1]
  funext j
  exact congrArg (fun v => num v j) k

theorem f_main_v43 : W13 m c main_v43 = batchHid ((A m c).dgc) := by
  have e : W13 m c main_v43 = StableHlo.after hostOps7 (W12 m c) (Proc.devRef .tc main_v43) := rfl
  rw [e]
  after_reads_simp
  have k : W12 m c main_v12_1 = (A m c).dgc := by rw [W12_of m c main_v12_1 (by decide), W11_of m c main_v12_1 (by decide), r_main_v12_1]
  funext j
  exact congrArg (fun v => batchHid v j) k

theorem f_main_v44 : W13 m c main_v44 = num (fun _ => sc c5 (A m c).hdg) := by
  have e : W13 m c main_v44 = StableHlo.after hostOps7 (W12 m c) (Proc.devRef .tc main_v44) := rfl
  rw [e]
  after_reads_simp
  have k : W12 m c main_v12_5 = fun _ => sc c5 (A m c).hdg := by rw [W12_of m c main_v12_5 (by decide), W11_of m c main_v12_5 (by decide), r_main_v12_5]
  funext j
  exact congrArg (fun v => num v j) k

end Cert.KernelIdeal.Val

end
-- ==== Proof.RPay.lean ====
/-
  What the reference's one call leaves in each of its results, over the extended reals: the plain functions of `Spec`.
-/
module

public import proofs.«01_k».proof.Proof.Spec
public import proofs.«01_k».proof.Proof.Ref
public import Idealize.ShloMosaic.Lib.Pipeline.Value

@[expose] public section

set_option maxRecDepth 16384

noncomputable section

namespace Cert.ReferenceIdeal.Pay

open Cert.ReferenceIdeal.Gen Cert.ReferenceIdeal.Ref Cert.Spec
open Idealize.ShloMosaic

variable (A : Args)

theorem e3 (h : Vec Ideal S1x16 .f32) : k0_pay3 h = fun _ => Scale.rexp (top h) c4 := by
  funext j
  pointwise [k0_pay3]
  simp only [fold_max _ _ Scale.ofBits_bot]
  rfl

theorem s4 (h : Vec Ideal S1x16 .f32) : k0_pay4 h = fun _ => sc c4 h := by
  funext j
  pointwise [k0_pay4, e3]
  rfl

theorem e7 (h : Vec Ideal S1x16 .f32) : k0_pay7 h = fun _ => Scale.rexp (top h) c4 := by
  funext j
  pointwise [k0_pay7]
  simp only [fold_max _ _ Scale.ofBits_bot]
  rfl

theorem s8 (h : Vec Ideal S1x16 .f32) : k0_pay8 h = fun _ => sc c4 h := by
  funext j
  pointwise [k0_pay8, e7]
  rfl

theorem e14 (h : Vec Ideal S1x16 .f32) : k0_pay14 h = fun _ => Scale.rexp (top h) c4 := by
  funext j
  pointwise [k0_pay14]
  simp only [fold_max _ _ Scale.ofBits_bot]
  rfl

theorem s15 (h : Vec Ideal S1x16 .f32) : k0_pay15 h = fun _ => sc c4 h := by
  funext j
  pointwise [k0_pay15, e14]
  rfl

theorem e18 (h : Vec Ideal S1x16 .f32) : k0_pay18 h = fun _ => Scale.rexp (top h) c4 := by
  funext j
  pointwise [k0_pay18]
  simp only [fold_max _ _ Scale.ofBits_bot]
  rfl

theorem s19 (h : Vec Ideal S1x16 .f32) : k0_pay19 h = fun _ => sc c4 h := by
  funext j
  pointwise [k0_pay19, e18]
  rfl

theorem e23 (h : Vec Ideal S1x16 .f32) : k0_pay23 h = fun _ => Scale.rexp (top h) c5 := by
  funext j
  pointwise [k0_pay23]
  simp only [fold_max _ _ Scale.ofBits_bot]
  rfl

theorem s24 (h : Vec Ideal S1x16 .f32) : k0_pay24 h = fun _ => sc c5 h := by
  funext j
  pointwise [k0_pay24, e23]
  rfl

theorem e29 (h : Vec Ideal S1x16 .f32) : k0_pay29 h = fun _ => Scale.rexp (top h) c5 := by
  funext j
  pointwise [k0_pay29]
  simp only [fold_max _ _ Scale.ofBits_bot]
  rfl

theorem s30 (h : Vec Ideal S1x16 .f32) : k0_pay30 h = fun _ => sc c5 h := by
  funext j
  pointwise [k0_pay30, e29]
  rfl

theorem x5 : k0_pay5 (F := Ideal) A.x A.hx = fun j => A.x j * inv c4 A.hx := by
  funext j
  rw [eq_ix2 j]
  pointwise [k0_pay5, k0_pay1, e3]
  try rfl

theorem x6 : k0_pay6 (F := Ideal) (fun j => A.x j * inv c4 A.hx) (Scalar.ofBits .f32 0xC3E00000#32) = A.xc := by
  funext j
  rw [eq_ix2 j]
  pointwise [k0_pay6]
  try rfl

theorem x9 : k0_pay9 (F := Ideal) A.w1 A.hw1 = A.w1c := by
  funext j
  rw [eq_ix2 j]
  pointwise [k0_pay9, e7]
  try rfl

theorem x10 : k0_pay10 (F := Ideal) A.w1 (fun j => A.x j * inv c4 A.hx) (Scalar.ofBits .f32 0xC3E00000#32) A.hw1 = fun j => ∑ k : Fin 2048, A.xc (ix2 (j 0) k) * A.w1c (ix2 k (j 1)) := by
  funext j
  rw [eq_ix2 j]
  pointwise [k0_pay10, x6, x9]
  try rfl

theorem x11 : k0_pay11 (F := Ideal) (fun _ => sc c4 A.hx) (fun _ => sc c4 A.hw1) (fun j => ∑ k : Fin 2048, A.xc (ix2 (j 0) k) * A.w1c (ix2 k (j 1))) = A.z := by
  funext j
  rw [eq_ix2 j]
  pointwise [k0_pay11]
  try rfl

theorem x12 : k0_pay12 (F := Ideal) (fun _ => sc c4 A.hx) (fun _ => sc c4 A.hw1) (fun j => ∑ k : Fin 2048, A.xc (ix2 (j 0) k) * A.w1c (ix2 k (j 1))) = fun j => cdf (A.z j) := by
  funext j
  rw [eq_ix2 j]
  pointwise [k0_pay12, x11]
  try rfl

theorem x13 : k0_pay13 (F := Ideal) (fun _ => sc c4 A.hx) (fun _ => sc c4 A.hw1) (fun j => ∑ k : Fin 2048, A.xc (ix2 (j 0) k) * A.w1c (ix2 k (j 1))) = A.h := by
  funext j
  rw [eq_ix2 j]
  pointwise [k0_pay13, x11, x12]
  try rfl

theorem x16 : k0_pay16 (F := Ideal) (fun _ => sc c4 A.hx) (fun _ => sc c4 A.hw1) (fun j => ∑ k : Fin 2048, A.xc (ix2 (j 0) k) * A.w1c (ix2 k (j 1))) A.hh = fun j => A.h j * inv c4 A.hh := by
  funext j
  rw [eq_ix2 j]
  pointwise [k0_pay16, x13, e14]
  try rfl

theorem x17 : k0_pay17 (F := Ideal) (fun j => A.h j * inv c4 A.hh) (Scalar.ofBits .f32 0xC3E00000#32) = A.hc := by
  funext j
  rw [eq_ix2 j]
  pointwise [k0_pay17]
  try rfl

theorem x20 : k0_pay20 (F := Ideal) A.w2 A.hw2 = A.w2c := by
  funext j
  rw [eq_ix2 j]
  pointwise [k0_pay20, e18]
  try rfl

theorem x21 : k0_pay21 (F := Ideal) A.w2 (fun j => A.h j * inv c4 A.hh) (Scalar.ofBits .f32 0xC3E00000#32) A.hw2 = fun j => ∑ k : Fin 8192, A.hc (ix2 (j 0) k) * A.w2c (ix2 k (j 1)) := by
  funext j
  rw [eq_ix2 j]
  pointwise [k0_pay21, x17, x20]
  try rfl

theorem x22 : k0_pay22 (F := Ideal) (fun _ => sc c4 A.hh) (fun _ => sc c4 A.hw2) (fun j => ∑ k : Fin 8192, A.hc (ix2 (j 0) k) * A.w2c (ix2 k (j 1))) = A.y := by
  funext j
  rw [eq_ix2 j]
  pointwise [k0_pay22]
  try rfl

theorem x25 : k0_pay25 (F := Ideal) A.dy A.hdy = A.dyc := by
  funext j
  rw [eq_ix2 j]
  pointwise [k0_pay25, e23]
  try rfl

theorem x26 : k0_pay26 (F := Ideal) A.dy (fun _ => sc c4 A.hw2) A.w2c A.hdy = A.dh := by
  funext j
  rw [eq_ix2 j]
  pointwise [k0_pay26, x25, s24]
  try rfl

theorem x27 : k0_pay27 (F := Ideal) (fun _ => sc c4 A.hh) A.hc (fun _ => sc c5 A.hdy) A.dyc = A.dw2 := by
  funext j
  rw [eq_ix2 j]
  pointwise [k0_pay27]
  try rfl

theorem x28 : k0_pay28 (F := Ideal) A.z (fun j => cdf (A.z j)) A.dh = A.dg := by
  funext j
  rw [eq_ix2 j]
  pointwise [k0_pay28]
  try rfl

theorem x31 : k0_pay31 (F := Ideal) A.hdg = fun _ => inv c5 A.hdg := by
  funext j
  rw [eq_ix2 j]
  pointwise [k0_pay31, e29]
  try rfl

theorem x32 : k0_pay32 (F := Ideal) A.dg (fun _ => inv c5 A.hdg) = A.dgc := by
  funext j
  rw [eq_ix2 j]
  pointwise [k0_pay32]
  try rfl

theorem x33 : k0_pay33 (F := Ideal) (fun _ => sc c4 A.hw1) A.w1c A.dg (fun _ => sc c5 A.hdg) (fun _ => inv c5 A.hdg) = A.dx := by
  funext j
  rw [eq_ix2 j]
  pointwise [k0_pay33, x32]
  try rfl

theorem x34 : k0_pay34 (F := Ideal) (fun _ => sc c4 A.hx) A.xc A.dg (fun _ => sc c5 A.hdg) (fun _ => inv c5 A.hdg) = A.dw1 := by
  funext j
  rw [eq_ix2 j]
  pointwise [k0_pay34, x32]
  try rfl

theorem m35 (v : Vec Ideal S16384x2048 .f32) : k0_pay35 (F := Ideal) v = fun _ => amax v := by
  funext j
  unfold amax
  pointwise [k0_pay35]
  simp only [fold_max _ _ Scale.ofBits_bot]
  rfl

theorem m36 (v : Vec Ideal S2048x8192 .f32) : k0_pay36 (F := Ideal) v = fun _ => amax v := by
  funext j
  unfold amax
  pointwise [k0_pay36]
  simp only [fold_max _ _ Scale.ofBits_bot]
  rfl

theorem m37 (v : Vec Ideal S16384x8192 .f32) : k0_pay37 (F := Ideal) v = fun _ => amax v := by
  funext j
  unfold amax
  pointwise [k0_pay37]
  simp only [fold_max _ _ Scale.ofBits_bot]
  rfl

theorem m38 (v : Vec Ideal S8192x2048 .f32) : k0_pay38 (F := Ideal) v = fun _ => amax v := by
  funext j
  unfold amax
  pointwise [k0_pay38]
  simp only [fold_max _ _ Scale.ofBits_bot]
  rfl

theorem m39 (v : Vec Ideal S16384x2048 .f32) : k0_pay39 (F := Ideal) v = fun _ => amax v := by
  funext j
  unfold amax
  pointwise [k0_pay39]
  simp only [fold_max _ _ Scale.ofBits_bot]
  rfl

theorem m40 (v : Vec Ideal S16384x8192 .f32) : k0_pay40 (F := Ideal) v = fun _ => amax v := by
  funext j
  unfold amax
  pointwise [k0_pay40]
  simp only [fold_max _ _ Scale.ofBits_bot]
  rfl

theorem hz : (![0, 0] : Fin 2 → Nat) = fun _ => 0 := funext fun a => by fin_cases a <;> rfl

theorem ld0 (x : Vec Ideal S16384x2048 .f32) : View.ld x r0_0 = x := View.ld_unit_zero hz _ x
theorem ld1 (x : Vec Ideal S2048x8192 .f32) : View.ld x r0_1 = x := View.ld_unit_zero hz _ x
theorem ld2 (x : Vec Ideal S8192x2048 .f32) : View.ld x r0_2 = x := View.ld_unit_zero hz _ x
theorem ld3 (x : Vec Ideal S1x16 .f32) : View.ld x r0_3 = x := View.ld_unit_zero hz _ x
theorem p1 (v : Vec Ideal S16384x2048 .f32) : k0_pay1 v = v := by unfold k0_pay1; exact shapeCast_self v _
theorem p2 (v : Vec Ideal S16384x2048 .f32) : k0_pay2 v = v := by unfold k0_pay2; exact shapeCast_self v _

theorem p41 : k0_pay41 (F := Ideal) A.x A.w1 A.w2 A.dy A.hx A.hw1 A.hh A.hw2 A.hdy A.hdg = A.dy := by
  unfold k0_pay41
  rw [ld0, p2]

theorem p42 : k0_pay42 (F := Ideal) A.x A.w1 A.w2 A.dy A.hx A.hw1 A.hh A.hw2 A.hdy A.hdg = fun _ => sc c4 A.hx := by
  unfold k0_pay42
  rw [ld3, s4]

theorem p43 : k0_pay43 (F := Ideal) A.x A.w1 A.w2 A.dy A.hx A.hw1 A.hh A.hw2 A.hdy A.hdg = fun j => A.x j * inv c4 A.hx := by
  unfold k0_pay43
  rw [ld0, ld3, x5]

theorem p44 : k0_pay44 (F := Ideal) A.x A.w1 A.w2 A.dy A.hx A.hw1 A.hh A.hw2 A.hdy A.hdg = A.xc := by
  unfold k0_pay44
  rw [p43, x6]

theorem p45 : k0_pay45 (F := Ideal) A.x A.w1 A.w2 A.dy A.hx A.hw1 A.hh A.hw2 A.hdy A.hdg = fun _ => sc c4 A.hw1 := by
  unfold k0_pay45
  rw [ld3, s8]

theorem p46 : k0_pay46 (F := Ideal) A.x A.w1 A.w2 A.dy A.hx A.hw1 A.hh A.hw2 A.hdy A.hdg = A.w1c := by
  unfold k0_pay46
  rw [ld1, ld3, x9]

theorem p47 : k0_pay47 (F := Ideal) A.x A.w1 A.w2 A.dy A.hx A.hw1 A.hh A.hw2 A.hdy A.hdg = fun j => ∑ k : Fin 2048, A.xc (ix2 (j 0) k) * A.w1c (ix2 k (j 1)) := by
  unfold k0_pay47
  rw [ld1, ld3, p43, x10]

theorem p48 : k0_pay48 (F := Ideal) A.x A.w1 A.w2 A.dy A.hx A.hw1 A.hh A.hw2 A.hdy A.hdg = fun _ => sc c4 A.hh := by
  unfold k0_pay48
  rw [ld3, s15]

theorem p49 : k0_pay49 (F := Ideal) A.x A.w1 A.w2 A.dy A.hx A.hw1 A.hh A.hw2 A.hdy A.hdg = fun j => A.h j * inv c4 A.hh := by
  unfold k0_pay49
  rw [p42, p45, p47, ld3, x16]

theorem p50 : k0_pay50 (F := Ideal) A.x A.w1 A.w2 A.dy A.hx A.hw1 A.hh A.hw2 A.hdy A.hdg = A.hc := by
  unfold k0_pay50
  rw [p49, x17]

theorem p51 : k0_pay51 (F := Ideal) A.x A.w1 A.w2 A.dy A.hx A.hw1 A.hh A.hw2 A.hdy A.hdg = fun _ => sc c4 A.hw2 := by
  unfold k0_pay51
  rw [ld3, s19]

theorem p52 : k0_pay52 (F := Ideal) A.x A.w1 A.w2 A.dy A.hx A.hw1 A.hh A.hw2 A.hdy A.hdg = A.w2c := by
  unfold k0_pay52
  rw [ld2, ld3, x20]

theorem p53 : k0_pay53 (F := Ideal) A.x A.w1 A.w2 A.dy A.hx A.hw1 A.hh A.hw2 A.hdy A.hdg = fun _ => sc c5 A.hdy := by
  unfold k0_pay53
  rw [ld3, s24]

theorem p54 : k0_pay54 (F := Ideal) A.x A.w1 A.w2 A.dy A.hx A.hw1 A.hh A.hw2 A.hdy A.hdg = A.dyc := by
  unfold k0_pay54
  rw [p41, ld3, x25]

theorem p55 : k0_pay55 (F := Ideal) A.x A.w1 A.w2 A.dy A.hx A.hw1 A.hh A.hw2 A.hdy A.hdg = A.dg := by
  unfold k0_pay55
  rw [p42, p45, p47, x11, x12, p41, p51, p52, ld3, x26, x28]

theorem p56 : k0_pay56 (F := Ideal) A.x A.w1 A.w2 A.dy A.hx A.hw1 A.hh A.hw2 A.hdy A.hdg = fun _ => sc c5 A.hdg := by
  unfold k0_pay56
  rw [ld3, s30]

theorem p57 : k0_pay57 (F := Ideal) A.x A.w1 A.w2 A.dy A.hx A.hw1 A.hh A.hw2 A.hdy A.hdg = fun _ => inv c5 A.hdg := by
  unfold k0_pay57
  rw [ld3, x31]

theorem o10 : out0_10 (F := Ideal) A.x A.w1 A.w2 A.dy A.hx A.hw1 A.hh A.hw2 A.hdy A.hdg = A.y := by
  unfold out0_10
  rw [View.canon_unit_zero hz, p48, p51, ld2, p49, ld3, x21, x22]

theorem o11 : out0_11 (F := Ideal) A.x A.w1 A.w2 A.dy A.hx A.hw1 A.hh A.hw2 A.hdy A.hdg = A.dx := by
  unfold out0_11
  rw [View.canon_unit_zero hz, p45, p46, p55, p56, p57, x33]

theorem o12 : out0_12 (F := Ideal) A.x A.w1 A.w2 A.dy A.hx A.hw1 A.hh A.hw2 A.hdy A.hdg = A.dw1 := by
  unfold out0_12
  rw [View.canon_unit_zero hz, p42, p44, p55, p56, p57, x34]

theorem o13 : out0_13 (F := Ideal) A.x A.w1 A.w2 A.dy A.hx A.hw1 A.hh A.hw2 A.hdy A.hdg = A.dw2 := by
  unfold out0_13
  rw [View.canon_unit_zero hz, p48, p50, p53, p54, x27]

theorem o14 : out0_14 (F := Ideal) A.x A.w1 A.w2 A.dy A.hx A.hw1 A.hh A.hw2 A.hdy A.hdg = fun _ => amax A.x := by
  unfold out0_14
  rw [View.canon_unit_zero hz, ld0, p1, m35]

theorem o15 : out0_15 (F := Ideal) A.x A.w1 A.w2 A.dy A.hx A.hw1 A.hh A.hw2 A.hdy A.hdg = fun _ => amax A.w1 := by
  unfold out0_15
  rw [View.canon_unit_zero hz, ld1, m36]

theorem o16 : out0_16 (F := Ideal) A.x A.w1 A.w2 A.dy A.hx A.hw1 A.hh A.hw2 A.hdy A.hdg = fun _ => amax A.h := by
  unfold out0_16
  rw [View.canon_unit_zero hz, p42, p45, p47, x13, m37]

theorem o17 : out0_17 (F := Ideal) A.x A.w1 A.w2 A.dy A.hx A.hw1 A.hh A.hw2 A.hdy A.hdg = fun _ => amax A.w2 := by
  unfold out0_17
  rw [View.canon_unit_zero hz, ld2, m38]

theorem o18 : out0_18 (F := Ideal) A.x A.w1 A.w2 A.dy A.hx A.hw1 A.hh A.hw2 A.hdy A.hdg = fun _ => amax A.dy := by
  unfold out0_18
  rw [View.canon_unit_zero hz, p41, m39]

theorem o19 : out0_19 (F := Ideal) A.x A.w1 A.w2 A.dy A.hx A.hw1 A.hh A.hw2 A.hdy A.hdg = fun _ => amax A.dg := by
  unfold out0_19
  rw [View.canon_unit_zero hz, p55, m40]

theorem o20 : out0_20 (F := Ideal) A.x A.w1 A.w2 A.dy A.hx A.hw1 A.hh A.hw2 A.hdy A.hdg = A.xc := by
  unfold out0_20
  rw [View.canon_unit_zero hz, p44]

theorem o21 : out0_21 (F := Ideal) A.x A.w1 A.w2 A.dy A.hx A.hw1 A.hh A.hw2 A.hdy A.hdg = fun _ => sc c4 A.hx := by
  unfold out0_21
  rw [View.canon_unit_zero hz, p42]

theorem o22 : out0_22 (F := Ideal) A.x A.w1 A.w2 A.dy A.hx A.hw1 A.hh A.hw2 A.hdy A.hdg = A.w1c := by
  unfold out0_22
  rw [View.canon_unit_zero hz, p46]

theorem o23 : out0_23 (F := Ideal) A.x A.w1 A.w2 A.dy A.hx A.hw1 A.hh A.hw2 A.hdy A.hdg = fun _ => sc c4 A.hw1 := by
  unfold out0_23
  rw [View.canon_unit_zero hz, p45]

theorem o24 : out0_24 (F := Ideal) A.x A.w1 A.w2 A.dy A.hx A.hw1 A.hh A.hw2 A.hdy A.hdg = A.hc := by
  unfold out0_24
  rw [View.canon_unit_zero hz, p50]

theorem o25 : out0_25 (F := Ideal) A.x A.w1 A.w2 A.dy A.hx A.hw1 A.hh A.hw2 A.hdy A.hdg = fun _ => sc c4 A.hh := by
  unfold out0_25
  rw [View.canon_unit_zero hz, p48]

theorem o26 : out0_26 (F := Ideal) A.x A.w1 A.w2 A.dy A.hx A.hw1 A.hh A.hw2 A.hdy A.hdg = A.w2c := by
  unfold out0_26
  rw [View.canon_unit_zero hz, p52]

theorem o27 : out0_27 (F := Ideal) A.x A.w1 A.w2 A.dy A.hx A.hw1 A.hh A.hw2 A.hdy A.hdg = fun _ => sc c4 A.hw2 := by
  unfold out0_27
  rw [View.canon_unit_zero hz, p51]

theorem o28 : out0_28 (F := Ideal) A.x A.w1 A.w2 A.dy A.hx A.hw1 A.hh A.hw2 A.hdy A.hdg = A.dyc := by
  unfold out0_28
  rw [View.canon_unit_zero hz, p54]

theorem o29 : out0_29 (F := Ideal) A.x A.w1 A.w2 A.dy A.hx A.hw1 A.hh A.hw2 A.hdy A.hdg = fun _ => sc c5 A.hdy := by
  unfold out0_29
  rw [View.canon_unit_zero hz, p53]

theorem o30 : out0_30 (F := Ideal) A.x A.w1 A.w2 A.dy A.hx A.hw1 A.hh A.hw2 A.hdy A.hdg = A.dgc := by
  unfold out0_30
  rw [View.canon_unit_zero hz, p55, p57, x32]

theorem o31 : out0_31 (F := Ideal) A.x A.w1 A.w2 A.dy A.hx A.hw1 A.hh A.hw2 A.hdy A.hdg = fun _ => sc c5 A.hdg := by
  unfold out0_31
  rw [View.canon_unit_zero hz, p56]

end Cert.ReferenceIdeal.Pay

end
-- ==== Proof.RValue.lean ====
/-
  What the reference leaves in each of its results, over the extended reals: the plain functions of `Spec` of its arguments.
-/
module

public import proofs.«01_k».proof.Proof.RPay
public import proofs.«01_k».proof.Proof.Result
public import Idealize.ShloMosaic.Lib.Pipeline.ValueKit.Point
public import Idealize.ShloMosaic.Lib.StableHlo.RunRead

@[expose] public section

set_option maxRecDepth 16384

noncomputable section

namespace Cert.ReferenceIdeal.Val

open Cert.ReferenceIdeal.Gen Cert.ReferenceIdeal.Ref Cert.ReferenceIdeal.Pay Cert.Spec
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The arguments, of the memory at the start. -/
def A (c : Dev nD) : Args := Args.of (m (c, main_arg0)) (m (c, main_arg1)) (m (c, main_arg2)) (m (c, main_arg3)) (m (c, main_arg4)) (m (c, main_arg5))
  (m (c, main_arg6)) (m (c, main_arg7)) (m (c, main_arg8)) (m (c, main_arg9))

variable (c : Dev nD)

/-! ## The arguments of the call -/

theorem v0 : V m c main_v0 = (A m c).x := by
  have e : V m c main_v0 = StableHlo.after hostOps0 (fun b => m (c, b)) (Proc.devRef .tc main_v0) := rfl
  rw [e]
  after_reads_simp
  rfl
theorem v1 : V m c main_arg1 = (A m c).w1 := V_main_arg1 m c
theorem v2 : V m c main_arg2 = (A m c).w2 := V_main_arg2 m c
theorem v3 : V m c main_v1 = (A m c).dy := by
  have e : V m c main_v1 = StableHlo.after hostOps0 (fun b => m (c, b)) (Proc.devRef .tc main_v1) := rfl
  rw [e]
  after_reads_simp
  rfl
theorem v4 : V m c main_v2 = (A m c).hx := by
  have e : V m c main_v2 = StableHlo.after hostOps0 (fun b => m (c, b)) (Proc.devRef .tc main_v2) := rfl
  rw [e]
  after_reads_simp
  rfl
theorem v5 : V m c main_v3 = (A m c).hw1 := by
  have e : V m c main_v3 = StableHlo.after hostOps0 (fun b => m (c, b)) (Proc.devRef .tc main_v3) := rfl
  rw [e]
  after_reads_simp
  rfl
theorem v6 : V m c main_v4 = (A m c).hh := by
  have e : V m c main_v4 = StableHlo.after hostOps0 (fun b => m (c, b)) (Proc.devRef .tc main_v4) := rfl
  rw [e]
  after_reads_simp
  rfl
theorem v7 : V m c main_v5 = (A m c).hw2 := by
  have e : V m c main_v5 = StableHlo.after hostOps0 (fun b => m (c, b)) (Proc.devRef .tc main_v5) := rfl
  rw [e]
  after_reads_simp
  rfl
theorem v8 : V m c main_v6 = (A m c).hdy := by
  have e : V m c main_v6 = StableHlo.after hostOps0 (fun b => m (c, b)) (Proc.devRef .tc main_v6) := rfl
  rw [e]
  after_reads_simp
  rfl
theorem v9 : V m c main_v7 = (A m c).hdg := by
  have e : V m c main_v7 = StableHlo.after hostOps0 (fun b => m (c, b)) (Proc.devRef .tc main_v7) := rfl
  rw [e]
  after_reads_simp
  rfl
theorem idx0 (t : Fin cfg0.N) : win0_0.index t = ![0, 0] := by funext k; fin_cases k <;> rfl
theorem idx1 (t : Fin cfg0.N) : win0_1.index t = ![0, 0] := by funext k; fin_cases k <;> rfl
theorem idx2 (t : Fin cfg0.N) : win0_2.index t = ![0, 0] := by funext k; fin_cases k <;> rfl
theorem idx3 (t : Fin cfg0.N) : win0_3.index t = ![0, 0] := by funext k; fin_cases k <;> rfl
theorem idx4 (t : Fin cfg0.N) : win0_4.index t = ![0, 0] := by funext k; fin_cases k <;> rfl
theorem idx5 (t : Fin cfg0.N) : win0_5.index t = ![0, 0] := by funext k; fin_cases k <;> rfl
theorem idx6 (t : Fin cfg0.N) : win0_6.index t = ![0, 0] := by funext k; fin_cases k <;> rfl
theorem idx7 (t : Fin cfg0.N) : win0_7.index t = ![0, 0] := by funext k; fin_cases k <;> rfl
theorem idx8 (t : Fin cfg0.N) : win0_8.index t = ![0, 0] := by funext k; fin_cases k <;> rfl
theorem idx9 (t : Fin cfg0.N) : win0_9.index t = ![0, 0] := by funext k; fin_cases k <;> rfl
theorem idx10 (t : Fin cfg0.N) : win0_10.index t = ![0, 0] := by funext k; fin_cases k <;> rfl
theorem idx11 (t : Fin cfg0.N) : win0_11.index t = ![0, 0] := by funext k; fin_cases k <;> rfl
theorem idx12 (t : Fin cfg0.N) : win0_12.index t = ![0, 0] := by funext k; fin_cases k <;> rfl
theorem idx13 (t : Fin cfg0.N) : win0_13.index t = ![0, 0] := by funext k; fin_cases k <;> rfl
theorem idx20 (t : Fin cfg0.N) : win0_20.index t = ![0, 0] := by funext k; fin_cases k <;> rfl
theorem idx22 (t : Fin cfg0.N) : win0_22.index t = ![0, 0] := by funext k; fin_cases k <;> rfl
theorem idx24 (t : Fin cfg0.N) : win0_24.index t = ![0, 0] := by funext k; fin_cases k <;> rfl
theorem idx26 (t : Fin cfg0.N) : win0_26.index t = ![0, 0] := by funext k; fin_cases k <;> rfl
theorem idx28 (t : Fin cfg0.N) : win0_28.index t = ![0, 0] := by funext k; fin_cases k <;> rfl
theorem idx30 (t : Fin cfg0.N) : win0_30.index t = ![0, 0] := by funext k; fin_cases k <;> rfl
theorem i0 (t : Fin cfg0.N) : iblk m c 0 t = (A m c).x := by
  rw [← v0]
  funext j
  blk_simp [iblk]
  congr 1
  blk_ext [idx0]
theorem i1 (t : Fin cfg0.N) : iblk m c 1 t = (A m c).w1 := by
  rw [← v1]
  funext j
  blk_simp [iblk]
  congr 1
  blk_ext [idx1]
theorem i2 (t : Fin cfg0.N) : iblk m c 2 t = (A m c).w2 := by
  rw [← v2]
  funext j
  blk_simp [iblk]
  congr 1
  blk_ext [idx2]
theorem i3 (t : Fin cfg0.N) : iblk m c 3 t = (A m c).dy := by
  rw [← v3]
  funext j
  blk_simp [iblk]
  congr 1
  blk_ext [idx3]
theorem i4 (t : Fin cfg0.N) : iblk m c 4 t = (A m c).hx := by
  rw [← v4]
  funext j
  blk_simp [iblk]
  congr 1
  blk_ext [idx4]
theorem i5 (t : Fin cfg0.N) : iblk m c 5 t = (A m c).hw1 := by
  rw [← v5]
  funext j
  blk_simp [iblk]
  congr 1
  blk_ext [idx5]
theorem i6 (t : Fin cfg0.N) : iblk m c 6 t = (A m c).hh := by
  rw [← v6]
  funext j
  blk_simp [iblk]
  congr 1
  blk_ext [idx6]
theorem i7 (t : Fin cfg0.N) : iblk m c 7 t = (A m c).hw2 := by
  rw [← v7]
  funext j
  blk_simp [iblk]
  congr 1
  blk_ext [idx7]
theorem i8 (t : Fin cfg0.N) : iblk m c 8 t = (A m c).hdy := by
  rw [← v8]
  funext j
  blk_simp [iblk]
  congr 1
  blk_ext [idx8]
theorem i9 (t : Fin cfg0.N) : iblk m c 9 t = (A m c).hdg := by
  rw [← v9]
  funext j
  blk_simp [iblk]
  congr 1
  blk_ext [idx9]

/-! ## What the call leaves -/

theorem arr_10 : (dats m 0 c).arrAt 10 cfg0.N = (A m c).y := by
  refine (dats m 0 c).arrAt_eq_of_covers 10 _ (by decide +kernel) fun t hf y => ?_
  blk_simp
  rw [after0_10, i0, i1, i2, i3, i4, i5, i6, i7, i8, i9, o10]
  congr 1
  blk_ext [idx10]

theorem arr_11 : (dats m 0 c).arrAt 11 cfg0.N = (A m c).dx := by
  refine (dats m 0 c).arrAt_eq_of_covers 11 _ (by decide +kernel) fun t hf y => ?_
  blk_simp
  rw [after0_11, i0, i1, i2, i3, i4, i5, i6, i7, i8, i9, o11]
  congr 1
  blk_ext [idx11]

theorem arr_12 : (dats m 0 c).arrAt 12 cfg0.N = (A m c).dw1 := by
  refine (dats m 0 c).arrAt_eq_of_covers 12 _ (by decide +kernel) fun t hf y => ?_
  blk_simp
  rw [after0_12, i0, i1, i2, i3, i4, i5, i6, i7, i8, i9, o12]
  congr 1
  blk_ext [idx12]

theorem arr_13 : (dats m 0 c).arrAt 13 cfg0.N = (A m c).dw2 := by
  refine (dats m 0 c).arrAt_eq_of_covers 13 _ (by decide +kernel) fun t hf y => ?_
  blk_simp
  rw [after0_13, i0, i1, i2, i3, i4, i5, i6, i7, i8, i9, o13]
  congr 1
  blk_ext [idx13]

theorem arr_14 : (dats m 0 c).arrAt 14 cfg0.N = fun _ => amax (A m c).x := by
  refine (dats m 0 c).arrAt_eq_of_covers 14 _ (by decide +kernel) fun t hf y => ?_
  blk_simp
  rw [after0_14, i0, i1, i2, i3, i4, i5, i6, i7, i8, i9, o14]

theorem arr_15 : (dats m 0 c).arrAt 15 cfg0.N = fun _ => amax (A m c).w1 := by
  refine (dats m 0 c).arrAt_eq_of_covers 15 _ (by decide +kernel) fun t hf y => ?_
  blk_simp
  rw [after0_15, i0, i1, i2, i3, i4, i5, i6, i7, i8, i9, o15]

theorem arr_16 : (dats m 0 c).arrAt 16 cfg0.N = fun _ => amax (A m c).h := by
  refine (dats m 0 c).arrAt_eq_of_covers 16 _ (by decide +kernel) fun t hf y => ?_
  blk_simp
  rw [after0_16, i0, i1, i2, i3, i4, i5, i6, i7, i8, i9, o16]

theorem arr_17 : (dats m 0 c).arrAt 17 cfg0.N = fun _ => amax (A m c).w2 := by
  refine (dats m 0 c).arrAt_eq_of_covers 17 _ (by decide +kernel) fun t hf y => ?_
  blk_simp
  rw [after0_17, i0, i1, i2, i3, i4, i5, i6, i7, i8, i9, o17]

theorem arr_18 : (dats m 0 c).arrAt 18 cfg0.N = fun _ => amax (A m c).dy := by
  refine (dats m 0 c).arrAt_eq_of_covers 18 _ (by decide +kernel) fun t hf y => ?_
  blk_simp
  rw [after0_18, i0, i1, i2, i3, i4, i5, i6, i7, i8, i9, o18]

theorem arr_19 : (dats m 0 c).arrAt 19 cfg0.N = fun _ => amax (A m c).dg := by
  refine (dats m 0 c).arrAt_eq_of_covers 19 _ (by decide +kernel) fun t hf y => ?_
  blk_simp
  rw [after0_19, i0, i1, i2, i3, i4, i5, i6, i7, i8, i9, o19]

theorem arr_20 : (dats m 0 c).arrAt 20 cfg0.N = (A m c).xc := by
  refine (dats m 0 c).arrAt_eq_of_covers 20 _ (by decide +kernel) fun t hf y => ?_
  blk_simp
  rw [after0_20, i0, i1, i2, i3, i4, i5, i6, i7, i8, i9, o20]
  congr 1
  blk_ext [idx20]

theorem arr_21 : (dats m 0 c).arrAt 21 cfg0.N = fun _ => sc c4 (A m c).hx := by
  refine (dats m 0 c).arrAt_eq_of_covers 21 _ (by decide +kernel) fun t hf y => ?_
  blk_simp
  rw [after0_21, i0, i1, i2, i3, i4, i5, i6, i7, i8, i9, o21]

theorem arr_22 : (dats m 0 c).arrAt 22 cfg0.N = (A m c).w1c := by
  refine (dats m 0 c).arrAt_eq_of_covers 22 _ (by decide +kernel) fun t hf y => ?_
  blk_simp
  rw [after0_22, i0, i1, i2, i3, i4, i5, i6, i7, i8, i9, o22]
  congr 1
  blk_ext [idx22]

theorem arr_23 : (dats m 0 c).arrAt 23 cfg0.N = fun _ => sc c4 (A m c).hw1 := by
  refine (dats m 0 c).arrAt_eq_of_covers 23 _ (by decide +kernel) fun t hf y => ?_
  blk_simp
  rw [after0_23, i0, i1, i2, i3, i4, i5, i6, i7, i8, i9, o23]

theorem arr_24 : (dats m 0 c).arrAt 24 cfg0.N = (A m c).hc := by
  refine (dats m 0 c).arrAt_eq_of_covers 24 _ (by decide +kernel) fun t hf y => ?_
  blk_simp
  rw [after0_24, i0, i1, i2, i3, i4, i5, i6, i7, i8, i9, o24]
  congr 1
  blk_ext [idx24]

theorem arr_25 : (dats m 0 c).arrAt 25 cfg0.N = fun _ => sc c4 (A m c).hh := by
  refine (dats m 0 c).arrAt_eq_of_covers 25 _ (by decide +kernel) fun t hf y => ?_
  blk_simp
  rw [after0_25, i0, i1, i2, i3, i4, i5, i6, i7, i8, i9, o25]

theorem arr_26 : (dats m 0 c).arrAt 26 cfg0.N = (A m c).w2c := by
  refine (dats m 0 c).arrAt_eq_of_covers 26 _ (by decide +kernel) fun t hf y => ?_
  blk_simp
  rw [after0_26, i0, i1, i2, i3, i4, i5, i6, i7, i8, i9, o26]
  congr 1
  blk_ext [idx26]

theorem arr_27 : (dats m 0 c).arrAt 27 cfg0.N = fun _ => sc c4 (A m c).hw2 := by
  refine (dats m 0 c).arrAt_eq_of_covers 27 _ (by decide +kernel) fun t hf y => ?_
  blk_simp
  rw [after0_27, i0, i1, i2, i3, i4, i5, i6, i7, i8, i9, o27]

theorem arr_28 : (dats m 0 c).arrAt 28 cfg0.N = (A m c).dyc := by
  refine (dats m 0 c).arrAt_eq_of_covers 28 _ (by decide +kernel) fun t hf y => ?_
  blk_simp
  rw [after0_28, i0, i1, i2, i3, i4, i5, i6, i7, i8, i9, o28]
  congr 1
  blk_ext [idx28]

theorem arr_29 : (dats m 0 c).arrAt 29 cfg0.N = fun _ => sc c5 (A m c).hdy := by
  refine (dats m 0 c).arrAt_eq_of_covers 29 _ (by decide +kernel) fun t hf y => ?_
  blk_simp
  rw [after0_29, i0, i1, i2, i3, i4, i5, i6, i7, i8, i9, o29]

theorem arr_30 : (dats m 0 c).arrAt 30 cfg0.N = (A m c).dgc := by
  refine (dats m 0 c).arrAt_eq_of_covers 30 _ (by decide +kernel) fun t hf y => ?_
  blk_simp
  rw [after0_30, i0, i1, i2, i3, i4, i5, i6, i7, i8, i9, o30]
  congr 1
  blk_ext [idx30]

theorem arr_31 : (dats m 0 c).arrAt 31 cfg0.N = fun _ => sc c5 (A m c).hdg := by
  refine (dats m 0 c).arrAt_eq_of_covers 31 _ (by decide +kernel) fun t hf y => ?_
  blk_simp
  rw [after0_31, i0, i1, i2, i3, i4, i5, i6, i7, i8, i9, o31]

/-- The memory after the call. -/
def T : Valuation τ sig (Elt Ideal) := Pipeline.withArrays (cfgs 0).spec c (V0 m c) fun w => (dats m 0 c).arrAt w (cfgs 0).N

theorem t_0 : T m c main_v8_0 = (A m c).y := (Pipeline.withArrays_arr spec0 winFacts0.arr_inj c (V0 m c) (fun w => (dats m 0 c).arrAt w (cfgs 0).N) 10).trans (arr_10 m c)
theorem t_1 : T m c main_v8_1 = (A m c).dx := (Pipeline.withArrays_arr spec0 winFacts0.arr_inj c (V0 m c) (fun w => (dats m 0 c).arrAt w (cfgs 0).N) 11).trans (arr_11 m c)
theorem t_2 : T m c main_v8_2 = (A m c).dw1 := (Pipeline.withArrays_arr spec0 winFacts0.arr_inj c (V0 m c) (fun w => (dats m 0 c).arrAt w (cfgs 0).N) 12).trans (arr_12 m c)
theorem t_3 : T m c main_v8_3 = (A m c).dw2 := (Pipeline.withArrays_arr spec0 winFacts0.arr_inj c (V0 m c) (fun w => (dats m 0 c).arrAt w (cfgs 0).N) 13).trans (arr_13 m c)
theorem t_4 : T m c main_v8_4 = fun _ => amax (A m c).x := (Pipeline.withArrays_arr spec0 winFacts0.arr_inj c (V0 m c) (fun w => (dats m 0 c).arrAt w (cfgs 0).N) 14).trans (arr_14 m c)
theorem t_5 : T m c main_v8_5 = fun _ => amax (A m c).w1 := (Pipeline.withArrays_arr spec0 winFacts0.arr_inj c (V0 m c) (fun w => (dats m 0 c).arrAt w (cfgs 0).N) 15).trans (arr_15 m c)
theorem t_6 : T m c main_v8_6 = fun _ => amax (A m c).h := (Pipeline.withArrays_arr spec0 winFacts0.arr_inj c (V0 m c) (fun w => (dats m 0 c).arrAt w (cfgs 0).N) 16).trans (arr_16 m c)
theorem t_7 : T m c main_v8_7 = fun _ => amax (A m c).w2 := (Pipeline.withArrays_arr spec0 winFacts0.arr_inj c (V0 m c) (fun w => (dats m 0 c).arrAt w (cfgs 0).N) 17).trans (arr_17 m c)
theorem t_8 : T m c main_v8_8 = fun _ => amax (A m c).dy := (Pipeline.withArrays_arr spec0 winFacts0.arr_inj c (V0 m c) (fun w => (dats m 0 c).arrAt w (cfgs 0).N) 18).trans (arr_18 m c)
theorem t_9 : T m c main_v8_9 = fun _ => amax (A m c).dg := (Pipeline.withArrays_arr spec0 winFacts0.arr_inj c (V0 m c) (fun w => (dats m 0 c).arrAt w (cfgs 0).N) 19).trans (arr_19 m c)
theorem t_10 : T m c main_v8_10 = (A m c).xc := (Pipeline.withArrays_arr spec0 winFacts0.arr_inj c (V0 m c) (fun w => (dats m 0 c).arrAt w (cfgs 0).N) 20).trans (arr_20 m c)
theorem t_11 : T m c main_v8_11 = fun _ => sc c4 (A m c).hx := (Pipeline.withArrays_arr spec0 winFacts0.arr_inj c (V0 m c) (fun w => (dats m 0 c).arrAt w (cfgs 0).N) 21).trans (arr_21 m c)
theorem t_12 : T m c main_v8_12 = (A m c).w1c := (Pipeline.withArrays_arr spec0 winFacts0.arr_inj c (V0 m c) (fun w => (dats m 0 c).arrAt w (cfgs 0).N) 22).trans (arr_22 m c)
theorem t_13 : T m c main_v8_13 = fun _ => sc c4 (A m c).hw1 := (Pipeline.withArrays_arr spec0 winFacts0.arr_inj c (V0 m c) (fun w => (dats m 0 c).arrAt w (cfgs 0).N) 23).trans (arr_23 m c)
theorem t_14 : T m c main_v8_14 = (A m c).hc := (Pipeline.withArrays_arr spec0 winFacts0.arr_inj c (V0 m c) (fun w => (dats m 0 c).arrAt w (cfgs 0).N) 24).trans (arr_24 m c)
theorem t_15 : T m c main_v8_15 = fun _ => sc c4 (A m c).hh := (Pipeline.withArrays_arr spec0 winFacts0.arr_inj c (V0 m c) (fun w => (dats m 0 c).arrAt w (cfgs 0).N) 25).trans (arr_25 m c)
theorem t_16 : T m c main_v8_16 = (A m c).w2c := (Pipeline.withArrays_arr spec0 winFacts0.arr_inj c (V0 m c) (fun w => (dats m 0 c).arrAt w (cfgs 0).N) 26).trans (arr_26 m c)
theorem t_17 : T m c main_v8_17 = fun _ => sc c4 (A m c).hw2 := (Pipeline.withArrays_arr spec0 winFacts0.arr_inj c (V0 m c) (fun w => (dats m 0 c).arrAt w (cfgs 0).N) 27).trans (arr_27 m c)
theorem t_18 : T m c main_v8_18 = (A m c).dyc := (Pipeline.withArrays_arr spec0 winFacts0.arr_inj c (V0 m c) (fun w => (dats m 0 c).arrAt w (cfgs 0).N) 28).trans (arr_28 m c)
theorem t_19 : T m c main_v8_19 = fun _ => sc c5 (A m c).hdy := (Pipeline.withArrays_arr spec0 winFacts0.arr_inj c (V0 m c) (fun w => (dats m 0 c).arrAt w (cfgs 0).N) 29).trans (arr_29 m c)
theorem t_20 : T m c main_v8_20 = (A m c).dgc := (Pipeline.withArrays_arr spec0 winFacts0.arr_inj c (V0 m c) (fun w => (dats m 0 c).arrAt w (cfgs 0).N) 30).trans (arr_30 m c)
theorem t_21 : T m c main_v8_21 = fun _ => sc c5 (A m c).hdg := (Pipeline.withArrays_arr spec0 winFacts0.arr_inj c (V0 m c) (fun w => (dats m 0 c).arrAt w (cfgs 0).N) 31).trans (arr_31 m c)
theorem t_arg4 : T m c main_arg4 = m (c, main_arg4) := (Pipeline.withArrays_of_ne spec0 c (V0 m c) _ main_arg4 (by exact (by decide : ∀ w, Pipeline.arrRef spec0 w ≠ main_arg4))).trans (V_main_arg4 m c)
theorem t_arg5 : T m c main_arg5 = m (c, main_arg5) := (Pipeline.withArrays_of_ne spec0 c (V0 m c) _ main_arg5 (by exact (by decide : ∀ w, Pipeline.arrRef spec0 w ≠ main_arg5))).trans (V_main_arg5 m c)
theorem t_arg6 : T m c main_arg6 = m (c, main_arg6) := (Pipeline.withArrays_of_ne spec0 c (V0 m c) _ main_arg6 (by exact (by decide : ∀ w, Pipeline.arrRef spec0 w ≠ main_arg6))).trans (V_main_arg6 m c)
theorem t_arg7 : T m c main_arg7 = m (c, main_arg7) := (Pipeline.withArrays_of_ne spec0 c (V0 m c) _ main_arg7 (by exact (by decide : ∀ w, Pipeline.arrRef spec0 w ≠ main_arg7))).trans (V_main_arg7 m c)
theorem t_arg8 : T m c main_arg8 = m (c, main_arg8) := (Pipeline.withArrays_of_ne spec0 c (V0 m c) _ main_arg8 (by exact (by decide : ∀ w, Pipeline.arrRef spec0 w ≠ main_arg8))).trans (V_main_arg8 m c)
theorem t_arg9 : T m c main_arg9 = m (c, main_arg9) := (Pipeline.withArrays_of_ne spec0 c (V0 m c) _ main_arg9 (by exact (by decide : ∀ w, Pipeline.arrRef spec0 w ≠ main_arg9))).trans (V_main_arg9 m c)

/-! ## The results -/

/-- A buffer at the end. -/
abbrev fin (b : Ref sig .tc) : Buf (Elt Ideal) ((c : Thread nD τ).loc b) := StableHlo.after hostOps1 (T m c) (Proc.devRef .tc b)

theorem f_main_v9 : fin m c main_v9 = batch ((A m c).y) := by
  after_reads_simp
  funext j
  exact congrArg (fun v => batch v j) (t_0 m c)

theorem f_main_v10 : fin m c main_v10 = batch ((A m c).dx) := by
  after_reads_simp
  funext j
  exact congrArg (fun v => batch v j) (t_1 m c)

theorem f_main_v13 : fin m c main_v13 = roll (m (c, main_arg4)) (fun _ => amax (A m c).x) := by
  after_reads_simp
  exact congrArg₂ roll (t_arg4 m c) (t_4 m c)

theorem f_main_v16 : fin m c main_v16 = roll (m (c, main_arg5)) (fun _ => amax (A m c).w1) := by
  after_reads_simp
  exact congrArg₂ roll (t_arg5 m c) (t_5 m c)

theorem f_main_v19 : fin m c main_v19 = roll (m (c, main_arg6)) (fun _ => amax (A m c).h) := by
  after_reads_simp
  exact congrArg₂ roll (t_arg6 m c) (t_6 m c)

theorem f_main_v22 : fin m c main_v22 = roll (m (c, main_arg7)) (fun _ => amax (A m c).w2) := by
  after_reads_simp
  exact congrArg₂ roll (t_arg7 m c) (t_7 m c)

theorem f_main_v25 : fin m c main_v25 = roll (m (c, main_arg8)) (fun _ => amax (A m c).dy) := by
  after_reads_simp
  exact congrArg₂ roll (t_arg8 m c) (t_8 m c)

theorem f_main_v28 : fin m c main_v28 = roll (m (c, main_arg9)) (fun _ => amax (A m c).dg) := by
  after_reads_simp
  exact congrArg₂ roll (t_arg9 m c) (t_9 m c)

theorem f_main_v29 : fin m c main_v29 = batch ((A m c).xc) := by
  after_reads_simp
  funext j
  exact congrArg (fun v => batch v j) (t_10 m c)

theorem f_main_v30 : fin m c main_v30 = num (fun _ => sc c4 (A m c).hx) := by
  after_reads_simp
  funext j
  exact congrArg (fun v => num v j) (t_11 m c)

theorem f_main_v31 : fin m c main_v31 = num (fun _ => sc c4 (A m c).hw1) := by
  after_reads_simp
  funext j
  exact congrArg (fun v => num v j) (t_13 m c)

theorem f_main_v32 : fin m c main_v32 = batchHid ((A m c).hc) := by
  after_reads_simp
  funext j
  exact congrArg (fun v => batchHid v j) (t_14 m c)

theorem f_main_v33 : fin m c main_v33 = num (fun _ => sc c4 (A m c).hh) := by
  after_reads_simp
  funext j
  exact congrArg (fun v => num v j) (t_15 m c)

theorem f_main_v34 : fin m c main_v34 = num (fun _ => sc c4 (A m c).hw2) := by
  after_reads_simp
  funext j
  exact congrArg (fun v => num v j) (t_17 m c)

theorem f_main_v35 : fin m c main_v35 = batch ((A m c).dyc) := by
  after_reads_simp
  funext j
  exact congrArg (fun v => batch v j) (t_18 m c)

theorem f_main_v36 : fin m c main_v36 = num (fun _ => sc c5 (A m c).hdy) := by
  after_reads_simp
  funext j
  exact congrArg (fun v => num v j) (t_19 m c)

theorem f_main_v37 : fin m c main_v37 = batchHid ((A m c).dgc) := by
  after_reads_simp
  funext j
  exact congrArg (fun v => batchHid v j) (t_20 m c)

theorem f_main_v38 : fin m c main_v38 = num (fun _ => sc c5 (A m c).hdg) := by
  after_reads_simp
  funext j
  exact congrArg (fun v => num v j) (t_21 m c)

/-- The run, every result named. -/
theorem results : θ_run defs (onTc (τ := τ) (main (F := Ideal))) ⟨m, fun _ => 0, ρ⟩ (fun r => ∀ c : Dev nD,
      r.2.mem ((c.tc : Thread nD τ).loc main_v9) = batch ((A m c).y)
      ∧ r.2.mem ((c.tc : Thread nD τ).loc main_v10) = batch ((A m c).dx)
      ∧ r.2.mem ((c.tc : Thread nD τ).loc main_v8_2) = (A m c).dw1
      ∧ r.2.mem ((c.tc : Thread nD τ).loc main_v8_3) = (A m c).dw2
      ∧ r.2.mem ((c.tc : Thread nD τ).loc main_v13) = roll (m (c, main_arg4)) (fun _ => amax (A m c).x)
      ∧ r.2.mem ((c.tc : Thread nD τ).loc main_v16) = roll (m (c, main_arg5)) (fun _ => amax (A m c).w1)
      ∧ r.2.mem ((c.tc : Thread nD τ).loc main_v19) = roll (m (c, main_arg6)) (fun _ => amax (A m c).h)
      ∧ r.2.mem ((c.tc : Thread nD τ).loc main_v22) = roll (m (c, main_arg7)) (fun _ => amax (A m c).w2)
      ∧ r.2.mem ((c.tc : Thread nD τ).loc main_v25) = roll (m (c, main_arg8)) (fun _ => amax (A m c).dy)
      ∧ r.2.mem ((c.tc : Thread nD τ).loc main_v28) = roll (m (c, main_arg9)) (fun _ => amax (A m c).dg)
      ∧ r.2.mem ((c.tc : Thread nD τ).loc main_v29) = batch ((A m c).xc)
      ∧ r.2.mem ((c.tc : Thread nD τ).loc main_v30) = num (fun _ => sc c4 (A m c).hx)
      ∧ r.2.mem ((c.tc : Thread nD τ).loc main_v8_12) = (A m c).w1c
      ∧ r.2.mem ((c.tc : Thread nD τ).loc main_v31) = num (fun _ => sc c4 (A m c).hw1)
      ∧ r.2.mem ((c.tc : Thread nD τ).loc main_v32) = batchHid ((A m c).hc)
      ∧ r.2.mem ((c.tc : Thread nD τ).loc main_v33) = num (fun _ => sc c4 (A m c).hh)
      ∧ r.2.mem ((c.tc : Thread nD τ).loc main_v8_16) = (A m c).w2c
      ∧ r.2.mem ((c.tc : Thread nD τ).loc main_v34) = num (fun _ => sc c4 (A m c).hw2)
      ∧ r.2.mem ((c.tc : Thread nD τ).loc main_v35) = batch ((A m c).dyc)
      ∧ r.2.mem ((c.tc : Thread nD τ).loc main_v36) = num (fun _ => sc c5 (A m c).hdy)
      ∧ r.2.mem ((c.tc : Thread nD τ).loc main_v37) = batchHid ((A m c).dgc)
      ∧ r.2.mem ((c.tc : Thread nD τ).loc main_v38) = num (fun _ => sc c5 (A m c).hdg)) :=
  (θ_run defs _ _).mono (fun _ h c => ⟨((h c).2 main_v9 (Pipeline.mem_restRefs_of main_v9 (by decide) (by decide))).trans (f_main_v9 m c),
    ((h c).2 main_v10 (Pipeline.mem_restRefs_of main_v10 (by decide) (by decide))).trans (f_main_v10 m c),
    ((h c).1 12).trans (arr_12 m c),
    ((h c).1 13).trans (arr_13 m c),
    ((h c).2 main_v13 (Pipeline.mem_restRefs_of main_v13 (by decide) (by decide))).trans (f_main_v13 m c),
    ((h c).2 main_v16 (Pipeline.mem_restRefs_of main_v16 (by decide) (by decide))).trans (f_main_v16 m c),
    ((h c).2 main_v19 (Pipeline.mem_restRefs_of main_v19 (by decide) (by decide))).trans (f_main_v19 m c),
    ((h c).2 main_v22 (Pipeline.mem_restRefs_of main_v22 (by decide) (by decide))).trans (f_main_v22 m c),
    ((h c).2 main_v25 (Pipeline.mem_restRefs_of main_v25 (by decide) (by decide))).trans (f_main_v25 m c),
    ((h c).2 main_v28 (Pipeline.mem_restRefs_of main_v28 (by decide) (by decide))).trans (f_main_v28 m c),
    ((h c).2 main_v29 (Pipeline.mem_restRefs_of main_v29 (by decide) (by decide))).trans (f_main_v29 m c),
    ((h c).2 main_v30 (Pipeline.mem_restRefs_of main_v30 (by decide) (by decide))).trans (f_main_v30 m c),
    ((h c).1 22).trans (arr_22 m c),
    ((h c).2 main_v31 (Pipeline.mem_restRefs_of main_v31 (by decide) (by decide))).trans (f_main_v31 m c),
    ((h c).2 main_v32 (Pipeline.mem_restRefs_of main_v32 (by decide) (by decide))).trans (f_main_v32 m c),
    ((h c).2 main_v33 (Pipeline.mem_restRefs_of main_v33 (by decide) (by decide))).trans (f_main_v33 m c),
    ((h c).1 26).trans (arr_26 m c),
    ((h c).2 main_v34 (Pipeline.mem_restRefs_of main_v34 (by decide) (by decide))).trans (f_main_v34 m c),
    ((h c).2 main_v35 (Pipeline.mem_restRefs_of main_v35 (by decide) (by decide))).trans (f_main_v35 m c),
    ((h c).2 main_v36 (Pipeline.mem_restRefs_of main_v36 (by decide) (by decide))).trans (f_main_v36 m c),
    ((h c).2 main_v37 (Pipeline.mem_restRefs_of main_v37 (by decide) (by decide))).trans (f_main_v37 m c),
    ((h c).2 main_v38 (Pipeline.mem_restRefs_of main_v38 (by decide) (by decide))).trans (f_main_v38 m c)⟩) (run_main m ρ)

end Cert.ReferenceIdeal.Val

end
-- ==== Proof.Equal.lean ====
/-
  The kernel and the reference, from the same arguments, over the extended reals: each of the 22 results is the same function of them.
-/
module

public import proofs.«01_k».proof.Defs
public import proofs.«01_k».proof.Proof.Value
public import proofs.«01_k».proof.Proof.RValue

@[expose] public section

set_option maxRecDepth 16384

noncomputable section

namespace Cert.Equal

open Cert.Spec
open Idealize.ShloMosaic Idealize.ShloMosaic.TcCoe
open Idealize.SL Idealize.SL.Sem

/-- The same arguments, read by either program. -/
theorem args (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9)) :
    ReferenceIdeal.Val.A m' c = KernelIdeal.Val.A m c := by
  unfold ReferenceIdeal.Val.A KernelIdeal.Val.A
  rw [show m' ((c : Dev ReferenceIdeal.nD), ReferenceIdeal.main_arg0) = _ from h0]
  rw [show m' ((c : Dev ReferenceIdeal.nD), ReferenceIdeal.main_arg1) = _ from h1]
  rw [show m' ((c : Dev ReferenceIdeal.nD), ReferenceIdeal.main_arg2) = _ from h2]
  rw [show m' ((c : Dev ReferenceIdeal.nD), ReferenceIdeal.main_arg3) = _ from h3]
  rw [show m' ((c : Dev ReferenceIdeal.nD), ReferenceIdeal.main_arg4) = _ from h4]
  rw [show m' ((c : Dev ReferenceIdeal.nD), ReferenceIdeal.main_arg5) = _ from h5]
  rw [show m' ((c : Dev ReferenceIdeal.nD), ReferenceIdeal.main_arg6) = _ from h6]
  rw [show m' ((c : Dev ReferenceIdeal.nD), ReferenceIdeal.main_arg7) = _ from h7]
  rw [show m' ((c : Dev ReferenceIdeal.nD), ReferenceIdeal.main_arg8) = _ from h8]
  rw [show m' ((c : Dev ReferenceIdeal.nD), ReferenceIdeal.main_arg9) = _ from h9]

set_option maxHeartbeats 8000000 in
/-- Both programs run and end with equal results, their arguments unchanged. -/
theorem algebraic : Cert.algebraic_KernelIdeal_ReferenceIdeal (hKernelIdeal := KernelIdeal.Gen.facts) (hReferenceIdeal := ReferenceIdeal.Gen.facts) := by
  intro m g m' g' _ hm
  refine ⟨fun c => batch (KernelIdeal.Val.A m c).y, fun c => batch (KernelIdeal.Val.A m c).dx, fun c => (KernelIdeal.Val.A m c).dw1, fun c => (KernelIdeal.Val.A m c).dw2, fun c => roll (m (c, KernelIdeal.main_arg4)) (fun _ => amax (KernelIdeal.Val.A m c).x), fun c => roll (m (c, KernelIdeal.main_arg5)) (fun _ => amax (KernelIdeal.Val.A m c).w1), fun c => roll (m (c, KernelIdeal.main_arg6)) (fun _ => amax (KernelIdeal.Val.A m c).h), fun c => roll (m (c, KernelIdeal.main_arg7)) (fun _ => amax (KernelIdeal.Val.A m c).w2), fun c => roll (m (c, KernelIdeal.main_arg8)) (fun _ => amax (KernelIdeal.Val.A m c).dy), fun c => roll (m (c, KernelIdeal.main_arg9)) (fun _ => amax (KernelIdeal.Val.A m c).dg), fun c => batch (KernelIdeal.Val.A m c).xc, fun c => num (fun _ => sc c4 (KernelIdeal.Val.A m c).hx), fun c => (KernelIdeal.Val.A m c).w1c, fun c => num (fun _ => sc c4 (KernelIdeal.Val.A m c).hw1), fun c => batchHid (KernelIdeal.Val.A m c).hc, fun c => num (fun _ => sc c4 (KernelIdeal.Val.A m c).hh), fun c => (KernelIdeal.Val.A m c).w2c, fun c => num (fun _ => sc c4 (KernelIdeal.Val.A m c).hw2), fun c => batch (KernelIdeal.Val.A m c).dyc, fun c => num (fun _ => sc c5 (KernelIdeal.Val.A m c).hdy), fun c => batchHid (KernelIdeal.Val.A m c).dgc, fun c => num (fun _ => sc c5 (KernelIdeal.Val.A m c).hdg), ?_, ?_⟩
  · refine (θ_run KernelIdeal.defs _ _).mono ?_ (KernelIdeal.Run.run m g)
    rintro ⟨_, s⟩ ⟨h, -⟩ c
    exact ⟨(h c _ (KernelIdeal.Run.mem_uc KernelIdeal.main_v15 rfl)).trans (KernelIdeal.Val.f_main_v15 m c),
      (h c _ (KernelIdeal.Run.mem_uc KernelIdeal.main_v16 rfl)).trans (KernelIdeal.Val.f_main_v16 m c),
      (h c _ (KernelIdeal.Run.mem_uc KernelIdeal.main_v13 rfl)).trans (KernelIdeal.Val.f_main_v13 m c),
      (h c _ (KernelIdeal.Run.mem_uc KernelIdeal.main_v14 rfl)).trans (KernelIdeal.Val.f_main_v14 m c),
      (h c _ (KernelIdeal.Run.mem_uc KernelIdeal.main_v19 rfl)).trans (KernelIdeal.Val.f_main_v19 m c),
      (h c _ (KernelIdeal.Run.mem_uc KernelIdeal.main_v22 rfl)).trans (KernelIdeal.Val.f_main_v22 m c),
      (h c _ (KernelIdeal.Run.mem_uc KernelIdeal.main_v25 rfl)).trans (KernelIdeal.Val.f_main_v25 m c),
      (h c _ (KernelIdeal.Run.mem_uc KernelIdeal.main_v28 rfl)).trans (KernelIdeal.Val.f_main_v28 m c),
      (h c _ (KernelIdeal.Run.mem_uc KernelIdeal.main_v31 rfl)).trans (KernelIdeal.Val.f_main_v31 m c),
      (h c _ (KernelIdeal.Run.mem_uc KernelIdeal.main_v34 rfl)).trans (KernelIdeal.Val.f_main_v34 m c),
      (h c _ (KernelIdeal.Run.mem_uc KernelIdeal.main_v35 rfl)).trans (KernelIdeal.Val.f_main_v35 m c),
      (h c _ (KernelIdeal.Run.mem_uc KernelIdeal.main_v36 rfl)).trans (KernelIdeal.Val.f_main_v36 m c),
      (h c _ (KernelIdeal.Run.mem_uc KernelIdeal.main_v7_0 rfl)).trans (KernelIdeal.Val.f_main_v7_0 m c),
      (h c _ (KernelIdeal.Run.mem_uc KernelIdeal.main_v37 rfl)).trans (KernelIdeal.Val.f_main_v37 m c),
      (h c _ (KernelIdeal.Run.mem_uc KernelIdeal.main_v38 rfl)).trans (KernelIdeal.Val.f_main_v38 m c),
      (h c _ (KernelIdeal.Run.mem_uc KernelIdeal.main_v39 rfl)).trans (KernelIdeal.Val.f_main_v39 m c),
      (h c _ (KernelIdeal.Run.mem_uc KernelIdeal.main_v9_0 rfl)).trans (KernelIdeal.Val.f_main_v9_0 m c),
      (h c _ (KernelIdeal.Run.mem_uc KernelIdeal.main_v40 rfl)).trans (KernelIdeal.Val.f_main_v40 m c),
      (h c _ (KernelIdeal.Run.mem_uc KernelIdeal.main_v41 rfl)).trans (KernelIdeal.Val.f_main_v41 m c),
      (h c _ (KernelIdeal.Run.mem_uc KernelIdeal.main_v42 rfl)).trans (KernelIdeal.Val.f_main_v42 m c),
      (h c _ (KernelIdeal.Run.mem_uc KernelIdeal.main_v43 rfl)).trans (KernelIdeal.Val.f_main_v43 m c),
      (h c _ (KernelIdeal.Run.mem_uc KernelIdeal.main_v44 rfl)).trans (KernelIdeal.Val.f_main_v44 m c),
      (h c _ (KernelIdeal.Run.mem_uc KernelIdeal.main_arg0 rfl)).trans (KernelIdeal.Run.keep m c KernelIdeal.main_arg0 (by decide)),
      (h c _ (KernelIdeal.Run.mem_uc KernelIdeal.main_arg1 rfl)).trans (KernelIdeal.Run.keep m c KernelIdeal.main_arg1 (by decide)),
      (h c _ (KernelIdeal.Run.mem_uc KernelIdeal.main_arg2 rfl)).trans (KernelIdeal.Run.keep m c KernelIdeal.main_arg2 (by decide)),
      (h c _ (KernelIdeal.Run.mem_uc KernelIdeal.main_arg3 rfl)).trans (KernelIdeal.Run.keep m c KernelIdeal.main_arg3 (by decide)),
      (h c _ (KernelIdeal.Run.mem_uc KernelIdeal.main_arg4 rfl)).trans (KernelIdeal.Run.keep m c KernelIdeal.main_arg4 (by decide)),
      (h c _ (KernelIdeal.Run.mem_uc KernelIdeal.main_arg5 rfl)).trans (KernelIdeal.Run.keep m c KernelIdeal.main_arg5 (by decide)),
      (h c _ (KernelIdeal.Run.mem_uc KernelIdeal.main_arg6 rfl)).trans (KernelIdeal.Run.keep m c KernelIdeal.main_arg6 (by decide)),
      (h c _ (KernelIdeal.Run.mem_uc KernelIdeal.main_arg7 rfl)).trans (KernelIdeal.Run.keep m c KernelIdeal.main_arg7 (by decide)),
      (h c _ (KernelIdeal.Run.mem_uc KernelIdeal.main_arg8 rfl)).trans (KernelIdeal.Run.keep m c KernelIdeal.main_arg8 (by decide)),
      (h c _ (KernelIdeal.Run.mem_uc KernelIdeal.main_arg9 rfl)).trans (KernelIdeal.Run.keep m c KernelIdeal.main_arg9 (by decide))⟩
  · refine (θ_run ReferenceIdeal.defs _ _).mono ?_ (θ_run_and (ReferenceIdeal.Val.results m' g') (ReferenceIdeal.Ref.unchanged m' g'))
    rintro r ⟨h, hk⟩ c
    have e := args m m' c ((hm c).1) ((hm c).2.1) ((hm c).2.2.1) ((hm c).2.2.2.1) ((hm c).2.2.2.2.1) ((hm c).2.2.2.2.2.1) ((hm c).2.2.2.2.2.2.1) ((hm c).2.2.2.2.2.2.2.1) ((hm c).2.2.2.2.2.2.2.2.1) ((hm c).2.2.2.2.2.2.2.2.2)
    exact ⟨(h c).1.trans (congrArg (fun B : Args => batch B.y) e),
      (h c).2.1.trans (congrArg (fun B : Args => batch B.dx) e),
      (h c).2.2.1.trans (congrArg (fun B : Args => B.dw1) e),
      (h c).2.2.2.1.trans (congrArg (fun B : Args => B.dw2) e),
      (h c).2.2.2.2.1.trans (congrArg₂ (fun (v : Hist) (B : Args) => roll v (fun _ => amax B.x)) ((hm c).2.2.2.2.1) e),
      (h c).2.2.2.2.2.1.trans (congrArg₂ (fun (v : Hist) (B : Args) => roll v (fun _ => amax B.w1)) ((hm c).2.2.2.2.2.1) e),
      (h c).2.2.2.2.2.2.1.trans (congrArg₂ (fun (v : Hist) (B : Args) => roll v (fun _ => amax B.h)) ((hm c).2.2.2.2.2.2.1) e),
      (h c).2.2.2.2.2.2.2.1.trans (congrArg₂ (fun (v : Hist) (B : Args) => roll v (fun _ => amax B.w2)) ((hm c).2.2.2.2.2.2.2.1) e),
      (h c).2.2.2.2.2.2.2.2.1.trans (congrArg₂ (fun (v : Hist) (B : Args) => roll v (fun _ => amax B.dy)) ((hm c).2.2.2.2.2.2.2.2.1) e),
      (h c).2.2.2.2.2.2.2.2.2.1.trans (congrArg₂ (fun (v : Hist) (B : Args) => roll v (fun _ => amax B.dg)) ((hm c).2.2.2.2.2.2.2.2.2) e),
      (h c).2.2.2.2.2.2.2.2.2.2.1.trans (congrArg (fun B : Args => batch B.xc) e),
      (h c).2.2.2.2.2.2.2.2.2.2.2.1.trans (congrArg (fun B : Args => num (fun _ => sc c4 B.hx)) e),
      (h c).2.2.2.2.2.2.2.2.2.2.2.2.1.trans (congrArg (fun B : Args => B.w1c) e),
      (h c).2.2.2.2.2.2.2.2.2.2.2.2.2.1.trans (congrArg (fun B : Args => num (fun _ => sc c4 B.hw1)) e),
      (h c).2.2.2.2.2.2.2.2.2.2.2.2.2.2.1.trans (congrArg (fun B : Args => batchHid B.hc) e),
      (h c).2.2.2.2.2.2.2.2.2.2.2.2.2.2.2.1.trans (congrArg (fun B : Args => num (fun _ => sc c4 B.hh)) e),
      (h c).2.2.2.2.2.2.2.2.2.2.2.2.2.2.2.2.1.trans (congrArg (fun B : Args => B.w2c) e),
      (h c).2.2.2.2.2.2.2.2.2.2.2.2.2.2.2.2.2.1.trans (congrArg (fun B : Args => num (fun _ => sc c4 B.hw2)) e),
      (h c).2.2.2.2.2.2.2.2.2.2.2.2.2.2.2.2.2.2.1.trans (congrArg (fun B : Args => batch B.dyc) e),
      (h c).2.2.2.2.2.2.2.2.2.2.2.2.2.2.2.2.2.2.2.1.trans (congrArg (fun B : Args => num (fun _ => sc c5 B.hdy)) e),
      (h c).2.2.2.2.2.2.2.2.2.2.2.2.2.2.2.2.2.2.2.2.1.trans (congrArg (fun B : Args => batchHid B.dgc) e),
      (h c).2.2.2.2.2.2.2.2.2.2.2.2.2.2.2.2.2.2.2.2.2.trans (congrArg (fun B : Args => num (fun _ => sc c5 B.hdg)) e), hk c⟩

end Cert.Equal

end
-- ==== Proof.lean ====
/-
  The claims: each program runs, leaves its arguments unchanged and its counters at zero; idealizing changed nothing; the kernel's results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Ref
public import proofs.«01_k».proof.Proof.Keep
public import proofs.«01_k».proof.Proof.Transfer
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims of the problem. -/
theorem claim : Cert.Claim := ⟨Cert.Kernel.Gen.facts, Cert.KernelIdeal.Gen.facts, Cert.ReferenceIdeal.Gen.facts,
  Cert.Transfer.kernel,
  fun m g _ => Cert.KernelIdeal.Run.frame m g,
  fun m g _ => Cert.ReferenceIdeal.Ref.frame m g,
  trivial,
  Cert.Equal.algebraic⟩

end Cert.Proof

end
